-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_bias_finite [hPre_bias_finite : Cert.Pre_bias_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_bias_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_bias_finite [hPre_bias_finite : Cert.Pre_bias_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_bias_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_routing_finite [hPre_routing_finite : Cert.Pre_routing_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_routing_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_routing_finite [hPre_routing_finite : Cert.Pre_routing_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_routing_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_bias_finite [hKernel2Ideal : Cert.Kernel2Ideal.Facts] [hPre_bias_finite : Cert.Pre_bias_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_bias_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_bias_finite [hReference2Ideal : Cert.Reference2Ideal.Facts] [hPre_bias_finite : Cert.Pre_bias_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_bias_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Kernel5Ideal_pre_routing_finite [hKernel5Ideal : Cert.Kernel5Ideal.Facts] [hPre_routing_finite : Cert.Pre_routing_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_routing_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Reference5Ideal_pre_routing_finite [hReference5Ideal : Cert.Reference5Ideal.Facts] [hPre_routing_finite : Cert.Pre_routing_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_routing_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def preserves_Kernel_KernelIdeal : Prop :=
  IdealRules.named_const.Statement Cert.KernelIdeal.κ "q_scale" .f32 0x3E0293EE#32 (((Real.log 2)⁻¹ * (Real.sqrt 128)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_bias_finite [hKernel2Ideal : Cert.Kernel2Ideal.Facts] [hReference2Ideal : Cert.Reference2Ideal.Facts] [hPre_bias_finite : Cert.Pre_bias_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_bias_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v46_0)) (v1 : (c : Dev Cert.Kernel3Ideal.nD) → Buf (Elt Ideal) ((c.tc : Thread Cert.Kernel3Ideal.nD Cert.Kernel3Ideal.τ).loc Cert.Kernel3Ideal.main_v46_1)) (v2 : (c : Dev Cert.Kernel3Ideal.nD) → Buf (Elt Ideal) ((c.tc : Thread Cert.Kernel3Ideal.nD Cert.Kernel3Ideal.τ).loc Cert.Kernel3Ideal.main_v46_2)) (v3 : (c : Dev Cert.Kernel3Ideal.nD) → Buf (Elt Ideal) ((c.tc : Thread Cert.Kernel3Ideal.nD Cert.Kernel3Ideal.τ).loc Cert.Kernel3Ideal.main_v46_3)) (v4 : (c : Dev Cert.Kernel3Ideal.nD) → Buf (Elt Ideal) ((c.tc : Thread Cert.Kernel3Ideal.nD Cert.Kernel3Ideal.τ).loc Cert.Kernel3Ideal.main_v46_4)) (v5 : (c : Dev Cert.Kernel3Ideal.nD) → Buf (Elt Ideal) ((c.tc : Thread Cert.Kernel3Ideal.nD Cert.Kernel3Ideal.τ).loc Cert.Kernel3Ideal.main_v46_5)) (v6 : (c : Dev Cert.Kernel3Ideal.nD) → Buf (Elt Ideal) ((c.tc : Thread Cert.Kernel3Ideal.nD Cert.Kernel3Ideal.τ).loc Cert.Kernel3Ideal.main_v46_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v46_0) = v0 c
          ∧ r.2.mem ((c.tc : Thread Cert.Kernel3Ideal.nD Cert.Kernel3Ideal.τ).loc Cert.Kernel3Ideal.main_v46_1) = v1 c
          ∧ r.2.mem ((c.tc : Thread Cert.Kernel3Ideal.nD Cert.Kernel3Ideal.τ).loc Cert.Kernel3Ideal.main_v46_2) = v2 c
          ∧ r.2.mem ((c.tc : Thread Cert.Kernel3Ideal.nD Cert.Kernel3Ideal.τ).loc Cert.Kernel3Ideal.main_v46_3) = v3 c
          ∧ r.2.mem ((c.tc : Thread Cert.Kernel3Ideal.nD Cert.Kernel3Ideal.τ).loc Cert.Kernel3Ideal.main_v46_4) = v4 c
          ∧ r.2.mem ((c.tc : Thread Cert.Kernel3Ideal.nD Cert.Kernel3Ideal.τ).loc Cert.Kernel3Ideal.main_v46_5) = v5 c
          ∧ r.2.mem ((c.tc : Thread Cert.Kernel3Ideal.nD Cert.Kernel3Ideal.τ).loc Cert.Kernel3Ideal.main_v46_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v156) = v0 c
          ∧ r.2.mem ((c.tc : Thread Cert.Reference3Ideal.nD Cert.Reference3Ideal.τ).loc Cert.Reference3Ideal.main_v158) = v1 c
          ∧ r.2.mem ((c.tc : Thread Cert.Reference3Ideal.nD Cert.Reference3Ideal.τ).loc Cert.Reference3Ideal.main_v159) = v2 c
          ∧ r.2.mem ((c.tc : Thread Cert.Reference3Ideal.nD Cert.Reference3Ideal.τ).loc Cert.Reference3Ideal.main_v161) = v3 c
          ∧ r.2.mem ((c.tc : Thread Cert.Reference3Ideal.nD Cert.Reference3Ideal.τ).loc Cert.Reference3Ideal.main_v162) = v4 c
          ∧ r.2.mem ((c.tc : Thread Cert.Reference3Ideal.nD Cert.Reference3Ideal.τ).loc Cert.Reference3Ideal.main_v163) = v5 c
          ∧ r.2.mem ((c.tc : Thread Cert.Reference3Ideal.nD Cert.Reference3Ideal.τ).loc Cert.Reference3Ideal.main_v164) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "no_expert" .f32 0xF149F2CA#32 ⊥

def algebraic_Kernel5Ideal_Reference5Ideal_pre_routing_finite [hKernel5Ideal : Cert.Kernel5Ideal.Facts] [hReference5Ideal : Cert.Reference5Ideal.Facts] [hPre_routing_finite : Cert.Pre_routing_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_routing_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v23_0)) (v1 : (c : Dev Cert.Kernel5Ideal.nD) → Buf (Elt Ideal) ((c.tc : Thread Cert.Kernel5Ideal.nD Cert.Kernel5Ideal.τ).loc Cert.Kernel5Ideal.main_v23_1)) (v2 : (c : Dev Cert.Kernel5Ideal.nD) → Buf (Elt Ideal) ((c.tc : Thread Cert.Kernel5Ideal.nD Cert.Kernel5Ideal.τ).loc Cert.Kernel5Ideal.main_v23_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v23_0) = v0 c
          ∧ r.2.mem ((c.tc : Thread Cert.Kernel5Ideal.nD Cert.Kernel5Ideal.τ).loc Cert.Kernel5Ideal.main_v23_1) = v1 c
          ∧ r.2.mem ((c.tc : Thread Cert.Kernel5Ideal.nD Cert.Kernel5Ideal.τ).loc Cert.Kernel5Ideal.main_v23_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_v70) = v1 c
          ∧ r.2.mem ((c.tc : Thread Cert.Reference5Ideal.nD Cert.Reference5Ideal.τ).loc Cert.Reference5Ideal.main_v71) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_bias_finite : Cert.Pre_bias_finite.Facts) (hPre_routing_finite : Cert.Pre_routing_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_bias_finite (hKernel2Ideal := hKernel2Ideal) (hPre_bias_finite := hPre_bias_finite)
    ∧ quiescent_Reference2Ideal (hReference2Ideal := hReference2Ideal)
    ∧ quiescent_Reference2Ideal_pre_bias_finite (hReference2Ideal := hReference2Ideal) (hPre_bias_finite := hPre_bias_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_routing_finite (hKernel5Ideal := hKernel5Ideal) (hPre_routing_finite := hPre_routing_finite)
    ∧ quiescent_Reference5Ideal (hReference5Ideal := hReference5Ideal)
    ∧ quiescent_Reference5Ideal_pre_routing_finite (hReference5Ideal := hReference5Ideal) (hPre_routing_finite := hPre_routing_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_bias_finite (hKernel2Ideal := hKernel2Ideal) (hReference2Ideal := hReference2Ideal) (hPre_bias_finite := hPre_bias_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_routing_finite (hKernel5Ideal := hKernel5Ideal) (hReference5Ideal := hReference5Ideal) (hPre_routing_finite := hPre_routing_finite)
-- ==== Pre_bias_finite.lean ====
abbrev S8x8192x1024 : Shape := ⟨3, ![8, 8192, 1024]⟩
abbrev S8x8192x128 : Shape := ⟨3, ![8, 8192, 128]⟩
abbrev S8x6x1024 : Shape := ⟨3, ![8, 6, 1024]⟩
abbrev S1x32x1024x512 : Shape := ⟨4, ![1, 32, 1024, 512]⟩
abbrev S1x32x512 : Shape := ⟨3, ![1, 32, 512]⟩
abbrev S1x32x256x1024 : Shape := ⟨4, ![1, 32, 256, 1024]⟩
abbrev S1x32x1024 : Shape := ⟨3, ![1, 32, 1024]⟩
abbrev S_ : Shape := ⟨0, ![]⟩

class Facts : Prop where
  bcast_S_S1x32x1024 : S_.BroadcastsInDim S1x32x1024 (![] : Fin 0 → Fin S1x32x1024.rank)

variable [Facts]

def fn {F : FTy → Type} [FloatOps F] (main_arg0 : FVec F S8x8192x1024 .f32) (main_arg1 : FVec F S8x8192x128 .f32) (main_arg2 : FVec F S8x8192x1024 .f32) (main_arg3 : FVec F S8x6x1024 .f32) (main_arg4 : FVec F S1x32x1024x512 .f32) (main_arg5 : FVec F S1x32x512 .f32) (main_arg6 : FVec F S1x32x256x1024 .f32) (main_arg7 : FVec F S1x32x1024 .f32) : IVec S1x32x1024 1 :=
  let main_v0 : FVec F S1x32x1024 .f32 := Host.absf main_arg7
  let main_cst : FVec F S_ .f32 := constant S_ .f32 0x7F800000#32
  let main_v1 : FVec F S1x32x1024 .f32 := broadcastInDim S1x32x1024 ![] bcast_S_S1x32x1024 main_cst
  let main_v2 : IVec S1x32x1024 1 := cmpf .olt main_v0 main_v1
  main_v2
-- ==== Pre_routing_finite.lean ====
abbrev S8x8192x1024 : Shape := ⟨3, ![8, 8192, 1024]⟩
abbrev S8x8192x512 : Shape := ⟨3, ![8, 8192, 512]⟩
abbrev S8x6x1024 : Shape := ⟨3, ![8, 6, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S_ : Shape := ⟨0, ![]⟩
abbrev S8x1x1024 : Shape := ⟨3, ![8, 1, 1024]⟩
abbrev S8x1024 : Shape := ⟨2, ![8, 1024]⟩
abbrev S1x1x32 : Shape := ⟨3, ![1, 1, 32]⟩
abbrev S8x1024x1 : Shape := ⟨3, ![8, 1024, 1]⟩
abbrev S8x1024x32 : Shape := ⟨3, ![8, 1024, 32]⟩

class Facts : Prop where
  bcast_S_S1x1024 : S_.BroadcastsInDim S1x1024 (![] : Fin 0 → Fin S1x1024.rank)
  slices_S8x6x1024_S8x1x1024_0_3_0 : S8x6x1024.Slices ![0, 3, 0] S8x1x1024
  shapeCasts_S8x1x1024_S8x1024 : S8x1x1024.ShapeCasts S8x1024
  bcast_S_S8x1024 : S_.BroadcastsInDim S8x1024 (![] : Fin 0 → Fin S8x1024.rank)
  bcast_S1x1024_S8x1024_0_1 : S1x1024.BroadcastsInDim S8x1024 (![0, 1] : Fin 2 → Fin S8x1024.rank)
  slices_S8x6x1024_S8x1x1024_0_4_0 : S8x6x1024.Slices ![0, 4, 0] S8x1x1024
  bcast_S_S1x1024x32 : S_.BroadcastsInDim S1x1024x32 (![] : Fin 0 → Fin S1x1024x32.rank)
  bcast_S1x32_S1x1x32_0_2 : S1x32.BroadcastsInDim S1x1x32 (![0, 2] : Fin 2 → Fin S1x1x32.rank)
  bcast_S_S1x1x32 : S_.BroadcastsInDim S1x1x32 (![] : Fin 0 → Fin S1x1x32.rank)
  bcast_S1x1x32_S1x1024x32_0_1_2 : S1x1x32.BroadcastsInDim S1x1024x32 (![0, 1, 2] : Fin 3 → Fin S1x1024x32.rank)
  bcast_S8x1024_S8x1024x1_0_1 : S8x1024.BroadcastsInDim S8x1024x1 (![0, 1] : Fin 2 → Fin S8x1024x1.rank)
  bcast_S8x1024x1_S8x1024x32_0_1_2 : S8x1024x1.BroadcastsInDim S8x1024x32 (![0, 1, 2] : Fin 3 → Fin S8x1024x32.rank)
  bcast_S1x1024x32_S8x1024x32_0_1_2 : S1x1024x32.BroadcastsInDim S8x1024x32 (![0, 1, 2] : Fin 3 → Fin S8x1024x32.rank)

variable [Facts]

def fn_part1 {F : FTy → Type} [FloatOps F] (main_v15 : IVec S8x1024 1) (main_v18 : IVec S1x1024x32 1) (main_v19 : FVec F S1x32 .f32) : IVec S8x1024x32 1 :=
  let main_v20 : FVec F S1x1x32 .f32 := broadcastInDim S1x1x32 ![0, 2] bcast_S1x32_S1x1x32_0_2 main_v19
  let main_cst_3 : FVec F S_ .f32 := constant S_ .f32 0x7F800000#32
  let main_v21 : FVec F S1x1x32 .f32 := broadcastInDim S1x1x32 ![] bcast_S_S1x1x32 main_cst_3
  let main_v22 : IVec S1x1x32 1 := cmpf .olt main_v20 main_v21
  let main_v23 : IVec S1x1024x32 1 := broadcastInDim S1x1024x32 ![0, 1, 2] bcast_S1x1x32_S1x1024x32_0_1_2 main_v22
  let main_v24 : IVec S1x1024x32 1 := andi main_v18 main_v23
  let main_v25 : IVec S8x1024x1 1 := broadcastInDim S8x1024x1 ![0, 1] bcast_S8x1024_S8x1024x1_0_1 main_v15
  let main_v26 : IVec S8x1024x32 1 := broadcastInDim S8x1024x32 ![0, 1, 2] bcast_S8x1024x1_S8x1024x32_0_1_2 main_v25
  let main_v27 : IVec S8x1024x32 1 := broadcastInDim S8x1024x32 ![0, 1, 2] bcast_S1x1024x32_S8x1024x32_0_1_2 main_v24
  let main_v28 : IVec S8x1024x32 1 := andi main_v26 main_v27
  main_v28

def fn {F : FTy → Type} [FloatOps F] (main_arg0 : FVec F S8x8192x1024 .f32) (main_arg1 : FVec F S8x8192x512 .f32) (main_arg2 : FVec F S8x8192x512 .f32) (main_arg3 : FVec F S8x8192x512 .f32) (main_arg4 : FVec F S8x8192x1024 .f32) (main_arg5 : FVec F S8x8192x1024 .f32) (main_arg6 : FVec F S8x6x1024 .f32) (main_arg7 : FVec F S1x512x1024 .f32) (main_arg8 : FVec F S1x512x1024 .f32) (main_arg9 : FVec F S1x1024x1024 .f32) (main_arg10 : FVec F S1x1024 .f32) (main_arg11 : FVec F S1x1024x32 .f32) (main_arg12 : FVec F S1x32 .f32) : IVec S8x1024x32 1 :=
  let main_v0 : FVec F S1x1024 .f32 := Host.absf main_arg10
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S8x1x1024 .f32 := (extractStridedSlice S8x1x1024 ![0, 3, 0] · slices_S8x6x1024_S8x1x1024_0_3_0) main_arg6
  let main_v4 : FVec F S8x1024 .f32 := shapeCast S8x1024 main_v3 shapeCasts_S8x1x1024_S8x1024
  let main_v5 : FVec F S8x1024 .f32 := Host.absf main_v4
  let main_cst_0 : FVec F S_ .f32 := constant S_ .f32 0x7F800000#32
  let main_v6 : FVec F S8x1024 .f32 := broadcastInDim S8x1024 ![] bcast_S_S8x1024 main_cst_0
  let main_v7 : IVec S8x1024 1 := cmpf .olt main_v5 main_v6
  let main_v8 : IVec S8x1024 1 := broadcastInDim S8x1024 ![0, 1] bcast_S1x1024_S8x1024_0_1 main_v2
  let main_v9 : IVec S8x1024 1 := andi main_v8 main_v7
  let main_v10 : FVec F S8x1x1024 .f32 := (extractStridedSlice S8x1x1024 ![0, 4, 0] · slices_S8x6x1024_S8x1x1024_0_4_0) main_arg6
  let main_v11 : FVec F S8x1024 .f32 := shapeCast S8x1024 main_v10 shapeCasts_S8x1x1024_S8x1024
  let main_v12 : FVec F S8x1024 .f32 := Host.absf main_v11
  let main_cst_1 : FVec F S_ .f32 := constant S_ .f32 0x7F800000#32
  let main_v13 : FVec F S8x1024 .f32 := broadcastInDim S8x1024 ![] bcast_S_S8x1024 main_cst_1
  let main_v14 : IVec S8x1024 1 := cmpf .olt main_v12 main_v13
  let main_v15 : IVec S8x1024 1 := andi main_v9 main_v14
  let main_v16 : FVec F S1x1024x32 .f32 := Host.absf main_arg11
  let main_cst_2 : FVec F S_ .f32 := constant S_ .f32 0x7F800000#32
  let main_v17 : FVec F S1x1024x32 .f32 := broadcastInDim S1x1024x32 ![] bcast_S_S1x1024x32 main_cst_2
  let main_v18 : IVec S1x1024x32 1 := cmpf .olt main_v16 main_v17
  let main_v19 : FVec F S1x32 .f32 := Host.absf main_arg12
  fn_part1 (F := F) main_v15 main_v18 main_v19
-- ==== Kernel.lean ====
abbrev S8x8192x512 : Shape := ⟨3, ![8, 8192, 512]⟩
abbrev S8x8192x256 : Shape := ⟨3, ![8, 8192, 256]⟩
abbrev S1x512x256 : Shape := ⟨3, ![1, 512, 256]⟩
abbrev S1x8192x128 : Shape := ⟨3, ![1, 8192, 128]⟩
abbrev S1024x128 : Shape := ⟨2, ![1024, 128]⟩
abbrev S1024x256 : Shape := ⟨2, ![1024, 256]⟩
abbrev S1x512x128 : Shape := ⟨3, ![1, 512, 128]⟩
abbrev S512x128 : Shape := ⟨2, ![512, 128]⟩
abbrev S512x256 : Shape := ⟨2, ![512, 256]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S8x8192x512, .f32⟩
  | .hbm, ⟨1, _⟩ => ⟨S8x8192x256, .f32⟩
  | .hbm, ⟨2, _⟩ => ⟨S8x8192x256, .f32⟩
  | .hbm, ⟨3, _⟩ => ⟨S8x8192x256, .bf16⟩
  | .hbm, ⟨4, _⟩ => ⟨S8x8192x256, .bf16⟩
  | .hbm, ⟨5, _⟩ => ⟨S8x8192x512, .bf16⟩
  | .local _ .vmem, ⟨0, _⟩ => ⟨S1x512x256, .f32⟩
  | .local _ .vmem, ⟨1, _⟩ => ⟨S1x512x256, .f32⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x512x256, .bf16⟩
  | .local _ .vmem, ⟨7, _⟩ => ⟨S1x512x256, .bf16⟩
  | .local _ .vmem, ⟨8, _⟩ => ⟨S1024x128, .bf16⟩
  | .local _ .vmem, ⟨9, _⟩ => ⟨S1024x128, .f32⟩
  | .local _ .vmem, ⟨10, _⟩ => ⟨S1024x256, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![8, 2, 16, 1], ![false, false, false, false]⟩

def k0_cond2 (i : grid0.Coords) : BitVec 1 :=
  let arg3 : BitVec 32 := BitVec.ofNat 32 (i 3).val
  let c0_i32_274 : BitVec 32 := 0#32
  let v468 : BitVec 1 := Scalar.cmpi .eq arg3 c0_i32_274
  let v469 : BitVec 32 := Scalar.extui v468
  let c0_i32_275 : BitVec 32 := 0#32
  let v470 : BitVec 1 := Scalar.cmpi .ne v469 c0_i32_275
  v470

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== KernelIdeal.lean ====
variable {F : FTy → Type} [FloatOps F] [Named F]
def κ : String → Option EReal := fun
  | "q_scale" => some (((Real.log 2)⁻¹ * (Real.sqrt 128)⁻¹ : ℝ) : EReal)
  | _ => none
-- ==== ReferenceIdeal.lean ====
abbrev S8x8192x512 : Shape := ⟨3, ![8, 8192, 512]⟩
abbrev S8x8192x256 : Shape := ⟨3, ![8, 8192, 256]⟩
abbrev S8x8192x2x2x128 : Shape := ⟨5, ![8, 8192, 2, 2, 128]⟩
abbrev S8x8192x2x128 : Shape := ⟨4, ![8, 8192, 2, 128]⟩
abbrev S8x2x8192x8192x2 : Shape := ⟨5, ![8, 2, 8192, 8192, 2]⟩
abbrev S8x2x2x8192x8192 : Shape := ⟨5, ![8, 2, 2, 8192, 8192]⟩
abbrev S_ : Shape := ⟨0, ![]⟩
abbrev S8x2x2x8192 : Shape := ⟨4, ![8, 2, 2, 8192]⟩
abbrev S8x2x2x8192x1 : Shape := ⟨5, ![8, 2, 2, 8192, 1]⟩
abbrev S8x8192x2x2 : Shape := ⟨4, ![8, 8192, 2, 2]⟩
abbrev S8x8192x2x2x1 : Shape := ⟨5, ![8, 8192, 2, 2, 1]⟩
abbrev S8x2x128x2x8192 : Shape := ⟨5, ![8, 2, 128, 2, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x8192x256, .f32⟩
  | .hbm, ⟨2, _⟩ => ⟨S8x8192x256, .f32⟩
  | .hbm, ⟨3, _⟩ => ⟨S8x8192x2x2x128, .f32⟩
  | .hbm, ⟨4, _⟩ => ⟨S8x8192x2x128, .f32⟩
  | .hbm, ⟨5, _⟩ => ⟨S8x8192x2x128, .f32⟩
  | .hbm, ⟨6, _⟩ => ⟨S8x2x8192x8192x2, .f32⟩
  | .hbm, ⟨7, _⟩ => ⟨S8x2x2x8192x8192, .f32⟩
  | .hbm, ⟨8, _⟩ => ⟨S_, .f32⟩
  | .hbm, ⟨9, _⟩ => ⟨S_, .f32⟩
  | .hbm, ⟨10, _⟩ => ⟨S8x2x2x8192x8192, .f32⟩
  | .hbm, ⟨11, _⟩ => ⟨S8x2x2x8192x8192, .f32⟩
  | .hbm, ⟨12, _⟩ => ⟨S_, .f32⟩
  | .hbm, ⟨13, _⟩ => ⟨S8x2x2x8192, .f32⟩
  | .hbm, ⟨14, _⟩ => ⟨S8x2x2x8192x1, .f32⟩
  | .hbm, ⟨15, _⟩ => ⟨S8x2x2x8192x8192, .f32⟩
  | .hbm, ⟨16, _⟩ => ⟨S8x2x2x8192x8192, .f32⟩
  | .hbm, ⟨17, _⟩ => ⟨S8x2x2x8192x8192, .f32⟩
  | .hbm, ⟨18, _⟩ => ⟨S_, .f32⟩
  | .hbm, ⟨19, _⟩ => ⟨S8x2x2x8192, .f32⟩
  | .hbm, ⟨20, _⟩ => ⟨S8x8192x2x2, .f32⟩
  | .hbm, ⟨21, _⟩ => ⟨S8x8192x2x2x1, .f32⟩
  | .hbm, ⟨22, _⟩ => ⟨S8x2x128x2x8192, .f32⟩
  | .hbm, ⟨23, _⟩ => ⟨S8x8192x2x2x128, .f32⟩
  | .hbm, ⟨24, _⟩ => ⟨S8x8192x2x2x128, .f32⟩
  | .hbm, ⟨25, _⟩ => ⟨S8x8192x2x2x128, .f32⟩
  | .hbm, ⟨26, _⟩ => ⟨S8x8192x512, .f32⟩
  | .hbm, ⟨27, _⟩ => ⟨S8x8192x512, .bf16⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x8192x128 : Shape := ⟨3, ![8, 8192, 128]⟩
abbrev S8x6x1024 : Shape := ⟨3, ![8, 6, 1024]⟩
abbrev S1x32x1024x512 : Shape := ⟨4, ![1, 32, 1024, 512]⟩
abbrev S1x32x512 : Shape := ⟨3, ![1, 32, 512]⟩
abbrev S1x32x256x1024 : Shape := ⟨4, ![1, 32, 256, 1024]⟩
abbrev S1x32x1024 : Shape := ⟨3, ![1, 32, 1024]⟩
abbrev S32x1024x512 : Shape := ⟨3, ![32, 1024, 512]⟩
abbrev S32x1024x256 : Shape := ⟨3, ![32, 1024, 256]⟩
abbrev S32x512 : Shape := ⟨2, ![32, 512]⟩
abbrev S32x256 : Shape := ⟨2, ![32, 256]⟩
abbrev S32x1x256 : Shape := ⟨3, ![32, 1, 256]⟩
abbrev S32x1x512 : Shape := ⟨3, ![32, 1, 512]⟩
abbrev S32x1024 : Shape := ⟨2, ![32, 1024]⟩
abbrev S_ : Shape := ⟨0, ![]⟩
abbrev S128x1024 : Shape := ⟨2, ![128, 1024]⟩
abbrev S32x256x1024 : Shape := ⟨3, ![32, 256, 1024]⟩
abbrev S1x1024x1024 : Shape := ⟨3, ![1, 1024, 1024]⟩
abbrev S1x1024x128 : Shape := ⟨3, ![1, 1024, 128]⟩
abbrev S1x6x1024 : Shape := ⟨3, ![1, 6, 1024]⟩
abbrev S8x1024x512 : Shape := ⟨3, ![8, 1024, 512]⟩
abbrev S8x1x512 : Shape := ⟨3, ![8, 1, 512]⟩
abbrev S8x256x1024 : Shape := ⟨3, ![8, 256, 1024]⟩
abbrev S1024x1024 : Shape := ⟨2, ![1024, 1024]⟩
abbrev S1024x128 : Shape := ⟨2, ![1024, 128]⟩
abbrev S1x1024x512 : Shape := ⟨3, ![1, 1024, 512]⟩
abbrev S1024x512 : Shape := ⟨2, ![1024, 512]⟩
abbrev S1x1x512 : Shape := ⟨3, ![1, 1, 512]⟩
abbrev S1x512 : Shape := ⟨2, ![1, 512]⟩
abbrev S1024x256 : Shape := ⟨2, ![1024, 256]⟩
abbrev S1024x1 : Shape := ⟨2, ![1024, 1]⟩
abbrev S1024x2048 : Shape := ⟨2, ![1024, 2048]⟩
abbrev S2048x1024 : Shape := ⟨2, ![2048, 1024]⟩
abbrev S1x1x1024 : Shape := ⟨3, ![1, 1, 1024]⟩
abbrev S1x1024 : Shape := ⟨2, ![1, 1024]⟩

abbrev nBuf : Space → Nat
  | .hbm => 29
  | .vmem => 18
  | .smem => 0
  | _ => 0

abbrev bufTy : (tb : Table) → Fin (tcTables nBuf tb) → BufTy
  | .hbm, ⟨0, _⟩ => ⟨S8x8192x1024, .f32⟩
  | .hbm, ⟨1, _⟩ => ⟨S8x8192x128, .f32⟩
  | .hbm, ⟨2, _⟩ => ⟨S8x8192x1024, .f32⟩
  | .hbm, ⟨3, _⟩ => ⟨S8x6x1024, .f32⟩
  | .hbm, ⟨4, _⟩ => ⟨S1x32x1024x512, .f32⟩
  | .hbm, ⟨5, _⟩ => ⟨S1x32x512, .f32⟩
  | .hbm, ⟨6, _⟩ => ⟨S1x32x256x1024, .f32⟩
  | .hbm, ⟨7, _⟩ => ⟨S1x32x1024, .f32⟩
  | .hbm, ⟨8, _⟩ => ⟨S32x1024x512, .f32⟩
  | .hbm, ⟨9, _⟩ => ⟨S32x1024x256, .f32⟩
  | .hbm, ⟨10, _⟩ => ⟨S32x1024x512, .f32⟩
  | .hbm, ⟨11, _⟩ => ⟨S32x1024x256, .f32⟩
  | .hbm, ⟨12, _⟩ => ⟨S32x1024x512, .f32⟩
  | .hbm, ⟨13, _⟩ => ⟨S32x1024x512, .bf16⟩
  | .hbm, ⟨14, _⟩ => ⟨S32x512, .f32⟩
  | .hbm, ⟨15, _⟩ => ⟨S32x256, .f32⟩
  | .hbm, ⟨16, _⟩ => ⟨S32x1x256, .f32⟩
  | .hbm, ⟨17, _⟩ => ⟨S32x512, .f32⟩
  | .hbm, ⟨18, _⟩ => ⟨S32x256, .f32⟩
  | .hbm, ⟨19, _⟩ => ⟨S32x1x256, .f32⟩
  | .hbm, ⟨20, _⟩ => ⟨S32x1x512, .f32⟩
  | .hbm, ⟨21, _⟩ => ⟨S32x1024, .f32⟩
  | .hbm, ⟨22, _⟩ => ⟨S_, .i32⟩
  | .hbm, ⟨23, _⟩ => ⟨S_, .f32⟩
  | .hbm, ⟨24, _⟩ => ⟨S128x1024, .f32⟩
  | .hbm, ⟨25, _⟩ => ⟨S8x8192x1024, .bf16⟩
  | .hbm, ⟨26, _⟩ => ⟨S32x256x1024, .f32⟩
  | .hbm, ⟨27, _⟩ => ⟨S32x256x1024, .bf16⟩
  | .hbm, ⟨28, _⟩ => ⟨S8x8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x128, .f32⟩
  | .local _ .vmem, ⟨3, _⟩ => ⟨S1x1024x128, .f32⟩
  | .local _ .vmem, ⟨4, _⟩ => ⟨S1x1024x1024, .f32⟩
  | .local _ .vmem, ⟨5, _⟩ => ⟨S1x1024x1024, .f32⟩
  | .local _ .vmem, ⟨6, _⟩ => ⟨S1x6x1024, .f32⟩
  | .local _ .vmem, ⟨7, _⟩ => ⟨S1x6x1024, .f32⟩
  | .local _ .vmem, ⟨8, _⟩ => ⟨S8x1024x512, .bf16⟩
  | .local _ .vmem, ⟨9, _⟩ => ⟨S8x1024x512, .bf16⟩
  | .local _ .vmem, ⟨10, _⟩ => ⟨S8x1x512, .f32⟩
  | .local _ .vmem, ⟨11, _⟩ => ⟨S8x1x512, .f32⟩
  | .local _ .vmem, ⟨12, _⟩ => ⟨S8x256x1024, .bf16⟩
  | .local _ .vmem, ⟨13, _⟩ => ⟨S8x256x1024, .bf16⟩
  | .local _ .vmem, ⟨14, _⟩ => ⟨S128x1024, .f32⟩
  | .local _ .vmem, ⟨15, _⟩ => ⟨S1x1024x1024, .f32⟩
  | .local _ .vmem, ⟨16, _⟩ => ⟨S1x1024x1024, .f32⟩
  | .local _ .vmem, ⟨17, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32_124 : BitVec 32 := 3#32
  let v265 : BitVec 1 := Scalar.cmpi .eq arg2 c3_i32_124
  let v266 : BitVec 32 := Scalar.extui v265
  let c0_i32_125 : BitVec 32 := 0#32
  let v267 : BitVec 1 := Scalar.cmpi .ne v266 c0_i32_125
  v267

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S8x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S8x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference2Ideal.lean ====
abbrev S8x8192x1024 : Shape := ⟨3, ![8, 8192, 1024]⟩
abbrev S8x8192x128 : Shape := ⟨3, ![8, 8192, 128]⟩
abbrev S8x6x1024 : Shape := ⟨3, ![8, 6, 1024]⟩
abbrev S1x32x1024x512 : Shape := ⟨4, ![1, 32, 1024, 512]⟩
abbrev S1x32x512 : Shape := ⟨3, ![1, 32, 512]⟩
abbrev S1x32x256x1024 : Shape := ⟨4, ![1, 32, 256, 1024]⟩
abbrev S1x32x1024 : Shape := ⟨3, ![1, 32, 1024]⟩
abbrev S8x8192x32 : Shape := ⟨3, ![8, 8192, 32]⟩
abbrev S8x1x1024 : Shape := ⟨3, ![8, 1, 1024]⟩
abbrev S32x1024x512 : Shape := ⟨3, ![32, 1024, 512]⟩
abbrev S8x8192x32x512 : Shape := ⟨4, ![8, 8192, 32, 512]⟩
abbrev S32x512 : Shape := ⟨2, ![32, 512]⟩
abbrev S1x1x32x512 : Shape := ⟨4, ![1, 1, 32, 512]⟩
abbrev S8x8192x32x256 : Shape := ⟨4, ![8, 8192, 32, 256]⟩
abbrev S_ : Shape := ⟨0, ![]⟩
abbrev S8x8192x32x1 : Shape := ⟨4, ![8, 8192, 32, 1]⟩
abbrev S32x256x1024 : Shape := ⟨3, ![32, 256, 1024]⟩
abbrev S32x1024 : Shape := ⟨2, ![32, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x128, .f32⟩
  | .hbm, ⟨2, _⟩ => ⟨S8x8192x1024, .f32⟩
  | .hbm, ⟨3, _⟩ => ⟨S8x6x1024, .f32⟩
  | .hbm, ⟨4, _⟩ => ⟨S1x32x1024x512, .f32⟩
  | .hbm, ⟨5, _⟩ => ⟨S1x32x512, .f32⟩
  | .hbm, ⟨6, _⟩ => ⟨S1x32x256x1024, .f32⟩
  | .hbm, ⟨7, _⟩ => ⟨S1x32x1024, .f32⟩
  | .hbm, ⟨8, _⟩ => ⟨S8x8192x32, .f32⟩
  | .hbm, ⟨9, _⟩ => ⟨S8x1x1024, .f32⟩
  | .hbm, ⟨10, _⟩ => ⟨S32x1024x512, .f32⟩
  | .hbm, ⟨11, _⟩ => ⟨S8x8192x32x512, .f32⟩
  | .hbm, ⟨12, _⟩ => ⟨S32x512, .f32⟩
  | .hbm, ⟨13, _⟩ => ⟨S1x1x32x512, .f32⟩
  | .hbm, ⟨14, _⟩ => ⟨S8x8192x32x512, .f32⟩
  | .hbm, ⟨15, _⟩ => ⟨S8x8192x32x512, .f32⟩
  | .hbm, ⟨16, _⟩ => ⟨S8x8192x32x256, .f32⟩
  | .hbm, ⟨17, _⟩ => ⟨S_, .f32⟩
  | .hbm, ⟨18, _⟩ => ⟨S8x8192x32x256, .f32⟩
  | .hbm, ⟨19, _⟩ => ⟨S8x8192x32x256, .f32⟩
  | .hbm, ⟨20, _⟩ => ⟨S8x8192x32x256, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8x8192x32x256, .f32⟩
  | .hbm, ⟨25, _⟩ => ⟨S8x8192x32x256, .f32⟩
  | .hbm, ⟨26, _⟩ => ⟨S_, .f32⟩
  | .hbm, ⟨27, _⟩ => ⟨S8x8192x32x256, .f32⟩
  | .hbm, ⟨28, _⟩ => ⟨S8x8192x32x256, .f32⟩
  | .hbm, ⟨29, _⟩ => ⟨S_, .f32⟩
  | .hbm, ⟨30, _⟩ => ⟨S8x8192x32x256, .f32⟩
  | .hbm, ⟨31, _⟩ => ⟨S8x8192x32x256, .f32⟩
  | .hbm, ⟨32, _⟩ => ⟨S8x8192x32x256, .f32⟩
  | .hbm, ⟨33, _⟩ => ⟨S8x8192x32x256, .f32⟩
  | .hbm, ⟨34, _⟩ => ⟨S_, .f32⟩
  | .hbm, ⟨35, _⟩ => ⟨S8x8192x32x256, .f32⟩
  | .hbm, ⟨36, _⟩ => ⟨S8x8192x32x256, .f32⟩
  | .hbm, ⟨37, _⟩ => ⟨S_, .f32⟩
  | .hbm, ⟨38, _⟩ => ⟨S8x8192x32x256, .f32⟩
  | .hbm, ⟨39, _⟩ => ⟨S8x8192x32x256, .f32⟩
  | .hbm, ⟨40, _⟩ => ⟨S8x8192x32x256, .f32⟩
  | .hbm, ⟨41, _⟩ => ⟨S_, .f32⟩
  | .hbm, ⟨42, _⟩ => ⟨S8x8192x32x256, .f32⟩
  | .hbm, ⟨43, _⟩ => ⟨S8x8192x32x256, .f32⟩
  | .hbm, ⟨44, _⟩ => ⟨S8x8192x32x256, .f32⟩
  | .hbm, ⟨45, _⟩ => ⟨S8x8192x32x1, .f32⟩
  | .hbm, ⟨46, _⟩ => ⟨S8x8192x32x256, .f32⟩
  | .hbm, ⟨47, _⟩ => ⟨S8x8192x32x256, .f32⟩
  | .hbm, ⟨48, _⟩ => ⟨S32x256x1024, .f32⟩
  | .hbm, ⟨49, _⟩ => ⟨S8x8192x1024, .f32⟩
  | .hbm, ⟨50, _⟩ => ⟨S32x1024, .f32⟩
  | .hbm, ⟨51, _⟩ => ⟨S8x8192x1024, .f32⟩
  | .hbm, ⟨52, _⟩ => ⟨S8x8192x1024, .f32⟩
  | .hbm, ⟨53, _⟩ => ⟨S8x8192x1024, .f32⟩
  | .hbm, ⟨54, _⟩ => ⟨S8x8192x1024, .f32⟩
  | .hbm, ⟨55, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel3.lean ====
abbrev S8x8192x1024 : Shape := ⟨3, ![8, 8192, 1024]⟩
abbrev S8x6x1024 : Shape := ⟨3, ![8, 6, 1024]⟩
abbrev S1x1024 : Shape := ⟨2, ![1, 1024]⟩
abbrev S1x1024x4608 : Shape := ⟨3, ![1, 1024, 4608]⟩
abbrev S1x3x1536 : Shape := ⟨3, ![1, 3, 1536]⟩
abbrev S1x1536 : Shape := ⟨2, ![1, 1536]⟩
abbrev S1x128 : Shape := ⟨2, ![1, 128]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S1024 : Shape := ⟨1, ![1024]⟩
abbrev S1024x4608 : Shape := ⟨2, ![1024, 4608]⟩
abbrev S3x1536 : Shape := ⟨2, ![3, 1536]⟩
abbrev S1536 : Shape := ⟨1, ![1536]⟩
abbrev S8x8192x512 : Shape := ⟨3, ![8, 8192, 512]⟩
abbrev S8x8192x256 : Shape := ⟨3, ![8, 8192, 256]⟩
abbrev S1x1024x1024 : Shape := ⟨3, ![1, 1024, 1024]⟩
abbrev S1x8x1024 : Shape := ⟨3, ![1, 8, 1024]⟩
abbrev S1x6x1024 : Shape := ⟨3, ![1, 6, 1024]⟩
abbrev S1024x128 : Shape := ⟨2, ![1024, 128]⟩
abbrev S1x1024x512 : Shape := ⟨3, ![1, 1024, 512]⟩
abbrev S1x1024x256 : Shape := ⟨3, ![1, 1024, 256]⟩
abbrev S8x1024 : Shape := ⟨2, ![8, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S512x128 : Shape := ⟨2, ![512, 128]⟩
abbrev S16x1024 : Shape := ⟨2, ![16, 1024]⟩
abbrev S16 : Shape := ⟨1, ![16]⟩
abbrev S16x1 : Shape := ⟨2, ![16, 1]⟩
abbrev S528x1024 : Shape := ⟨2, ![528, 1024]⟩
abbrev S1024x1536 : Shape := ⟨2, ![1024, 1536]⟩
abbrev S528x1536 : Shape := ⟨2, ![528, 1536]⟩
abbrev S512x1536 : Shape := ⟨2, ![512, 1536]⟩
abbrev S512x512 : Shape := ⟨2, ![512, 512]⟩
abbrev S1x512x512 : Shape := ⟨3, ![1, 512, 512]⟩
abbrev S1024x512 : Shape := ⟨2, ![1024, 512]⟩
abbrev S1024x256 : Shape := ⟨2, ![1024, 256]⟩
abbrev S512x256 : Shape := ⟨2, ![512, 256]⟩
abbrev S1x512x128 : Shape := ⟨3, ![1, 512, 128]⟩
abbrev S1x512x256 : Shape := ⟨3, ![1, 512, 256]⟩
abbrev S1024x1024 : Shape := ⟨2, ![1024, 1024]⟩

abbrev nBuf : Space → Nat
  | .hbm => 63
  | .vmem => 32
  | .smem => 0
  | _ => 0

abbrev bufTy : (tb : Table) → Fin (tcTables nBuf tb) → BufTy
  | .hbm, ⟨0, _⟩ => ⟨S8x8192x1024, .f32⟩
  | .hbm, ⟨1, _⟩ => ⟨S8x6x1024, .f32⟩
  | .hbm, ⟨2, _⟩ => ⟨S1x1024, .f32⟩
  | .hbm, ⟨3, _⟩ => ⟨S1x1024x4608, .f32⟩
  | .hbm, ⟨4, _⟩ => ⟨S1x3x1536, .f32⟩
  | .hbm, ⟨5, _⟩ => ⟨S1x1536, .f32⟩
  | .hbm, ⟨6, _⟩ => ⟨S1x128, .f32⟩
  | .hbm, ⟨7, _⟩ => ⟨S1x128, .f32⟩
  | .hbm, ⟨8, _⟩ => ⟨S128, .f32⟩
  | .hbm, ⟨9, _⟩ => ⟨S128x64, .f32⟩
  | .hbm, ⟨10, _⟩ => ⟨S8192, .f32⟩
  | .hbm, ⟨11, _⟩ => ⟨S64, .f32⟩
  | .hbm, ⟨12, _⟩ => ⟨S1x64, .f32⟩
  | .hbm, ⟨13, _⟩ => ⟨S128x64, .f32⟩
  | .hbm, ⟨14, _⟩ => ⟨S8192, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S8192x1, .f32⟩
  | .hbm, ⟨24, _⟩ => ⟨S1x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x1, .f32⟩
  | .hbm, ⟨29, _⟩ => ⟨S1x32, .f32⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S8192x128, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S8192x32, .f32⟩
  | .hbm, ⟨43, _⟩ => ⟨S8192x32, .f32⟩
  | .hbm, ⟨44, _⟩ => ⟨S8192x128, .f32⟩
  | .hbm, ⟨45, _⟩ => ⟨S1024, .f32⟩
  | .hbm, ⟨46, _⟩ => ⟨S1024x4608, .f32⟩
  | .hbm, ⟨47, _⟩ => ⟨S1024x4608, .bf16⟩
  | .hbm, ⟨48, _⟩ => ⟨S128, .f32⟩
  | .hbm, ⟨49, _⟩ => ⟨S128, .f32⟩
  | .hbm, ⟨50, _⟩ => ⟨S3x1536, .f32⟩
  | .hbm, ⟨51, _⟩ => ⟨S1536, .f32⟩
  | .hbm, ⟨52, _⟩ => ⟨S1x1024, .f32⟩
  | .hbm, ⟨53, _⟩ => ⟨S1x128, .f32⟩
  | .hbm, ⟨54, _⟩ => ⟨S1x128, .f32⟩
  | .hbm, ⟨55, _⟩ => ⟨S1x1536, .f32⟩
  | .hbm, ⟨56, _⟩ => ⟨S8x8192x512, .bf16⟩
  | .hbm, ⟨57, _⟩ => ⟨S8x8192x512, .bf16⟩
  | .hbm, ⟨58, _⟩ => ⟨S8x8192x512, .f32⟩
  | .hbm, ⟨59, _⟩ => ⟨S8x8192x256, .bf16⟩
  | .hbm, ⟨60, _⟩ => ⟨S8x8192x256, .bf16⟩
  | .hbm, ⟨61, _⟩ => ⟨S8x8192x1024, .bf16⟩
  | .hbm, ⟨62, _⟩ => ⟨S8x8192x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x4608, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1x128, .f32⟩
  | .local _ .vmem, ⟨15, _⟩ => ⟨S1x128, .f32⟩
  | .local _ .vmem, ⟨16, _⟩ => ⟨S3x1536, .f32⟩
  | .local _ .vmem, ⟨17, _⟩ => ⟨S1x1536, .f32⟩
  | .local _ .vmem, ⟨18, _⟩ => ⟨S1x1024x512, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x1024x512, .f32⟩
  | .local _ .vmem, ⟨23, _⟩ => ⟨S1x1024x512, .f32⟩
  | .local _ .vmem, ⟨24, _⟩ => ⟨S1x1024x256, .bf16⟩
  | .local _ .vmem, ⟨25, _⟩ => ⟨S1x1024x256, .bf16⟩
  | .local _ .vmem, ⟨26, _⟩ => ⟨S1x1024x256, .bf16⟩
  | .local _ .vmem, ⟨27, _⟩ => ⟨S1x1024x256, .bf16⟩
  | .local _ .vmem, ⟨28, _⟩ => ⟨S1x1024x1024, .bf16⟩
  | .local _ .vmem, ⟨29, _⟩ => ⟨S1x1024x1024, .bf16⟩
  | .local _ .vmem, ⟨30, _⟩ => ⟨S1x1024x1024, .bf16⟩
  | .local _ .vmem, ⟨31, _⟩ => ⟨S1x1024x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46_0 : Ref sig .tc := ⟨.hbm, 56, rfl⟩
abbrev main_v46_1 : Ref sig .tc := ⟨.hbm, 57, rfl⟩
abbrev main_v46_2 : Ref sig .tc := ⟨.hbm, 58, rfl⟩
abbrev main_v46_3 : Ref sig .tc := ⟨.hbm, 59, rfl⟩
abbrev main_v46_4 : Ref sig .tc := ⟨.hbm, 60, rfl⟩
abbrev main_v46_5 : Ref sig .tc := ⟨.hbm, 61, rfl⟩
abbrev main_v46_6 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4608 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference3Ideal.lean ====
abbrev S8x8192x1024 : Shape := ⟨3, ![8, 8192, 1024]⟩
abbrev S8x6x1024 : Shape := ⟨3, ![8, 6, 1024]⟩
abbrev S1x1024 : Shape := ⟨2, ![1, 1024]⟩
abbrev S1x1024x4608 : Shape := ⟨3, ![1, 1024, 4608]⟩
abbrev S1x3x1536 : Shape := ⟨3, ![1, 3, 1536]⟩
abbrev S1x1536 : Shape := ⟨2, ![1, 1536]⟩
abbrev S1x128 : Shape := ⟨2, ![1, 128]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x1x1024 : Shape := ⟨3, ![8, 1, 1024]⟩
abbrev S1024x4608 : Shape := ⟨2, ![1024, 4608]⟩
abbrev S8x8192x4608 : Shape := ⟨3, ![8, 8192, 4608]⟩
abbrev S8x8192x1536 : Shape := ⟨3, ![8, 8192, 1536]⟩
abbrev S8x8192x512 : Shape := ⟨3, ![8, 8192, 512]⟩
abbrev S8x8192x256 : Shape := ⟨3, ![8, 8192, 256]⟩
abbrev S3x1536 : Shape := ⟨2, ![3, 1536]⟩
abbrev S1536 : Shape := ⟨1, ![1536]⟩
abbrev S8x8194x1536 : Shape := ⟨3, ![8, 8194, 1536]⟩
abbrev S1x1x1536 : Shape := ⟨3, ![1, 1, 1536]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S8x8192x4x128 : Shape := ⟨4, ![8, 8192, 4, 128]⟩
abbrev S8x8192x4 : Shape := ⟨3, ![8, 8192, 4]⟩
abbrev S8x8192x4x1 : Shape := ⟨4, ![8, 8192, 4, 1]⟩
abbrev S1x1x1x128 : Shape := ⟨4, ![1, 1, 1, 128]⟩
abbrev S8x8192x4x2x2x32 : Shape := ⟨6, ![8, 8192, 4, 2, 2, 32]⟩
abbrev S8x8192x4x2x1x32 : Shape := ⟨6, ![8, 8192, 4, 2, 1, 32]⟩
abbrev S8x8192x4x2x32 : Shape := ⟨5, ![8, 8192, 4, 2, 32]⟩
abbrev S1x8192x1x128 : Shape := ⟨4, ![1, 8192, 1, 128]⟩
abbrev S8x8192x2x128 : Shape := ⟨4, ![8, 8192, 2, 128]⟩
abbrev S8x8192x2 : Shape := ⟨3, ![8, 8192, 2]⟩
abbrev S8x8192x2x1 : Shape := ⟨4, ![8, 8192, 2, 1]⟩
abbrev S8x8192x2x2x2x32 : Shape := ⟨6, ![8, 8192, 2, 2, 2, 32]⟩
abbrev S8x8192x2x2x1x32 : Shape := ⟨6, ![8, 8192, 2, 2, 1, 32]⟩
abbrev S8x8192x2x2x32 : Shape := ⟨5, ![8, 8192, 2, 2, 32]⟩

abbrev nBuf : Space → Nat
  | .hbm => 187
  | .vmem => 0
  | .smem => 0
  | _ => 0

abbrev hbmTy0_0 (i : Nat) : BufTy := match i % 128 with
  | 0 => ⟨S8x8192x1024, .f32⟩
  | 1 => ⟨S8x6x1024, .f32⟩
  | 2 => ⟨S1x1024, .f32⟩
  | 3 => ⟨S1x1024x4608, .f32⟩
  | 4 => ⟨S1x3x1536, .f32⟩
  | 5 => ⟨S1x1536, .f32⟩
  | 6 => ⟨S1x128, .f32⟩
  | 7 => ⟨S1x128, .f32⟩
  | 8 => ⟨S1024, .f32⟩
  | 9 => ⟨S8x8192x1024, .f32⟩
  | 10 => ⟨S_, .f32⟩
  | 11 => ⟨S8x8192, .f32⟩
  | 12 => ⟨S8x8192x1, .f32⟩
  | 13 => ⟨S_, .f32⟩
  | 14 => ⟨S8x8192x1, .f32⟩
  | 15 => ⟨S8x8192x1, .f32⟩
  | 16 => ⟨S_, .f32⟩
  | 17 => ⟨S8x8192x1, .f32⟩
  | 18 => ⟨S8x8192x1, .f32⟩
  | 19 => ⟨S8x8192x1, .f32⟩
  | 20 => ⟨S8x8192x1024, .f32⟩
  | 21 => ⟨S8x8192x1024, .f32⟩
  | 22 => ⟨S1x1x1024, .f32⟩
  | 23 => ⟨S8x8192x1024, .f32⟩
  | 24 => ⟨S8x8192x1024, .f32⟩
  | 25 => ⟨S8x1x1024, .f32⟩
  | 26 => ⟨S_, .f32⟩
  | 27 => ⟨S8x1x1024, .f32⟩
  | 28 => ⟨S8x1x1024, .f32⟩
  | 29 => ⟨S8x8192x1024, .f32⟩
  | 30 => ⟨S8x8192x1024, .f32⟩
  | 31 => ⟨S8x1x1024, .f32⟩
  | 32 => ⟨S8x8192x1024, .f32⟩
  | 33 => ⟨S8x8192x1024, .f32⟩
  | 34 => ⟨S1024x4608, .f32⟩
  | 35 => ⟨S8x8192x4608, .f32⟩
  | 36 => ⟨S8x8192x1536, .f32⟩
  | 37 => ⟨S8x8192x512, .f32⟩
  | 38 => ⟨S8x8192x256, .f32⟩
  | 39 => ⟨S8x8192x256, .f32⟩
  | 40 => ⟨S8x8192x1024, .f32⟩
  | 41 => ⟨S8x8192x1024, .f32⟩
  | 42 => ⟨S3x1536, .f32⟩
  | 43 => ⟨S1536, .f32⟩
  | 44 => ⟨S_, .i32⟩
  | 45 => ⟨S_, .f32⟩
  | 46 => ⟨S8x8194x1536, .f32⟩
  | 47 => ⟨S8x8192x1536, .f32⟩
  | 48 => ⟨S1x1536, .f32⟩
  | 49 => ⟨S1536, .f32⟩
  | 50 => ⟨S1x1x1536, .f32⟩
  | 51 => ⟨S8x8192x1536, .f32⟩
  | 52 => ⟨S8x8192x1536, .f32⟩
  | 53 => ⟨S8x8192x1536, .f32⟩
  | 54 => ⟨S1x1536, .f32⟩
  | 55 => ⟨S1536, .f32⟩
  | 56 => ⟨S1x1x1536, .f32⟩
  | 57 => ⟨S8x8192x1536, .f32⟩
  | 58 => ⟨S8x8192x1536, .f32⟩
  | 59 => ⟨S8x8192x1536, .f32⟩
  | 60 => ⟨S8x8192x1536, .f32⟩
  | 61 => ⟨S1x1536, .f32⟩
  | 62 => ⟨S1536, .f32⟩
  | 63 => ⟨S1x1x1536, .f32⟩
  | 64 => ⟨S8x8192x1536, .f32⟩
  | 65 => ⟨S8x8192x1536, .f32⟩
  | 66 => ⟨S8x8192x1536, .f32⟩
  | 67 => ⟨S1x1x1536, .f32⟩
  | 68 => ⟨S8x8192x1536, .f32⟩
  | 69 => ⟨S8x8192x1536, .f32⟩
  | 70 => ⟨S8x8192x512, .f32⟩
  | 71 => ⟨S8x8192x512, .f32⟩
  | 72 => ⟨S8x8192x512, .f32⟩
  | 73 => ⟨S128, .f32⟩
  | 74 => ⟨S128x64, .f32⟩
  | 75 => ⟨S8192, .f32⟩
  | 76 => ⟨S64, .f32⟩
  | 77 => ⟨S1x64, .f32⟩
  | 78 => ⟨S128x64, .f32⟩
  | 79 => ⟨S8192, .f32⟩
  | 80 => ⟨S32, .f32⟩
  | 81 => ⟨S32, .f32⟩
  | 82 => ⟨S_, .f32⟩
  | 83 => ⟨S32, .f32⟩
  | 84 => ⟨S32, .f32⟩
  | 85 => ⟨S_, .f32⟩
  | 86 => ⟨S32, .f32⟩
  | 87 => ⟨S32, .f32⟩
  | 88 => ⟨S8192x1, .f32⟩
  | 89 => ⟨S1x32, .f32⟩
  | 90 => ⟨S8192x32, .f32⟩
  | 91 => ⟨S8192x32, .f32⟩
  | 92 => ⟨S8192x32, .f32⟩
  | 93 => ⟨S8192x1, .f32⟩
  | 94 => ⟨S1x32, .f32⟩
  | 95 => ⟨S8192x32, .f32⟩
  | 96 => ⟨S8192x32, .f32⟩
  | 97 => ⟨S8192x32, .f32⟩
  | 98 => ⟨S8192x32, .f32⟩
  | 99 => ⟨S8192x32, .f32⟩
  | 100 => ⟨S8192x32, .f32⟩
  | 101 => ⟨S8192x32, .f32⟩
  | 102 => ⟨S8192x128, .f32⟩
  | 103 => ⟨S8192x32, .f32⟩
  | 104 => ⟨S8192x32, .f32⟩
  | 105 => ⟨S8192x32, .f32⟩
  | 106 => ⟨S8192x32, .f32⟩
  | 107 => ⟨S8192x128, .f32⟩
  | 108 => ⟨S8x8192x4x128, .f32⟩
  | 109 => ⟨S128, .f32⟩
  | 110 => ⟨S8x8192x4x128, .f32⟩
  | 111 => ⟨S_, .f32⟩
  | 112 => ⟨S8x8192x4, .f32⟩
  | 113 => ⟨S8x8192x4x1, .f32⟩
  | 114 => ⟨S_, .f32⟩
  | 115 => ⟨S8x8192x4x1, .f32⟩
  | 116 => ⟨S8x8192x4x1, .f32⟩
  | 117 => ⟨S_, .f32⟩
  | 118 => ⟨S8x8192x4x1, .f32⟩
  | 119 => ⟨S8x8192x4x1, .f32⟩
  | 120 => ⟨S8x8192x4x1, .f32⟩
  | 121 => ⟨S8x8192x4x128, .f32⟩
  | 122 => ⟨S8x8192x4x128, .f32⟩
  | 123 => ⟨S1x1x1x128, .f32⟩
  | 124 => ⟨S8x8192x4x128, .f32⟩
  | 125 => ⟨S8x8192x4x128, .f32⟩
  | 126 => ⟨S8x8192x4x2x2x32, .f32⟩
  | 127 => ⟨S8x8192x4x2x1x32, .f32⟩
  | _ => ⟨S8x8192x1024, .f32⟩

abbrev hbmTy0_1 (i : Nat) : BufTy := match i % 128 with
  | 0 => ⟨S8x8192x4x2x32, .f32⟩
  | 1 => ⟨S8x8192x4x2x32, .f32⟩
  | 2 => ⟨S8x8192x4x2x1x32, .f32⟩
  | 3 => ⟨S8x8192x4x2x32, .f32⟩
  | 4 => ⟨S8x8192x4x2x1x32, .f32⟩
  | 5 => ⟨S8x8192x4x2x1x32, .f32⟩
  | 6 => ⟨S8x8192x4x2x2x32, .f32⟩
  | 7 => ⟨S8x8192x4x128, .f32⟩
  | 8 => ⟨S1x8192x1x128, .f32⟩
  | 9 => ⟨S8x8192x4x128, .f32⟩
  | 10 => ⟨S8x8192x4x128, .f32⟩
  | 11 => ⟨S1x8192x1x128, .f32⟩
  | 12 => ⟨S8x8192x4x128, .f32⟩
  | 13 => ⟨S8x8192x4x128, .f32⟩
  | 14 => ⟨S8x8192x4x128, .f32⟩
  | 15 => ⟨S8x8192x2x128, .f32⟩
  | 16 => ⟨S128, .f32⟩
  | 17 => ⟨S8x8192x2x128, .f32⟩
  | 18 => ⟨S_, .f32⟩
  | 19 => ⟨S8x8192x2, .f32⟩
  | 20 => ⟨S8x8192x2x1, .f32⟩
  | 21 => ⟨S_, .f32⟩
  | 22 => ⟨S8x8192x2x1, .f32⟩
  | 23 => ⟨S8x8192x2x1, .f32⟩
  | 24 => ⟨S_, .f32⟩
  | 25 => ⟨S8x8192x2x1, .f32⟩
  | 26 => ⟨S8x8192x2x1, .f32⟩
  | 27 => ⟨S8x8192x2x1, .f32⟩
  | 28 => ⟨S8x8192x2x128, .f32⟩
  | 29 => ⟨S8x8192x2x128, .f32⟩
  | 30 => ⟨S1x1x1x128, .f32⟩
  | 31 => ⟨S8x8192x2x128, .f32⟩
  | 32 => ⟨S8x8192x2x128, .f32⟩
  | 33 => ⟨S8x8192x2x2x2x32, .f32⟩
  | 34 => ⟨S8x8192x2x2x1x32, .f32⟩
  | 35 => ⟨S8x8192x2x2x32, .f32⟩
  | 36 => ⟨S8x8192x2x2x32, .f32⟩
  | 37 => ⟨S8x8192x2x2x1x32, .f32⟩
  | 38 => ⟨S8x8192x2x2x32, .f32⟩
  | 39 => ⟨S8x8192x2x2x1x32, .f32⟩
  | 40 => ⟨S8x8192x2x2x1x32, .f32⟩
  | 41 => ⟨S8x8192x2x2x2x32, .f32⟩
  | 42 => ⟨S8x8192x2x128, .f32⟩
  | 43 => ⟨S1x8192x1x128, .f32⟩
  | 44 => ⟨S8x8192x2x128, .f32⟩
  | 45 => ⟨S8x8192x2x128, .f32⟩
  | 46 => ⟨S1x8192x1x128, .f32⟩
  | 47 => ⟨S8x8192x2x128, .f32⟩
  | 48 => ⟨S8x8192x2x128, .f32⟩
  | 49 => ⟨S8x8192x2x128, .f32⟩
  | 50 => ⟨S8x8192x512, .bf16⟩
  | 51 => ⟨S8x8192x512, .f32⟩
  | 52 => ⟨S8x8192x512, .bf16⟩
  | 53 => ⟨S8x8192x512, .f32⟩
  | 54 => ⟨S8x8192x256, .f32⟩
  | 55 => ⟨S8x8192x256, .bf16⟩
  | 56 => ⟨S8x8192x256, .bf16⟩
  | 57 => ⟨S8x8192x1024, .bf16⟩
  | 58 => ⟨S8x8192x1024, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_call0_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_3 : Ref sig .tc := ⟨.hbm, 82, rfl⟩
abbrev main_v68 : Ref sig .tc := ⟨.hbm, 83, rfl⟩
abbrev main_v69 : Ref sig .tc := ⟨.hbm, 84, rfl⟩
abbrev main_cst_4 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_cst_5 : Ref sig .tc := ⟨.hbm, 111, rfl⟩
abbrev main_v95 : Ref sig .tc := ⟨.hbm, 112, rfl⟩
abbrev main_v96 : Ref sig .tc := ⟨.hbm, 113, rfl⟩
abbrev main_cst_6 : Ref sig .tc := ⟨.hbm, 114, rfl⟩
abbrev main_v97 : Ref sig .tc := ⟨.hbm, 115, rfl⟩
abbrev main_v98 : Ref sig .tc := ⟨.hbm, 116, rfl⟩
abbrev main_cst_7 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_cst_8 : Ref sig .tc := ⟨.hbm, 146, rfl⟩
abbrev main_v127 : Ref sig .tc := ⟨.hbm, 147, rfl⟩
abbrev main_v128 : Ref sig .tc := ⟨.hbm, 148, rfl⟩
abbrev main_cst_9 : Ref sig .tc := ⟨.hbm, 149, rfl⟩
abbrev main_v129 : Ref sig .tc := ⟨.hbm, 150, rfl⟩
abbrev main_v130 : Ref sig .tc := ⟨.hbm, 151, rfl⟩
abbrev main_cst_10 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩

abbrev nD : Nat := 1
abbrev τ : Topo := Topo.v7x

variable {F : FTy → Type} [FloatOps F]
-- ==== Kernel4.lean ====
abbrev S2x1024 : Shape := ⟨2, ![2, 1024]⟩
abbrev S8x1024 : Shape := ⟨2, ![8, 1024]⟩
abbrev S1x1024x6144 : Shape := ⟨3, ![1, 1024, 6144]⟩
abbrev S1x6144 : Shape := ⟨2, ![1, 6144]⟩
abbrev S10x1024 : Shape := ⟨2, ![10, 1024]⟩
abbrev S_ : Shape := ⟨0, ![]⟩
abbrev S16x1024 : Shape := ⟨2, ![16, 1024]⟩
abbrev S1024x6144 : Shape := ⟨2, ![1024, 6144]⟩
abbrev S6144 : Shape := ⟨1, ![6144]⟩
abbrev S16x6144 : Shape := ⟨2, ![16, 6144]⟩
abbrev S1024x1536 : Shape := ⟨2, ![1024, 1536]⟩
abbrev S1x1536 : Shape := ⟨2, ![1, 1536]⟩
abbrev S16x1536 : Shape := ⟨2, ![16, 1536]⟩

abbrev nBuf : Space → Nat
  | .hbm => 12
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S8x1024, .f32⟩
  | .hbm, ⟨2, _⟩ => ⟨S1x1024x6144, .f32⟩
  | .hbm, ⟨3, _⟩ => ⟨S1x6144, .f32⟩
  | .hbm, ⟨4, _⟩ => ⟨S10x1024, .f32⟩
  | .hbm, ⟨5, _⟩ => ⟨S_, .i32⟩
  | .hbm, ⟨6, _⟩ => ⟨S_, .f32⟩
  | .hbm, ⟨7, _⟩ => ⟨S16x1024, .f32⟩
  | .hbm, ⟨8, _⟩ => ⟨S1024x6144, .f32⟩
  | .hbm, ⟨9, _⟩ => ⟨S6144, .f32⟩
  | .hbm, ⟨10, _⟩ => ⟨S1x6144, .f32⟩
  | .hbm, ⟨11, _⟩ => ⟨S16x6144, .f32⟩
  | .local _ .vmem, ⟨0, _⟩ => ⟨S16x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S16x1536, .f32⟩
  | .local _ .vmem, ⟨6, _⟩ => ⟨S16x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S2x1024 : Shape := ⟨2, ![2, 1024]⟩
abbrev S8x1024 : Shape := ⟨2, ![8, 1024]⟩
abbrev S1x1024x6144 : Shape := ⟨3, ![1, 1024, 6144]⟩
abbrev S1x6144 : Shape := ⟨2, ![1, 6144]⟩
abbrev S_ : Shape := ⟨0, ![]⟩
abbrev S6x1024 : Shape := ⟨2, ![6, 1024]⟩
abbrev S16x1024 : Shape := ⟨2, ![16, 1024]⟩
abbrev S1024x6144 : Shape := ⟨2, ![1024, 6144]⟩
abbrev S16x6144 : Shape := ⟨2, ![16, 6144]⟩
abbrev S6144 : Shape := ⟨1, ![6144]⟩

abbrev nBuf : Space → Nat
  | .hbm => 22
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S8x1024, .f32⟩
  | .hbm, ⟨2, _⟩ => ⟨S1x1024x6144, .f32⟩
  | .hbm, ⟨3, _⟩ => ⟨S1x6144, .f32⟩
  | .hbm, ⟨4, _⟩ => ⟨S_, .f32⟩
  | .hbm, ⟨5, _⟩ => ⟨S6x1024, .f32⟩
  | .hbm, ⟨6, _⟩ => ⟨S16x1024, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S_, .f32⟩
  | .hbm, ⟨13, _⟩ => ⟨S16x1024, .f32⟩
  | .hbm, ⟨14, _⟩ => ⟨S16x1024, .f32⟩
  | .hbm, ⟨15, _⟩ => ⟨S16x1024, .f32⟩
  | .hbm, ⟨16, _⟩ => ⟨S1024x6144, .f32⟩
  | .hbm, ⟨17, _⟩ => ⟨S16x6144, .f32⟩
  | .hbm, ⟨18, _⟩ => ⟨S6144, .f32⟩
  | .hbm, ⟨19, _⟩ => ⟨S1x6144, .f32⟩
  | .hbm, ⟨20, _⟩ => ⟨S16x6144, .f32⟩
  | .hbm, ⟨21, _⟩ => ⟨S16x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel5.lean ====
abbrev S8x8192x1024 : Shape := ⟨3, ![8, 8192, 1024]⟩
abbrev S8x8192x512 : Shape := ⟨3, ![8, 8192, 512]⟩
abbrev S8x6x1024 : Shape := ⟨3, ![8, 6, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S512x1024 : Shape := ⟨2, ![512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x64 : Shape := ⟨2, ![1024, 64]⟩
abbrev S1024x128 : Shape := ⟨2, ![1024, 128]⟩
abbrev S128 : Shape := ⟨1, ![128]⟩
abbrev S1x128 : Shape := ⟨2, ![1, 128]⟩
abbrev S8x8192x128 : Shape := ⟨3, ![8, 8192, 128]⟩
abbrev S1x1024x512 : Shape := ⟨3, ![1, 1024, 512]⟩
abbrev S1x6x1024 : Shape := ⟨3, ![1, 6, 1024]⟩
abbrev S1x1024x128 : Shape := ⟨3, ![1, 1024, 128]⟩
abbrev S1x512x512 : Shape := ⟨3, ![1, 512, 512]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩

abbrev nBuf : Space → Nat
  | .hbm => 42
  | .vmem => 26
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S8x8192x512, .f32⟩
  | .hbm, ⟨4, _⟩ => ⟨S8x8192x1024, .f32⟩
  | .hbm, ⟨5, _⟩ => ⟨S8x8192x1024, .f32⟩
  | .hbm, ⟨6, _⟩ => ⟨S8x6x1024, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1x1024x32, .f32⟩
  | .hbm, ⟨12, _⟩ => ⟨S1x32, .f32⟩
  | .hbm, ⟨13, _⟩ => ⟨S8x8192x512, .bf16⟩
  | .hbm, ⟨14, _⟩ => ⟨S8x8192x512, .bf16⟩
  | .hbm, ⟨15, _⟩ => ⟨S8x8192x512, .bf16⟩
  | .hbm, ⟨16, _⟩ => ⟨S8x8192x1024, .bf16⟩
  | .hbm, ⟨17, _⟩ => ⟨S8x8192x1024, .bf16⟩
  | .hbm, ⟨18, _⟩ => ⟨S512x1024, .f32⟩
  | .hbm, ⟨19, _⟩ => ⟨S512x1024, .bf16⟩
  | .hbm, ⟨20, _⟩ => ⟨S512x1024, .f32⟩
  | .hbm, ⟨21, _⟩ => ⟨S512x1024, .bf16⟩
  | .hbm, ⟨22, _⟩ => ⟨S1024x1024, .f32⟩
  | .hbm, ⟨23, _⟩ => ⟨S1024x1024, .bf16⟩
  | .hbm, ⟨24, _⟩ => ⟨S1024, .f32⟩
  | .hbm, ⟨25, _⟩ => ⟨S1024x32, .f32⟩
  | .hbm, ⟨26, _⟩ => ⟨S32, .f32⟩
  | .hbm, ⟨27, _⟩ => ⟨S1024x32, .bf16⟩
  | .hbm, ⟨28, _⟩ => ⟨S1024x32, .f32⟩
  | .hbm, ⟨29, _⟩ => ⟨S1024x32, .f32⟩
  | .hbm, ⟨30, _⟩ => ⟨S1024x32, .bf16⟩
  | .hbm, ⟨31, _⟩ => ⟨S_, .bf16⟩
  | .hbm, ⟨32, _⟩ => ⟨S1024x64, .bf16⟩
  | .hbm, ⟨33, _⟩ => ⟨S1024x128, .bf16⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S1x128, .f32⟩
  | .hbm, ⟨38, _⟩ => ⟨S1x1024, .f32⟩
  | .hbm, ⟨39, _⟩ => ⟨S8x8192x1024, .f32⟩
  | .hbm, ⟨40, _⟩ => ⟨S8x8192x1024, .bf16⟩
  | .hbm, ⟨41, _⟩ => ⟨S8x8192x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x6x1024, .f32⟩
  | .local _ .vmem, ⟨13, _⟩ => ⟨S1x6x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x128, .bf16⟩
  | .local _ .vmem, ⟨19, _⟩ => ⟨S1x128, .f32⟩
  | .local _ .vmem, ⟨20, _⟩ => ⟨S1x1024x1024, .f32⟩
  | .local _ .vmem, ⟨21, _⟩ => ⟨S1x1024x1024, .f32⟩
  | .local _ .vmem, ⟨22, _⟩ => ⟨S1x1024x1024, .bf16⟩
  | .local _ .vmem, ⟨23, _⟩ => ⟨S1x1024x1024, .bf16⟩
  | .local _ .vmem, ⟨24, _⟩ => ⟨S1x1024x128, .f32⟩
  | .local _ .vmem, ⟨25, _⟩ => ⟨S1x1024x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_call0_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23_0 : Ref sig .tc := ⟨.hbm, 39, rfl⟩
abbrev main_v23_1 : Ref sig .tc := ⟨.hbm, 40, rfl⟩
abbrev main_v23_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Kernel5Ideal.lean ====
variable {F : FTy → Type} [FloatOps F] [Named F]
def κ : String → Option EReal := fun
  | "no_expert" => some ⊥
  | _ => none
-- ==== Reference5Ideal.lean ====
abbrev S8x8192x1024 : Shape := ⟨3, ![8, 8192, 1024]⟩
abbrev S8x8192x512 : Shape := ⟨3, ![8, 8192, 512]⟩
abbrev S8x6x1024 : Shape := ⟨3, ![8, 6, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S_ : Shape := ⟨0, ![]⟩
abbrev S512x1024 : Shape := ⟨2, ![512, 1024]⟩
abbrev S1024x1024 : Shape := ⟨2, ![1024, 1024]⟩
abbrev S8x1x1024 : Shape := ⟨3, ![8, 1, 1024]⟩
abbrev S1024 : Shape := ⟨1, ![1024]⟩
abbrev S8x8192 : Shape := ⟨2, ![8, 8192]⟩
abbrev S8x8192x1 : Shape := ⟨3, ![8, 8192, 1]⟩
abbrev S1x1x1024 : Shape := ⟨3, ![1, 1, 1024]⟩
abbrev S1024x32 : Shape := ⟨2, ![1024, 32]⟩
abbrev S8x8192x32 : Shape := ⟨3, ![8, 8192, 32]⟩
abbrev S32 : Shape := ⟨1, ![32]⟩
abbrev S1x1x32 : Shape := ⟨3, ![1, 1, 32]⟩
abbrev S8x8192x4 : Shape := ⟨3, ![8, 8192, 4]⟩
abbrev S8x8192x4x1 : Shape := ⟨4, ![8, 8192, 4, 1]⟩
abbrev S1x1x1x32 : Shape := ⟨4, ![1, 1, 1, 32]⟩
abbrev S8x8192x4x32 : Shape := ⟨4, ![8, 8192, 4, 32]⟩
abbrev S8x8192x128 : Shape := ⟨3, ![8, 8192, 128]⟩

abbrev nBuf : Space → Nat
  | .hbm => 106
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S8x8192x512, .f32⟩
  | .hbm, ⟨4, _⟩ => ⟨S8x8192x1024, .f32⟩
  | .hbm, ⟨5, _⟩ => ⟨S8x8192x1024, .f32⟩
  | .hbm, ⟨6, _⟩ => ⟨S8x6x1024, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1x1024x32, .f32⟩
  | .hbm, ⟨12, _⟩ => ⟨S1x32, .f32⟩
  | .hbm, ⟨13, _⟩ => ⟨S8x8192x512, .f32⟩
  | .hbm, ⟨14, _⟩ => ⟨S8x8192x1024, .f32⟩
  | .hbm, ⟨15, _⟩ => ⟨S8x8192x1024, .f32⟩
  | .hbm, ⟨16, _⟩ => ⟨S_, .f32⟩
  | .hbm, ⟨17, _⟩ => ⟨S8x8192x1024, .f32⟩
  | .hbm, ⟨18, _⟩ => ⟨S8x8192x1024, .f32⟩
  | .hbm, ⟨19, _⟩ => ⟨S_, .f32⟩
  | .hbm, ⟨20, _⟩ => ⟨S8x8192x1024, .f32⟩
  | .hbm, ⟨21, _⟩ => ⟨S8x8192x1024, .f32⟩
  | .hbm, ⟨22, _⟩ => ⟨S512x1024, .f32⟩
  | .hbm, ⟨23, _⟩ => ⟨S8x8192x1024, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S_, .f32⟩
  | .hbm, ⟨28, _⟩ => ⟨S8x8192x1024, .f32⟩
  | .hbm, ⟨29, _⟩ => ⟨S8x8192x1024, .f32⟩
  | .hbm, ⟨30, _⟩ => ⟨S_, .f32⟩
  | .hbm, ⟨31, _⟩ => ⟨S8x8192x1024, .f32⟩
  | .hbm, ⟨32, _⟩ => ⟨S8x8192x1024, .f32⟩
  | .hbm, ⟨33, _⟩ => ⟨S512x1024, .f32⟩
  | .hbm, ⟨34, _⟩ => ⟨S8x8192x1024, .f32⟩
  | .hbm, ⟨35, _⟩ => ⟨S8x8192x1024, .f32⟩
  | .hbm, ⟨36, _⟩ => ⟨S8x8192x1024, .f32⟩
  | .hbm, ⟨37, _⟩ => ⟨S1024x1024, .f32⟩
  | .hbm, ⟨38, _⟩ => ⟨S8x8192x1024, .f32⟩
  | .hbm, ⟨39, _⟩ => ⟨S8x1x1024, .f32⟩
  | .hbm, ⟨40, _⟩ => ⟨S8x8192x1024, .f32⟩
  | .hbm, ⟨41, _⟩ => ⟨S8x8192x1024, .f32⟩
  | .hbm, ⟨42, _⟩ => ⟨S8x8192x1024, .f32⟩
  | .hbm, ⟨43, _⟩ => ⟨S1024, .f32⟩
  | .hbm, ⟨44, _⟩ => ⟨S8x8192x1024, .f32⟩
  | .hbm, ⟨45, _⟩ => ⟨S_, .f32⟩
  | .hbm, ⟨46, _⟩ => ⟨S8x8192, .f32⟩
  | .hbm, ⟨47, _⟩ => ⟨S8x8192x1, .f32⟩
  | .hbm, ⟨48, _⟩ => ⟨S_, .f32⟩
  | .hbm, ⟨49, _⟩ => ⟨S8x8192x1, .f32⟩
  | .hbm, ⟨50, _⟩ => ⟨S8x8192x1, .f32⟩
  | .hbm, ⟨51, _⟩ => ⟨S_, .f32⟩
  | .hbm, ⟨52, _⟩ => ⟨S8x8192x1, .f32⟩
  | .hbm, ⟨53, _⟩ => ⟨S8x8192x1, .f32⟩
  | .hbm, ⟨54, _⟩ => ⟨S8x8192x1, .f32⟩
  | .hbm, ⟨55, _⟩ => ⟨S8x8192x1024, .f32⟩
  | .hbm, ⟨56, _⟩ => ⟨S8x8192x1024, .f32⟩
  | .hbm, ⟨57, _⟩ => ⟨S1x1x1024, .f32⟩
  | .hbm, ⟨58, _⟩ => ⟨S8x8192x1024, .f32⟩
  | .hbm, ⟨59, _⟩ => ⟨S8x8192x1024, .f32⟩
  | .hbm, ⟨60, _⟩ => ⟨S8x1x1024, .f32⟩
  | .hbm, ⟨61, _⟩ => ⟨S_, .f32⟩
  | .hbm, ⟨62, _⟩ => ⟨S8x1x1024, .f32⟩
  | .hbm, ⟨63, _⟩ => ⟨S8x1x1024, .f32⟩
  | .hbm, ⟨64, _⟩ => ⟨S8x8192x1024, .f32⟩
  | .hbm, ⟨65, _⟩ => ⟨S8x8192x1024, .f32⟩
  | .hbm, ⟨66, _⟩ => ⟨S8x1x1024, .f32⟩
  | .hbm, ⟨67, _⟩ => ⟨S8x8192x1024, .f32⟩
  | .hbm, ⟨68, _⟩ => ⟨S8x8192x1024, .f32⟩
  | .hbm, ⟨69, _⟩ => ⟨S1024x32, .f32⟩
  | .hbm, ⟨70, _⟩ => ⟨S8x8192x32, .f32⟩
  | .hbm, ⟨71, _⟩ => ⟨S32, .f32⟩
  | .hbm, ⟨72, _⟩ => ⟨S1x1x32, .f32⟩
  | .hbm, ⟨73, _⟩ => ⟨S8x8192x32, .f32⟩
  | .hbm, ⟨74, _⟩ => ⟨S8x8192x32, .f32⟩
  | .hbm, ⟨75, _⟩ => ⟨S8x8192x4, .f32⟩
  | .hbm, ⟨76, _⟩ => ⟨S8x8192x4, .i32⟩
  | .hbm, ⟨77, _⟩ => ⟨S_, .f32⟩
  | .hbm, ⟨78, _⟩ => ⟨S8x8192, .f32⟩
  | .hbm, ⟨79, _⟩ => ⟨S_, .f32⟩
  | .hbm, ⟨80, _⟩ => ⟨S8x8192, .f32⟩
  | .hbm, ⟨81, _⟩ => ⟨S8x8192, .f32⟩
  | .hbm, ⟨82, _⟩ => ⟨S8x8192x1, .f32⟩
  | .hbm, ⟨83, _⟩ => ⟨S8x8192x4, .f32⟩
  | .hbm, ⟨84, _⟩ => ⟨S8x8192x4, .f32⟩
  | .hbm, ⟨85, _⟩ => ⟨S8x8192x4, .f32⟩
  | .hbm, ⟨86, _⟩ => ⟨S_, .f32⟩
  | .hbm, ⟨87, _⟩ => ⟨S8x8192, .f32⟩
  | .hbm, ⟨88, _⟩ => ⟨S8x8192x1, .f32⟩
  | .hbm, ⟨89, _⟩ => ⟨S8x8192x4, .f32⟩
  | .hbm, ⟨90, _⟩ => ⟨S8x8192x4, .f32⟩
  | .hbm, ⟨91, _⟩ => ⟨S8x8192x4x1, .i32⟩
  | .hbm, ⟨92, _⟩ => ⟨S1x1x1x32, .i32⟩
  | .hbm, ⟨93, _⟩ => ⟨S8x8192x4x32, .i32⟩
  | .hbm, ⟨94, _⟩ => ⟨S8x8192x4x32, .i32⟩
  | .hbm, ⟨95, _⟩ => ⟨S8x8192x4x32, .i1⟩
  | .hbm, ⟨96, _⟩ => ⟨S8x8192x4x32, .f32⟩
  | .hbm, ⟨97, _⟩ => ⟨S8x8192x4x1, .f32⟩
  | .hbm, ⟨98, _⟩ => ⟨S8x8192x4x32, .f32⟩
  | .hbm, ⟨99, _⟩ => ⟨S8x8192x4x32, .f32⟩
  | .hbm, ⟨100, _⟩ => ⟨S_, .f32⟩
  | .hbm, ⟨101, _⟩ => ⟨S8x8192x32, .f32⟩
  | .hbm, ⟨102, _⟩ => ⟨S8x8192x1024, .bf16⟩
  | .hbm, ⟨103, _⟩ => ⟨S_, .i32⟩
  | .hbm, ⟨104, _⟩ => ⟨S_, .f32⟩
  | .hbm, ⟨105, _⟩ => ⟨S8x8192x128, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_values : Ref sig .tc := ⟨.hbm, 75, rfl⟩
abbrev main_indices : Ref sig .tc := ⟨.hbm, 76, rfl⟩
abbrev main_cst_7 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_9 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call0_v0 : Ref sig .tc := ⟨.hbm, 91, rfl⟩
abbrev main_call0_v1 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_10 : Ref sig .tc := ⟨.hbm, 100, rfl⟩
abbrev main_v69 : Ref sig .tc := ⟨.hbm, 101, rfl⟩
abbrev main_v70 : Ref sig .tc := ⟨.hbm, 102, rfl⟩
abbrev main_c : Ref sig .tc := ⟨.hbm, 103, rfl⟩
abbrev main_call1_v0 : Ref sig .tc := ⟨.hbm, 104, rfl⟩
abbrev main_v71 : Ref sig .tc := ⟨.hbm, 105, rfl⟩

abbrev nD : Nat := 1
abbrev τ : Topo := Topo.v7x

variable {F : FTy → Type} [FloatOps F]
-- ==== Proof.AttentionBlock.lean ====
/-
  ONE BLOCK OF THE ATTENTION KERNEL, as a recurrence.

  A block holds 512 queries of one group of two heads (`[1, 512, 256]`, the second head in the last 128 columns) and all
  8192 keys and values of the group. `rows` stacks the two heads' queries into 1024 rows; `loaded x n` is the `n`th run
  of 512 keys or values; one step (`newMax`, `newAcc`) takes such a run into the running maximum and the running sum,
  whose last 128 columns sum the weights alone. The kernel's body spells sixteen steps out: each value it reads back is
  `maxAfter n` or `accAfter n` (`max_n`, `acc_n`), so what it stores is the quotient of the two halves of `accAfter 16`.
-/
module

public import proofs.«01_k».proof.Proof.Gen.KernelIdeal.Frame
public import Idealize.ShloMosaic.Lib.Pipeline.Value
public import Idealize.ShloMosaic.Lib.Pipeline.ValueKit.Tiles
public import Idealize.ShloMosaic.Lib.Pointwise

@[expose] public section

set_option maxRecDepth 16384

noncomputable section

namespace Cert.KernelIdeal.Block

open Cert.KernelIdeal Cert.KernelIdeal.Gen Cert.KernelIdeal.Gen.kernelRun0_A.sl
open Idealize.ShloMosaic Idealize.ShloMosaic.TcCoe Idealize.SL.Sem

variable {F : FTy → Type} [FloatOps F] [Named F]

/-- The queries of the block, scaled, the first head's 512 rows above the second's. -/
def rows (x : FVec F S1x512x256 .f32) : FVec F S1024x128 .bf16 := fun j =>
  FloatOps.truncf .bf16 bitsLt_bf16_f32 (FloatOps.mulf
    (x (ix3 (0 : Fin 1) (⟨(j 0).val % 512, Nat.mod_lt _ (by norm_num)⟩ : Fin 512)
      (⟨(128 * ((j 0).val / 512) + (j 1).val) % 256, Nat.mod_lt _ (by norm_num)⟩ : Fin 256)))
    (Named.named κ "q_scale" 0x3E0293EE#32))

/-- The `n`th run of 512 keys (or values). -/
def loaded (x : Vec F S1x8192x128 .bf16) (n : ℕ) : Vec F S1x512x128 .bf16 := fun j =>
  x (ix3 (0 : Fin 1) (⟨(512 * n + (j 1).val) % 8192, Nat.mod_lt _ (by norm_num)⟩ : Fin 8192) (j 2))

/-- The scores of the rows against a run of keys. -/
def scores (q : FVec F S1024x128 .bf16) (k : FVec F S1x512x128 .bf16) : FVec F S1024x512 .f32 :=
  matmul dot_S1024x128_S512x128_S1024x512_1_1_0_0_n_n none q (shapeCast S512x128 k shapeCasts_S1x512x128_S512x128)
    (constant S1024x512 .f32 0x00000000#32)

/-- The running maximum after a run of keys, one copy of it in each of 128 columns. -/
def newMax (q : FVec F S1024x128 .bf16) (k : FVec F S1x512x128 .bf16) (m : FVec F S1024x128 .f32) : FVec F S1024x128 .f32 :=
  maximumf m (broadcastTo S1024x128 (shapeCast S1024x1
    (multiReduction .maximumf [1] S1024 (scores q k) 0xFF800000#32 reduces_S1024x512_S1024 (.inl rfl) rfl)
    shapeCasts_S1024_S1024x1) broadcasts_S1024x1_S1024x128)

/-- The running sum after a run of keys and values: the old sum rescaled, plus the run's weights times its values and,
    in the last 128 columns, times one. -/
def newAcc (q : FVec F S1024x128 .bf16) (k v : FVec F S1x512x128 .bf16) (m : FVec F S1024x128 .f32)
    (a : FVec F S1024x256 .f32) : FVec F S1024x256 .f32 :=
  addf
    (mulf (concatenate S1024x256 1 [⟨S1024x128, exp2 (subf m (newMax q k m))⟩, ⟨S1024x128, exp2 (subf m (newMax q k m))⟩]
      concatenates_S1024x128_S1024x128_S1024x256_d1) a)
    (matmul dot_S1024x512_S512x256_S1024x256_1_0_0_1_n_n none
      (exp2 (truncf .bf16 (subf (scores q k) (concatenate S1024x512 1
        [⟨S1024x128, newMax q k m⟩, ⟨S1024x128, newMax q k m⟩, ⟨S1024x128, newMax q k m⟩, ⟨S1024x128, newMax q k m⟩]
        concatenates_S1024x128_S1024x128_S1024x128_S1024x128_S1024x512_d1)) bitsLt_bf16_f32))
      (concatenate S512x256 1 [⟨S512x128, shapeCast S512x128 v shapeCasts_S1x512x128_S512x128⟩,
        ⟨S512x128, broadcast S512x128 (Scalar.ofBits .bf16 0x3F80#16)⟩] concatenates_S512x128_S512x128_S512x256_d1)
      (constant S1024x256 .f32 0x00000000#32))

/-- The running maximum after `n` runs of keys. -/
def maxAfter (q : FVec F S1024x128 .bf16) (k : Vec F S1x8192x128 .bf16) : ℕ → FVec F S1024x128 .f32
  | 0 => broadcast S1024x128 (Scalar.ofBits .f32 0xFF800000#32)
  | n + 1 => newMax q (loaded k n) (maxAfter q k n)

/-- The running sum after `n` runs of keys and values. -/
def accAfter (q : FVec F S1024x128 .bf16) (k v : Vec F S1x8192x128 .bf16) : ℕ → FVec F S1024x256 .f32
  | 0 => broadcast S1024x256 (Scalar.ofBits .f32 0x00000000#32)
  | n + 1 => newAcc q (loaded k n) (loaded v n) (maxAfter q k n) (accAfter q k v n)

/-- A load of 512 rows from row `512 n` is the `n`th run. -/
theorem load_eq (a : Memref sig .tc .vmem S1x8192x128 .bf16) (ha : a.IsWhole) (x : Vec F S1x8192x128 .bf16) (n : ℕ)
    {o : ℕ} {inb : ∀ b, (![0, o, 0] : Fin 3 → ℕ) b + S1x512x128.size b ≤ S1x8192x128.size b} (hn : n < 16) (ho : o = 512 * n) :
    View.readAt (Elt F) a.view (Rect.unit (s := S1x8192x128) ![0, o, 0] S1x512x128.size inb).toLoadRect (ha.unread x) = loaded x n := by
  subst ho
  rw [View.readAt_eq_ld, ha.read_unread]
  funext j
  refine View.ld_unit_apply_of x _ _ _ j _ fun b => ?_
  have h1 : (j 1).val < 512 := (j 1).isLt
  match b with
  | ⟨0, _⟩ => have h0 : (j 0).val < 1 := (j 0).isLt
              show 0 = 0 + (j 0).val
              omega
  | ⟨1, _⟩ => show (512 * n + (j 1).val) % 8192 = 512 * n + (j 1).val
              omega
  | ⟨2, _⟩ => show (j 2).val = 0 + (j 2).val
              omega

variable (c : Dev nD) (arg4 : Memref sig .tc .vmem S1x512x256 .f32) (harg4 : arg4.IsWhole)
  (arg5 : Memref sig .tc .vmem S1x8192x128 .bf16) (harg5 : arg5.IsWhole)
  (arg6 : Memref sig .tc .vmem S1x8192x128 .bf16) (harg6 : arg6.IsWhole)
  (arg8 : Memref sig .tc .vmem S1024x128 .bf16) (arg9 : Memref sig .tc .vmem S1024x128 .f32)
  (arg10 : Memref sig .tc .vmem S1024x256 .f32)
  (x0 : Vec F S1x512x256 .f32) (x1 x2 : Vec F S1x8192x128 .bf16)

/-- The two stores of 512 rows fill the scratch of 1024 rows. -/
theorem rows_cover (w w' : Vec F S512x128 .bf16) (h h') (y : S1024x128.Idx) :
    ∃ p ∈ [(⟨Rect.unit (s := S1024x128) ![512, 0] S512x128.size h, w⟩ : View.Piece (Elt F) S1024x128 .bf16),
      ⟨Rect.unit (s := S1024x128) ![0, 0] S512x128.size h', w'⟩], y ∈ p.1.set := by
  have h0 : (y 0).val < 1024 := (y 0).isLt
  have h1 : (y 1).val < 128 := (y 1).isLt
  rcases Nat.lt_or_ge (y 0).val 512 with hlt | hge
  · refine ⟨_, List.mem_cons_of_mem _ (List.mem_singleton_self _), ?_⟩
    rw [Rect.mem_set_unit]
    intro a
    match a with
    | ⟨0, _⟩ => exact ⟨Nat.zero_le _, by show (y 0).val < 0 + 512; omega⟩
    | ⟨1, _⟩ => exact ⟨Nat.zero_le _, by show (y 1).val < 0 + 128; omega⟩
  · refine ⟨_, List.mem_cons_self, ?_⟩
    rw [Rect.mem_set_unit]
    intro a
    match a with
    | ⟨0, _⟩ => exact ⟨hge, by show (y 0).val < 512 + 512; omega⟩
    | ⟨1, _⟩ => exact ⟨Nat.zero_le _, by show (y 1).val < 0 + 128; omega⟩

theorem zero_offset : (![0, 0] : Fin 2 → ℕ) = fun _ => 0 := funext fun a => by fin_cases a <;> rfl

/-- The scratch of queries, read back whole. -/
theorem rows_eq : v3 c arg4 harg4 arg8 x0 = rows x0 := by
  unfold v3 HS0_2
  rw [View.readCov_eq_canon_ld _ _ _ (rows_cover _ _ _ _), View.ld_unit_zero (S := S1024x128) zero_offset]
  funext y
  refine View.canon_apply_of_pieces (rows x0) _ ?_ y (rows_cover _ _ _ _ y)
  intro p hp
  rcases List.mem_cons.mp hp with rfl | hp
  · refine fun (i : S512x128.Idx) => ?_
    dsimp only
    simp only [k0_pay7, View.readAt_eq_ld, harg4.read_unread, shapeCast_self]
    idx_vars i
    pointwise [rows]
    refine congrArg _ (congrArg (FloatOps.mulf · _) (congrArg x0 (congrArg₂ (ix3 0) (Fin.ext ?_) (Fin.ext ?_))))
    · show i0.val = (512 + 1 * i0.val) % 512
      omega
    · show 128 + i1.val = (128 * ((512 + 1 * i0.val) / 512) + (0 + 1 * i1.val)) % 256
      omega
  · obtain rfl := List.mem_singleton.mp hp
    refine fun (i : S512x128.Idx) => ?_
    dsimp only
    simp only [k0_pay6, View.readAt_eq_ld, harg4.read_unread, shapeCast_self]
    idx_vars i
    pointwise [rows]
    refine congrArg _ (congrArg (FloatOps.mulf · _) (congrArg x0 (congrArg₂ (ix3 0) (Fin.ext ?_) (Fin.ext ?_))))
    · show i0.val = (0 + 1 * i0.val) % 512
      omega
    · show i1.val = (128 * ((0 + 1 * i0.val) / 512) + (0 + 1 * i1.val)) % 256
      omega

theorem max_0 : v11 c arg9 = maxAfter (rows x0) x1 0 := by
  unfold v11 HS1_1
  rw [View.readCov_cons_toLoadRect]
  simp only [k0_pay8, shapeCast_self]
  rfl

theorem acc_0 : v23 c arg10 = accAfter (rows x0) x1 x2 0 := by
  unfold v23 HS2_1
  rw [View.readCov_cons_toLoadRect]
  simp only [k0_pay9, shapeCast_self]
  rfl

theorem max_1 : v40 c arg4 harg4 arg5 harg5 arg8 arg9 x0 x1 = maxAfter (rows x0) x1 1 := by
  unfold v40 HS1_2
  rw [View.readCov_cons_toLoadRect]
  simp only [r, rows_eq c arg4 harg4 arg8 x0, load_eq arg5 harg5 x1 0 (o := 0) (by decide) rfl, max_0 c arg9 x0 x1]
  simp only [k0_pay10, k0_pay11, k0_pay13, shapeCast_self]
  rfl

theorem acc_1 : v52 c arg4 harg4 arg5 harg5 arg6 harg6 arg8 arg9 arg10 x0 x1 x2 = accAfter (rows x0) x1 x2 1 := by
  unfold v52 HS2_2
  rw [View.readCov_cons_toLoadRect]
  simp only [rows_eq c arg4 harg4 arg8 x0, load_eq arg5 harg5 x1 0 (o := 0) (by decide) rfl, load_eq arg6 harg6 x2
    0 (o := 0) (by decide) rfl, max_0 c arg9 x0 x1, acc_0 c arg10 x0 x1 x2]
  simp only [k0_pay10, k0_pay11, k0_pay12, shapeCast_self]
  rfl

theorem max_2 : v69 c arg4 harg4 arg5 harg5 arg8 arg9 x0 x1 = maxAfter (rows x0) x1 2 := by
  unfold v69 HS1_3
  rw [View.readCov_cons_toLoadRect]
  simp only [rows_eq c arg4 harg4 arg8 x0, load_eq arg5 harg5 x1 1 (o := 512) (by decide) rfl, max_1 c arg4 harg4
    arg5 harg5 arg8 arg9 x0 x1]
  simp only [k0_pay14, k0_pay15, k0_pay17, shapeCast_self]
  rfl

theorem acc_2 : v81 c arg4 harg4 arg5 harg5 arg6 harg6 arg8 arg9 arg10 x0 x1 x2 = accAfter (rows x0) x1 x2 2 := by
  unfold v81 HS2_3
  rw [View.readCov_cons_toLoadRect]
  simp only [rows_eq c arg4 harg4 arg8 x0, load_eq arg5 harg5 x1 1 (o := 512) (by decide) rfl, load_eq arg6 harg6
    x2 1 (o := 512) (by decide) rfl, max_1 c arg4 harg4 arg5 harg5 arg8 arg9 x0 x1, acc_1 c arg4 harg4 arg5 harg5 arg6
    harg6 arg8 arg9 arg10 x0 x1 x2]
  simp only [k0_pay14, k0_pay15, k0_pay16, shapeCast_self]
  rfl

theorem max_3 : v98 c arg4 harg4 arg5 harg5 arg8 arg9 x0 x1 = maxAfter (rows x0) x1 3 := by
  unfold v98 HS1_4
  rw [View.readCov_cons_toLoadRect]
  simp only [r_1, rows_eq c arg4 harg4 arg8 x0, load_eq arg5 harg5 x1 2 (o := 1024) (by decide) rfl, max_2 c arg4
    harg4 arg5 harg5 arg8 arg9 x0 x1]
  simp only [k0_pay18, k0_pay19, k0_pay20, k0_pay22, shapeCast_self]
  rfl

theorem acc_3 : v110 c arg4 harg4 arg5 harg5 arg6 harg6 arg8 arg9 arg10 x0 x1 x2 = accAfter (rows x0) x1 x2 3 := by
  unfold v110 HS2_4
  rw [View.readCov_cons_toLoadRect]
  simp only [r_1, r_2, rows_eq c arg4 harg4 arg8 x0, load_eq arg5 harg5 x1 2 (o := 1024) (by decide) rfl, load_eq
    arg6 harg6 x2 2 (o := 1024) (by decide) rfl, max_2 c arg4 harg4 arg5 harg5 arg8 arg9 x0 x1, acc_2 c arg4 harg4 arg5
    harg5 arg6 harg6 arg8 arg9 arg10 x0 x1 x2]
  simp only [k0_pay18, k0_pay19, k0_pay20, k0_pay21, shapeCast_self]
  rfl

theorem max_4 : v127 c arg4 harg4 arg5 harg5 arg8 arg9 x0 x1 = maxAfter (rows x0) x1 4 := by
  unfold v127 HS1_5
  rw [View.readCov_cons_toLoadRect]
  simp only [r_5, rows_eq c arg4 harg4 arg8 x0, load_eq arg5 harg5 x1 3 (o := 1536) (by decide) rfl, max_3 c arg4
    harg4 arg5 harg5 arg8 arg9 x0 x1]
  simp only [k0_pay24, k0_pay25, k0_pay26, k0_pay28, shapeCast_self]
  rfl

theorem acc_4 : v139 c arg4 harg4 arg5 harg5 arg6 harg6 arg8 arg9 arg10 x0 x1 x2 = accAfter (rows x0) x1 x2 4 := by
  unfold v139 HS2_5
  rw [View.readCov_cons_toLoadRect]
  simp only [r_3, r_4, r_5, rows_eq c arg4 harg4 arg8 x0, load_eq arg5 harg5 x1 3 (o := 1536) (by decide) rfl,
    load_eq arg6 harg6 x2 3 (o := 1536) (by decide) rfl, max_3 c arg4 harg4 arg5 harg5 arg8 arg9 x0 x1, acc_3 c arg4
    harg4 arg5 harg5 arg6 harg6 arg8 arg9 arg10 x0 x1 x2]
  simp only [k0_pay23, k0_pay24, k0_pay25, k0_pay26, k0_pay27, shapeCast_self]
  rfl

theorem max_5 : v156 c arg4 harg4 arg5 harg5 arg8 arg9 x0 x1 = maxAfter (rows x0) x1 5 := by
  unfold v156 HS1_6
  rw [View.readCov_cons_toLoadRect]
  simp only [r_7, rows_eq c arg4 harg4 arg8 x0, load_eq arg5 harg5 x1 4 (o := 2048) (by decide) rfl, max_4 c arg4
    harg4 arg5 harg5 arg8 arg9 x0 x1]
  simp only [k0_pay30, k0_pay31, k0_pay35, shapeCast_self]
  rfl

theorem acc_5 : v168 c arg4 harg4 arg5 harg5 arg6 harg6 arg8 arg9 arg10 x0 x1 x2 = accAfter (rows x0) x1 x2 5 := by
  unfold v168 HS2_6
  rw [View.readCov_cons_toLoadRect]
  simp only [r_6, r_8, r_9, rows_eq c arg4 harg4 arg8 x0, load_eq arg5 harg5 x1 4 (o := 2048) (by decide) rfl,
    load_eq arg6 harg6 x2 4 (o := 2048) (by decide) rfl, max_4 c arg4 harg4 arg5 harg5 arg8 arg9 x0 x1, acc_4 c arg4
    harg4 arg5 harg5 arg6 harg6 arg8 arg9 arg10 x0 x1 x2]
  simp only [k0_pay29, k0_pay30, k0_pay31, k0_pay32, k0_pay33, k0_pay34, shapeCast_self]
  rfl

theorem max_6 : v185 c arg4 harg4 arg5 harg5 arg8 arg9 x0 x1 = maxAfter (rows x0) x1 6 := by
  unfold v185 HS1_7
  rw [View.readCov_cons_toLoadRect]
  simp only [r_10, rows_eq c arg4 harg4 arg8 x0, load_eq arg5 harg5 x1 5 (o := 2560) (by decide) rfl, max_5 c arg4
    harg4 arg5 harg5 arg8 arg9 x0 x1]
  simp only [k0_pay36, k0_pay37, k0_pay39, shapeCast_self]
  rfl

theorem acc_6 : v197 c arg4 harg4 arg5 harg5 arg6 harg6 arg8 arg9 arg10 x0 x1 x2 = accAfter (rows x0) x1 x2 6 := by
  unfold v197 HS2_7
  rw [View.readCov_cons_toLoadRect]
  simp only [r_11, rows_eq c arg4 harg4 arg8 x0, load_eq arg5 harg5 x1 5 (o := 2560) (by decide) rfl, load_eq arg6
    harg6 x2 5 (o := 2560) (by decide) rfl, max_5 c arg4 harg4 arg5 harg5 arg8 arg9 x0 x1, acc_5 c arg4 harg4 arg5
    harg5 arg6 harg6 arg8 arg9 arg10 x0 x1 x2]
  simp only [k0_pay36, k0_pay37, k0_pay38, shapeCast_self]
  rfl

theorem max_7 : v214 c arg4 harg4 arg5 harg5 arg8 arg9 x0 x1 = maxAfter (rows x0) x1 7 := by
  unfold v214 HS1_8
  rw [View.readCov_cons_toLoadRect]
  simp only [rows_eq c arg4 harg4 arg8 x0, load_eq arg5 harg5 x1 6 (o := 3072) (by decide) rfl, max_6 c arg4 harg4
    arg5 harg5 arg8 arg9 x0 x1]
  simp only [k0_pay40, k0_pay41, k0_pay43, shapeCast_self]
  rfl

theorem acc_7 : v226 c arg4 harg4 arg5 harg5 arg6 harg6 arg8 arg9 arg10 x0 x1 x2 = accAfter (rows x0) x1 x2 7 := by
  unfold v226 HS2_8
  rw [View.readCov_cons_toLoadRect]
  simp only [rows_eq c arg4 harg4 arg8 x0, load_eq arg5 harg5 x1 6 (o := 3072) (by decide) rfl, load_eq arg6 harg6
    x2 6 (o := 3072) (by decide) rfl, max_6 c arg4 harg4 arg5 harg5 arg8 arg9 x0 x1, acc_6 c arg4 harg4 arg5 harg5 arg6
    harg6 arg8 arg9 arg10 x0 x1 x2]
  simp only [k0_pay40, k0_pay41, k0_pay42, shapeCast_self]
  rfl

theorem max_8 : v243 c arg4 harg4 arg5 harg5 arg8 arg9 x0 x1 = maxAfter (rows x0) x1 8 := by
  unfold v243 HS1_9
  rw [View.readCov_cons_toLoadRect]
  simp only [r_12, rows_eq c arg4 harg4 arg8 x0, load_eq arg5 harg5 x1 7 (o := 3584) (by decide) rfl, max_7 c arg4
    harg4 arg5 harg5 arg8 arg9 x0 x1]
  simp only [k0_pay44, k0_pay45, k0_pay47, shapeCast_self]
  rfl

theorem acc_8 : v255 c arg4 harg4 arg5 harg5 arg6 harg6 arg8 arg9 arg10 x0 x1 x2 = accAfter (rows x0) x1 x2 8 := by
  unfold v255 HS2_9
  rw [View.readCov_cons_toLoadRect]
  simp only [r_12, rows_eq c arg4 harg4 arg8 x0, load_eq arg5 harg5 x1 7 (o := 3584) (by decide) rfl, load_eq arg6
    harg6 x2 7 (o := 3584) (by decide) rfl, max_7 c arg4 harg4 arg5 harg5 arg8 arg9 x0 x1, acc_7 c arg4 harg4 arg5
    harg5 arg6 harg6 arg8 arg9 arg10 x0 x1 x2]
  simp only [k0_pay44, k0_pay45, k0_pay46, shapeCast_self]
  rfl

theorem max_9 : v272 c arg4 harg4 arg5 harg5 arg8 arg9 x0 x1 = maxAfter (rows x0) x1 9 := by
  unfold v272 HS1_10
  rw [View.readCov_cons_toLoadRect]
  simp only [r_14, rows_eq c arg4 harg4 arg8 x0, load_eq arg5 harg5 x1 8 (o := 4096) (by decide) rfl, max_8 c arg4
    harg4 arg5 harg5 arg8 arg9 x0 x1]
  simp only [k0_pay49, k0_pay50, k0_pay52, shapeCast_self]
  rfl

theorem acc_9 : v284 c arg4 harg4 arg5 harg5 arg6 harg6 arg8 arg9 arg10 x0 x1 x2 = accAfter (rows x0) x1 x2 9 := by
  unfold v284 HS2_10
  rw [View.readCov_cons_toLoadRect]
  simp only [r_13, r_14, rows_eq c arg4 harg4 arg8 x0, load_eq arg5 harg5 x1 8 (o := 4096) (by decide) rfl, load_eq
    arg6 harg6 x2 8 (o := 4096) (by decide) rfl, max_8 c arg4 harg4 arg5 harg5 arg8 arg9 x0 x1, acc_8 c arg4 harg4 arg5
    harg5 arg6 harg6 arg8 arg9 arg10 x0 x1 x2]
  simp only [k0_pay48, k0_pay49, k0_pay50, k0_pay51, shapeCast_self]
  rfl

theorem max_10 : v301 c arg4 harg4 arg5 harg5 arg8 arg9 x0 x1 = maxAfter (rows x0) x1 10 := by
  unfold v301 HS1_11
  rw [View.readCov_cons_toLoadRect]
  simp only [r_17, rows_eq c arg4 harg4 arg8 x0, load_eq arg5 harg5 x1 9 (o := 4608) (by decide) rfl, max_9 c arg4
    harg4 arg5 harg5 arg8 arg9 x0 x1]
  simp only [k0_pay54, k0_pay55, k0_pay59, shapeCast_self]
  rfl

theorem acc_10 : v313 c arg4 harg4 arg5 harg5 arg6 harg6 arg8 arg9 arg10 x0 x1 x2 = accAfter (rows x0) x1 x2 10 := by
  unfold v313 HS2_11
  rw [View.readCov_cons_toLoadRect]
  simp only [r_15, r_16, r_18, r_19, rows_eq c arg4 harg4 arg8 x0, load_eq arg5 harg5 x1 9 (o := 4608)
    (by decide) rfl, load_eq arg6 harg6 x2 9 (o := 4608) (by decide) rfl, max_9 c arg4 harg4 arg5 harg5 arg8 arg9 x0
    x1, acc_9 c arg4 harg4 arg5 harg5 arg6 harg6 arg8 arg9 arg10 x0 x1 x2]
  simp only [k0_pay53, k0_pay54, k0_pay55, k0_pay56, k0_pay57, k0_pay58, shapeCast_self]
  rfl

theorem max_11 : v330 c arg4 harg4 arg5 harg5 arg8 arg9 x0 x1 = maxAfter (rows x0) x1 11 := by
  unfold v330 HS1_12
  rw [View.readCov_cons_toLoadRect]
  simp only [r_20, rows_eq c arg4 harg4 arg8 x0, load_eq arg5 harg5 x1 10 (o := 5120) (by decide) rfl, max_10 c
    arg4 harg4 arg5 harg5 arg8 arg9 x0 x1]
  simp only [k0_pay60, k0_pay61, k0_pay64, shapeCast_self]
  rfl

theorem acc_11 : v342 c arg4 harg4 arg5 harg5 arg6 harg6 arg8 arg9 arg10 x0 x1 x2 = accAfter (rows x0) x1 x2 11 := by
  unfold v342 HS2_12
  rw [View.readCov_cons_toLoadRect]
  simp only [r_21, rows_eq c arg4 harg4 arg8 x0, load_eq arg5 harg5 x1 10 (o := 5120) (by decide) rfl, load_eq arg6
    harg6 x2 10 (o := 5120) (by decide) rfl, max_10 c arg4 harg4 arg5 harg5 arg8 arg9 x0 x1, acc_10 c arg4 harg4 arg5
    harg5 arg6 harg6 arg8 arg9 arg10 x0 x1 x2]
  simp only [k0_pay60, k0_pay61, k0_pay62, k0_pay63, shapeCast_self]
  rfl

theorem max_12 : v359 c arg4 harg4 arg5 harg5 arg8 arg9 x0 x1 = maxAfter (rows x0) x1 12 := by
  unfold v359 HS1_13
  rw [View.readCov_cons_toLoadRect]
  simp only [r_22, rows_eq c arg4 harg4 arg8 x0, load_eq arg5 harg5 x1 11 (o := 5632) (by decide) rfl, max_11 c
    arg4 harg4 arg5 harg5 arg8 arg9 x0 x1]
  simp only [k0_pay65, k0_pay66, k0_pay68, shapeCast_self]
  rfl

theorem acc_12 : v371 c arg4 harg4 arg5 harg5 arg6 harg6 arg8 arg9 arg10 x0 x1 x2 = accAfter (rows x0) x1 x2 12 := by
  unfold v371 HS2_13
  rw [View.readCov_cons_toLoadRect]
  simp only [rows_eq c arg4 harg4 arg8 x0, load_eq arg5 harg5 x1 11 (o := 5632) (by decide) rfl, load_eq arg6 harg6
    x2 11 (o := 5632) (by decide) rfl, max_11 c arg4 harg4 arg5 harg5 arg8 arg9 x0 x1, acc_11 c arg4 harg4 arg5 harg5
    arg6 harg6 arg8 arg9 arg10 x0 x1 x2]
  simp only [k0_pay65, k0_pay66, k0_pay67, shapeCast_self]
  rfl

theorem max_13 : v388 c arg4 harg4 arg5 harg5 arg8 arg9 x0 x1 = maxAfter (rows x0) x1 13 := by
  unfold v388 HS1_14
  rw [View.readCov_cons_toLoadRect]
  simp only [rows_eq c arg4 harg4 arg8 x0, load_eq arg5 harg5 x1 12 (o := 6144) (by decide) rfl, max_12 c arg4
    harg4 arg5 harg5 arg8 arg9 x0 x1]
  simp only [k0_pay69, k0_pay70, k0_pay72, shapeCast_self]
  rfl

theorem acc_13 : v400 c arg4 harg4 arg5 harg5 arg6 harg6 arg8 arg9 arg10 x0 x1 x2 = accAfter (rows x0) x1 x2 13 := by
  unfold v400 HS2_14
  rw [View.readCov_cons_toLoadRect]
  simp only [rows_eq c arg4 harg4 arg8 x0, load_eq arg5 harg5 x1 12 (o := 6144) (by decide) rfl, load_eq arg6 harg6
    x2 12 (o := 6144) (by decide) rfl, max_12 c arg4 harg4 arg5 harg5 arg8 arg9 x0 x1, acc_12 c arg4 harg4 arg5 harg5
    arg6 harg6 arg8 arg9 arg10 x0 x1 x2]
  simp only [k0_pay69, k0_pay70, k0_pay71, shapeCast_self]
  rfl

theorem max_14 : v417 c arg4 harg4 arg5 harg5 arg8 arg9 x0 x1 = maxAfter (rows x0) x1 14 := by
  unfold v417 HS1_15
  rw [View.readCov_cons_toLoadRect]
  simp only [r_23, rows_eq c arg4 harg4 arg8 x0, load_eq arg5 harg5 x1 13 (o := 6656) (by decide) rfl, max_13 c
    arg4 harg4 arg5 harg5 arg8 arg9 x0 x1]
  simp only [k0_pay73, k0_pay75, k0_pay76, k0_pay78, shapeCast_self]
  rfl

theorem acc_14 : v429 c arg4 harg4 arg5 harg5 arg6 harg6 arg8 arg9 arg10 x0 x1 x2 = accAfter (rows x0) x1 x2 14 := by
  unfold v429 HS2_15
  rw [View.readCov_cons_toLoadRect]
  simp only [r_23, r_24, rows_eq c arg4 harg4 arg8 x0, load_eq arg5 harg5 x1 13 (o := 6656) (by decide) rfl,
    load_eq arg6 harg6 x2 13 (o := 6656) (by decide) rfl, max_13 c arg4 harg4 arg5 harg5 arg8 arg9 x0 x1, acc_13 c arg4
    harg4 arg5 harg5 arg6 harg6 arg8 arg9 arg10 x0 x1 x2]
  simp only [k0_pay73, k0_pay74, k0_pay75, k0_pay76, k0_pay77, shapeCast_self]
  rfl

theorem max_15 : v446 c arg4 harg4 arg5 harg5 arg8 arg9 x0 x1 = maxAfter (rows x0) x1 15 := by
  unfold v446 HS1_16
  rw [View.readCov_cons_toLoadRect]
  simp only [r_27, rows_eq c arg4 harg4 arg8 x0, load_eq arg5 harg5 x1 14 (o := 7168) (by decide) rfl, max_14 c
    arg4 harg4 arg5 harg5 arg8 arg9 x0 x1]
  simp only [k0_pay80, k0_pay81, k0_pay82, k0_pay84, shapeCast_self]
  rfl

theorem acc_15 : v458 c arg4 harg4 arg5 harg5 arg6 harg6 arg8 arg9 arg10 x0 x1 x2 = accAfter (rows x0) x1 x2 15 := by
  unfold v458 HS2_16
  rw [View.readCov_cons_toLoadRect]
  simp only [r_25, r_26, r_27, rows_eq c arg4 harg4 arg8 x0, load_eq arg5 harg5 x1 14 (o := 7168) (by decide) rfl,
    load_eq arg6 harg6 x2 14 (o := 7168) (by decide) rfl, max_14 c arg4 harg4 arg5 harg5 arg8 arg9 x0 x1, acc_14 c arg4
    harg4 arg5 harg5 arg6 harg6 arg8 arg9 arg10 x0 x1 x2]
  simp only [k0_pay79, k0_pay80, k0_pay81, k0_pay82, k0_pay83, shapeCast_self]
  rfl

theorem acc_16 : ∃ L, HS2_17 c arg4 harg4 arg5 harg5 arg6 harg6 arg8 arg9 arg10 x0 x1 x2
    = ⟨Rect.unit ![0, 0] ![1024, 256] inb_S1024x256_S1024x256_0_0, accAfter (rows x0) x1 x2 16⟩ :: L := by
  refine ⟨HS2_16 c arg4 harg4 arg5 harg5 arg6 harg6 arg8 arg9 arg10 x0 x1 x2, ?_⟩
  unfold HS2_17
  simp only [r_28, r_30, r_31, rows_eq c arg4 harg4 arg8 x0, load_eq arg5 harg5 x1 15 (o := 7680) (by decide) rfl,
    load_eq arg6 harg6 x2 15 (o := 7680) (by decide) rfl, max_15 c arg4 harg4 arg5 harg5 arg8 arg9 x0 x1, acc_15 c arg4
    harg4 arg5 harg5 arg6 harg6 arg8 arg9 arg10 x0 x1 x2]
  simp only [k0_pay1, k0_pay85, k0_pay86, k0_pay87, k0_pay88, k0_pay89, shapeCast_self]
  rfl

/-! ## What the block stores -/

/-- The weighted sums over the sums of the weights. -/
def quotient (a : FVec F S1024x256 .f32) : FVec F S1024x128 .f32 :=
  divf (fun j => a (ix2 (j 0 : Fin 1024) (⟨(j 1).val % 256, Nat.mod_lt _ (by norm_num)⟩ : Fin 256)))
    (fun j => a (ix2 (j 0 : Fin 1024) (⟨(128 + (j 1).val) % 256, Nat.mod_lt _ (by norm_num)⟩ : Fin 256)))

/-- The block's result: the quotient's first 512 rows in the first 128 columns, its last 512 rows in the last. -/
def blockOut (x0 : Vec F S1x512x256 .f32) (x1 x2 : Vec F S1x8192x128 .bf16) : Vec F S1x512x256 .bf16 := fun j =>
  truncf .bf16 (quotient (accAfter (rows x0) x1 x2 16)) bitsLt_bf16_f32
    (ix2 (⟨((j 1).val + 512 * ((j 2).val / 128)) % 1024, Nat.mod_lt _ (by norm_num)⟩ : Fin 1024)
      (⟨(j 2).val % 128, Nat.mod_lt _ (by norm_num)⟩ : Fin 128))

/-- The left half of the sums, read back. -/
theorem sums_eq : v471 c arg4 harg4 arg5 harg5 arg6 harg6 arg8 arg9 arg10 x0 x1 x2
    = fun j => accAfter (rows x0) x1 x2 16 (ix2 (j 0 : Fin 1024) (⟨(j 1).val % 256, Nat.mod_lt _ (by norm_num)⟩ : Fin 256)) := by
  obtain ⟨L, hL⟩ := acc_16 c arg4 harg4 arg5 harg5 arg6 harg6 arg8 arg9 arg10 x0 x1 x2
  unfold v471
  rw [hL, View.readCov_eq_canon']
  funext (j : S1024x128.Idx)
  refine (congrFun (View.canon_cons_unit_zero (S := S1024x256) zero_offset _ _ _) _).trans (congrArg _ ?_)
  have h1 : (j 1).val < 128 := (j 1).isLt
  funext b
  apply Fin.ext
  match b with
  | ⟨0, _⟩ => show 0 + 1 * (j 0).val = (j 0).val
              omega
  | ⟨1, _⟩ => show 0 + 1 * (j 1).val = (j 1).val % 256
              omega

/-- The right half of the sums, read back. -/
theorem weights_eq : v472 c arg4 harg4 arg5 harg5 arg6 harg6 arg8 arg9 arg10 x0 x1 x2
    = fun j => accAfter (rows x0) x1 x2 16 (ix2 (j 0 : Fin 1024) (⟨(128 + (j 1).val) % 256, Nat.mod_lt _ (by norm_num)⟩ : Fin 256)) := by
  obtain ⟨L, hL⟩ := acc_16 c arg4 harg4 arg5 harg5 arg6 harg6 arg8 arg9 arg10 x0 x1 x2
  unfold v472
  rw [hL, View.readCov_eq_canon']
  funext (j : S1024x128.Idx)
  refine (congrFun (View.canon_cons_unit_zero (S := S1024x256) zero_offset _ _ _) _).trans (congrArg _ ?_)
  have h1 : (j 1).val < 128 := (j 1).isLt
  funext b
  apply Fin.ext
  match b with
  | ⟨0, _⟩ => show 0 + 1 * (j 0).val = (j 0).val
              omega
  | ⟨1, _⟩ => show 128 + 1 * (j 1).val = (128 + (j 1).val) % 256
              omega

/-- What a point of the grid leaves in the result's buffer is `blockOut` of what it read. -/
theorem out_eq (i : grid0.Coords) (arg7 : Memref sig .tc .vmem S1x512x256 .bf16) (harg7 : arg7.IsWhole)
    (harg8 : arg8.IsWhole) (harg9 : arg9.IsWhole) (harg10 : arg10.IsWhole) (hc0 : cond0_0 i) (hc1 : cond0_1 i) :
    out0_A_3 c i arg4 harg4 arg5 harg5 arg6 harg6 arg7 harg7 arg8 harg8 arg9 harg9 arg10 harg10 hc0 hc1 x0 x1 x2
      = blockOut x0 x1 x2 := by
  unfold out0_A_3
  rw [View.read_writes_eq_canon _ _ _ (cover0_A_3 c i arg4 harg4 arg5 harg5 arg6 harg6 arg7 harg7 arg8 harg8 arg9 harg9
    arg10 harg10 hc0 hc1 x0 x1 x2)]
  funext y
  refine View.canon_apply_of_pieces (blockOut x0 x1 x2) _ ?_ y (cover0_A_3 c i arg4 harg4 arg5 harg5 arg6 harg6 arg7
    harg7 arg8 harg8 arg9 harg9 arg10 harg10 hc0 hc1 x0 x1 x2 y)
  unfold kernelRun0_A
  dsimp only
  intro p hp
  rcases List.mem_cons.mp hp with rfl | hp
  · refine fun (i : S1x512x128.Idx) => ?_
    dsimp only
    rw [sums_eq, weights_eq]
    idx_vars i
    pointwise [k0_pay5, k0_pay3, blockOut, quotient]
    refine congrArg _ (congrArg₂ _ (congrArg _ (congrArg₂ ix2 (Fin.ext ?_) (Fin.ext ?_)))
      (congrArg _ (congrArg₂ ix2 (Fin.ext ?_) (Fin.ext ?_))))
    · show 512 + i1.val = ((0 + 1 * i1.val) + 512 * ((128 + 1 * i2.val) / 128)) % 1024
      omega
    · show i2.val % 256 = (128 + 1 * i2.val) % 128 % 256
      omega
    · show 512 + i1.val = ((0 + 1 * i1.val) + 512 * ((128 + 1 * i2.val) / 128)) % 1024
      omega
    · show (128 + i2.val) % 256 = (128 + (128 + 1 * i2.val) % 128) % 256
      omega
  · obtain rfl := List.mem_singleton.mp hp
    refine fun (i : S1x512x128.Idx) => ?_
    dsimp only
    rw [sums_eq, weights_eq]
    idx_vars i
    pointwise [k0_pay4, k0_pay3, blockOut, quotient]
    refine congrArg _ (congrArg₂ _ (congrArg _ (congrArg₂ ix2 (Fin.ext ?_) (Fin.ext ?_)))
      (congrArg _ (congrArg₂ ix2 (Fin.ext ?_) (Fin.ext ?_))))
    · show i1.val = ((0 + 1 * i1.val) + 512 * ((0 + 1 * i2.val) / 128)) % 1024
      omega
    · show i2.val % 256 = (0 + 1 * i2.val) % 128 % 256
      omega
    · show i1.val = ((0 + 1 * i1.val) + 512 * ((0 + 1 * i2.val) / 128)) % 1024
      omega
    · show (128 + i2.val) % 256 = (128 + (0 + 1 * i2.val) % 128) % 256
      omega

end Cert.KernelIdeal.Block

end
-- ==== Proof.Softmax.lean ====
/-
  The mathematics of a softmax taken block by block, over the extended reals, with no program in it.

  A row has scores `s 0, s 1, …` and weights `w 0, w 1, …`. A running pair (maximum, weighted sum) that is rescaled by
  `2^(old maximum - new maximum)` at every block of scores (`rescale_sum`, `block_step`) holds, after the scores below
  `n`, their maximum and the sum of `2^(s i - maximum) * w i`. No score has to be finite.

  Powers of two of scores multiplied by `log2 e` are powers of `e` (`exp2_scaled`), and a positive real factor comes
  out of a maximum (`sup_scale`) and out of a sum (`mul_sum_of_nonneg`).
-/
module

public import Idealize.ShloMosaic.PureOps.Ideal
public import Idealize.ShloMosaic.PureOps.Ideal.Laws

@[expose] public section

noncomputable section

namespace Attention

open Idealize.ShloMosaic

/-! ## Powers of two -/

theorem exp2_nonneg (x : EReal) : 0 ≤ Ideal.exp2 x := by
  induction x with
  | bot => simp
  | top => simp
  | coe r =>
    rw [Ideal.exp2_coe]
    exact EReal.coe_nonneg.mpr (Real.rpow_nonneg (by norm_num) r)

/-- A power of two with an exponent other than `⊤` is not `⊤`. -/
theorem exp2_ne_top {x : EReal} (h : x ≠ ⊤) : Ideal.exp2 x ≠ ⊤ := by
  induction x with
  | bot => simp
  | top => exact absurd rfl h
  | coe r => rw [Ideal.exp2_coe]; exact EReal.coe_ne_top _

/-- The difference of two ordered extended reals is not `⊤`. -/
theorem sub_ne_top_of_le {a b : EReal} (h : a ≤ b) : a - b ≠ ⊤ := by
  induction a with
  | bot => rw [EReal.bot_sub]; exact bot_ne_top
  | top => rw [top_le_iff.mp h, EReal.sub_top]; exact bot_ne_top
  | coe x =>
    induction b with
    | bot => exact absurd (le_bot_iff.mp h) (EReal.coe_ne_bot x)
    | top => rw [EReal.sub_top]; exact bot_ne_top
    | coe y => rw [← EReal.coe_sub]; exact EReal.coe_ne_top _

/-- Rescaling: a term taken against the maximum `m`, rescaled to the later maximum `m'`, is the term taken against `m'`. -/
theorem exp2_rescale {a m m' : EReal} (h : a ≤ m) (h' : m ≤ m') :
    Ideal.exp2 (m - m') * Ideal.exp2 (a - m) = Ideal.exp2 (a - m') := by
  induction m' with
  | top => rw [EReal.sub_top, EReal.sub_top, Ideal.exp2_bot, zero_mul]
  | bot =>
    obtain rfl := le_bot_iff.mp h'
    rw [EReal.bot_sub, Ideal.exp2_bot, zero_mul, le_bot_iff.mp h, EReal.bot_sub, Ideal.exp2_bot]
  | coe z =>
    induction m with
    | top => exact absurd (top_le_iff.mp h') (EReal.coe_ne_top z)
    | bot => rw [le_bot_iff.mp h, EReal.bot_sub, EReal.bot_sub, Ideal.exp2_bot, zero_mul]
    | coe y =>
      induction a with
      | top => exact absurd (top_le_iff.mp h) (EReal.coe_ne_top y)
      | bot => rw [EReal.bot_sub, EReal.bot_sub, Ideal.exp2_bot, mul_zero]
      | coe x =>
        rw [← EReal.coe_sub, ← EReal.coe_sub, ← EReal.coe_sub, Ideal.exp2_coe, Ideal.exp2_coe, Ideal.exp2_coe,
          ← EReal.coe_mul]
        refine congrArg _ ?_
        show (2 : ℝ) ^ (y - z) * (2 : ℝ) ^ (x - y) = (2 : ℝ) ^ (x - z)
        rw [← Real.rpow_add (by norm_num)]
        congr 1
        ring

/-! ## Sums -/

/-- A nonnegative factor other than `⊤` goes into a sum of extended reals. -/
theorem mul_sum_of_nonneg {ι : Type*} (I : Finset ι) {c : EReal} (h0 : 0 ≤ c) (ht : c ≠ ⊤) (f : ι → EReal) :
    c * ∑ i ∈ I, f i = ∑ i ∈ I, c * f i := by
  classical
  induction I using Finset.induction_on with
  | empty => simp
  | insert a I ha ih =>
    rw [Finset.sum_insert ha, Finset.sum_insert ha, EReal.left_distrib_of_nonneg_of_ne_top h0 ht, ih]

/-- A whole sum of terms against `m`, rescaled to the later maximum `m'`. -/
theorem rescale_sum {ι : Type*} (I : Finset ι) (s w : ι → EReal) {m m' : EReal} (h : ∀ i ∈ I, s i ≤ m) (h' : m ≤ m') :
    Ideal.exp2 (m - m') * ∑ i ∈ I, Ideal.exp2 (s i - m) * w i = ∑ i ∈ I, Ideal.exp2 (s i - m') * w i := by
  rw [mul_sum_of_nonneg I (exp2_nonneg _) (exp2_ne_top (sub_ne_top_of_le h'))]
  refine Finset.sum_congr rfl fun i hi => ?_
  rw [← mul_assoc, exp2_rescale (h i hi) h']

/-- The maximum of the scores below `n`. -/
def top (s : ℕ → EReal) (n : ℕ) : EReal := (Finset.range n).sup s

/-- The weighted sum of the scores below `n`, each as a power of two against their maximum. -/
def total (s w : ℕ → EReal) (n : ℕ) : EReal := ∑ i ∈ Finset.range n, Ideal.exp2 (s i - top s n) * w i

theorem top_zero (s : ℕ → EReal) : top s 0 = ⊥ := rfl

theorem total_zero (s w : ℕ → EReal) : total s w 0 = 0 := rfl

theorem le_top (s : ℕ → EReal) {n i : ℕ} (h : i < n) : s i ≤ top s n :=
  Finset.le_sup (f := s) (Finset.mem_range.mpr h)

/-- The maximum of the scores below `n + b`: that below `n`, and that of the `b` scores from `n`. -/
theorem top_add (s : ℕ → EReal) (n b : ℕ) :
    max (top s n) ((Finset.univ : Finset (Fin b)).fold max ⊥ fun x => s (n + x.val)) = top s (n + b) := by
  have hf : ((Finset.univ : Finset (Fin b)).fold max ⊥ fun x => s (n + x.val))
      = (Finset.univ : Finset (Fin b)).sup fun x => s (n + x.val) := rfl
  rw [hf]
  apply le_antisymm
  · refine max_le (Finset.sup_mono fun i hi => ?_) (Finset.sup_le fun x _ => le_top s (by have := x.isLt; omega))
    rw [Finset.mem_range] at hi ⊢
    omega
  · refine Finset.sup_le fun i hi => ?_
    rw [Finset.mem_range] at hi
    rcases Nat.lt_or_ge i n with hn | hn
    · exact (le_top s hn).trans (le_max_left _ _)
    · refine le_trans ?_ (le_max_right _ _)
      have := Finset.le_sup (f := fun x : Fin b => s (n + x.val)) (Finset.mem_univ ⟨i - n, by omega⟩)
      rwa [show n + (i - n) = i from by omega] at this

theorem top_mono (s : ℕ → EReal) (n b : ℕ) : top s n ≤ top s (n + b) := (le_max_left _ _).trans (top_add s n b).le

/-- One block of `b` scores: the sum so far rescaled to the new maximum, plus the block's terms. -/
theorem block_step (s w : ℕ → EReal) (n b : ℕ) :
    Ideal.exp2 (top s n - top s (n + b)) * total s w n
        + ∑ x : Fin b, Ideal.exp2 (s (n + x.val) - top s (n + b)) * w (n + x.val)
      = total s w (n + b) := by
  unfold total
  rw [rescale_sum _ _ _ (fun i hi => le_top s (Finset.mem_range.mp hi)) (top_mono s n b), Finset.sum_range_add]
  congr 1
  rw [Finset.sum_range fun x => Ideal.exp2 (s (n + x) - top s (n + b)) * w (n + x)]

/-! ## The change of base -/

/-- `2^(log2 e * x) = e^x`, at the infinities too. -/
theorem exp2_log2e (x : EReal) : Ideal.exp2 (((Real.log 2)⁻¹ : ℝ) * x) = Ideal.exp x := by
  have hl : 0 < (Real.log 2)⁻¹ := inv_pos.mpr (Real.log_pos (by norm_num))
  induction x with
  | bot => rw [EReal.coe_mul_bot_of_pos hl]; simp
  | top => rw [EReal.coe_mul_top_of_pos hl]; simp
  | coe r =>
    rw [← EReal.coe_mul, Ideal.exp2_coe, Ideal.exp_coe]
    refine congrArg _ ?_
    show (2 : ℝ) ^ ((Real.log 2)⁻¹ * r) = Real.exp r
    rw [Real.rpow_def_of_pos (by norm_num), ← mul_assoc,
      mul_inv_cancel₀ (ne_of_gt (Real.log_pos (by norm_num))), one_mul]

/-- The term of a score against the maximum, in either base. -/
theorem exp2_scaled (a m : EReal) :
    Ideal.exp2 ((((Real.log 2)⁻¹ : ℝ) : EReal) * a - (((Real.log 2)⁻¹ : ℝ) : EReal) * m) = Ideal.exp (a - m) := by
  have hl : 0 < (Real.log 2)⁻¹ := inv_pos.mpr (Real.log_pos (by norm_num))
  rw [← exp2_log2e, sub_eq_add_neg, sub_eq_add_neg,
    EReal.left_distrib_of_nonneg_of_ne_top (EReal.coe_nonneg.mpr hl.le) (EReal.coe_ne_top _), mul_neg]

/-- A positive real factor comes out of a maximum. -/
theorem sup_scale {ι : Type*} (I : Finset ι) {c : ℝ} (hc : 0 < c) (f : ι → EReal) :
    (I.sup fun i => (c : EReal) * f i) = c * I.sup f := by
  refine (Finset.comp_sup_eq_sup_comp (fun x : EReal => (c : EReal) * x) ?_ (EReal.coe_mul_bot_of_pos hc)).symm
  intro x y
  exact (monotone_const_mul_of_nonneg hc x y)
where
  monotone_const_mul_of_nonneg {c : ℝ} (hc : 0 < c) (x y : EReal) : (c : EReal) * (x ⊔ y) = c * x ⊔ c * y := by
    have hm : Monotone fun z : EReal => (c : EReal) * z := fun a b h => mul_le_mul_of_nonneg_left h (EReal.coe_nonneg.mpr hc.le)
    exact hm.map_sup x y

end Attention

end
-- ==== Proof.AttentionSteps.lean ====
/-
  THE RECURRENCE OF ONE BLOCK, over the extended reals: after `n` runs of keys the running maximum is the maximum of the
  first `512 n` scores of a row, and the running sum their weighted sum against it; after all sixteen the quotient of its
  two halves is the softmax of the row's 8192 scores over the values.
-/
module

public import proofs.«01_k».proof.Proof.AttentionBlock
public import proofs.«01_k».proof.Proof.Softmax

@[expose] public section

set_option maxRecDepth 16384

noncomputable section

namespace Cert.KernelIdeal.Block

open Cert.KernelIdeal Cert.KernelIdeal.Gen
open Idealize.ShloMosaic Idealize.ShloMosaic.TcCoe Idealize.SL.Sem

variable (q : FVec Ideal S1024x128 .bf16) (k v : FVec Ideal S1x8192x128 .bf16)

/-- The score of row `r` against key `i`. -/
def score (r : Fin 1024) (i : ℕ) : EReal :=
  ∑ d : Fin 128, q (ix2 r d) * k (ix3 (0 : Fin 1) (⟨i % 8192, Nat.mod_lt _ (by norm_num)⟩ : Fin 8192) d)

/-- What the weight of key `i` multiplies in column `d` of the sum: its value, or one. -/
def factor (d : ℕ) (i : ℕ) : EReal :=
  if h : d < 128 then v (ix3 (0 : Fin 1) (⟨i % 8192, Nat.mod_lt _ (by norm_num)⟩ : Fin 8192) (⟨d, h⟩ : Fin 128)) else 1

/-- The word of minus infinity. -/
theorem minus_infinity : Ideal.ofBits .f32 0xFF800000#32 = ⊥ := by simp [Ideal.ofBits, Ideal.ieee]

theorem scores_apply (n : ℕ) (r : Fin 1024) (x : Fin 512) :
    scores q (loaded (F := Ideal) k n) (ix2 r x) = score q k r (512 * n + x.val) := by
  pointwise [scores, score, loaded]

/-- The running maximum after `n` runs, in every column. -/
theorem max_apply (n : ℕ) (r : Fin 1024) (l : Fin 128) :
    maxAfter q k n (ix2 r l) = Attention.top (score q k r) (512 * n) := by
  induction n with
  | zero =>
    pointwise [maxAfter]
    exact (minus_infinity).trans (Attention.top_zero _).symm
  | succ n ih =>
    rw [Nat.mul_succ, ← Attention.top_add]
    pointwise [maxAfter, newMax]
    rw [ih, minus_infinity]
    simp only [scores_apply]

/-- The running maximum a step works with. -/
theorem newMax_apply (n : ℕ) (r : Fin 1024) (l : Fin 128) :
    newMax q (loaded (F := Ideal) k n) (maxAfter q k n) (ix2 r l) = Attention.top (score q k r) (512 * n + 512) :=
  max_apply q k (n + 1) r l

/-- The running sum after `n` runs. -/
theorem acc_apply (n : ℕ) (r : Fin 1024) (d : Fin 256) :
    accAfter q k v n (ix2 r d) = Attention.total (score q k r) (factor v d.val) (512 * n) := by
  induction n with
  | zero =>
    pointwise [accAfter]
    exact (Attention.total_zero _ _).symm
  | succ n ih =>
    rw [Nat.mul_succ, ← Attention.block_step]
    pointwise [accAfter, newAcc]
    simp only [newMax_apply, max_apply, scores_apply, ih, dite_eq_ite, ite_self]
    refine congrArg₂ (· + ·) rfl (Finset.sum_congr rfl fun x _ => congrArg₂ (· * ·) rfl ?_)
    unfold factor loaded
    rfl

/-- What the block stores, at an index: the two totals' quotient. -/
theorem blockOut_apply (x : FVec Ideal S1x512x256 .f32) (a : Fin 512) (b : Fin 256) :
    blockOut (F := Ideal) x k v (ix3 (0 : Fin 1) a b)
      = Ideal.div
          (Attention.total (score (rows (F := Ideal) x) k ⟨(a.val + 512 * (b.val / 128)) % 1024, Nat.mod_lt _ (by norm_num)⟩)
            (factor v (b.val % 128)) 8192)
          (Attention.total (score (rows (F := Ideal) x) k ⟨(a.val + 512 * (b.val / 128)) % 1024, Nat.mod_lt _ (by norm_num)⟩)
            (fun _ => 1) 8192) := by
  pointwise [blockOut, quotient]
  rw [acc_apply, acc_apply]
  have h1 : b.val % 128 % 256 = b.val % 128 := by omega
  have h2 : (factor v ((128 + b.val % 128) % 256)) = fun _ => 1 := by
    funext i
    unfold factor
    rw [dif_neg (by omega)]
  dsimp only
  rw [h1, h2]

end Cert.KernelIdeal.Block

end
-- ==== Proof.AttentionArray.lean ====
/-
  THE RESULT ARRAY OF THE ATTENTION KERNEL, over the extended reals. A point of the grid is a batch entry, a group of two
  heads and a run of 512 queries; what it writes back is its block of one function of the whole arrays (`attended`), and
  the blocks cover the array.
-/
module

public import proofs.«01_k».proof.Proof.AttentionSteps
public import proofs.«01_k».proof.Proof.Gen.KernelIdeal.Value
public import Idealize.ShloMosaic.Lib.StableHlo.Run

@[expose] public section

set_option maxRecDepth 16384

noncomputable section

namespace Cert.KernelIdeal.Arrays

open Cert.KernelIdeal Cert.KernelIdeal.Gen Cert.KernelIdeal.Block
open Idealize.ShloMosaic Idealize.ShloMosaic.TcCoe Idealize.SL.Sem
open Idealize.ShloMosaic.Pipeline (Dat)

/-- What the queries are scaled by: the kernel's constant, read as the real number it rounds. -/
def scale : EReal := ((Real.log 2)⁻¹ * (Real.sqrt 128)⁻¹ : ℝ)

theorem scale_eq : Named.named (F := Ideal) (φ := .f32) κ "q_scale" 0x3E0293EE#32 = scale :=
  IdealRules.named_const.ideal_named_scalar _ _ _ _ rfl

variable (Q : FVec Ideal S8x8192x512 .f32) (K W : FVec Ideal S8x8192x256 .f32)

/-- The score of query `r` of head `h` of batch entry `b` against key `i`. -/
def scoreAt (b : Fin 8) (r : Fin 8192) (h : Fin 4) (i : ℕ) : EReal :=
  ∑ d : Fin 128, Q (ix3 b r (⟨128 * h.val + d.val, by omega⟩ : Fin 512)) * scale
    * K (ix3 b (⟨i % 8192, Nat.mod_lt _ (by norm_num)⟩ : Fin 8192) (⟨128 * (h.val / 2) + d.val, by omega⟩ : Fin 256))

/-- Column `d` of the value of key `i`, for head `h` of batch entry `b`. -/
def valueAt (b : Fin 8) (h : Fin 4) (d : Fin 128) (i : ℕ) : EReal :=
  W (ix3 b (⟨i % 8192, Nat.mod_lt _ (by norm_num)⟩ : Fin 8192) (⟨128 * (h.val / 2) + d.val, by omega⟩ : Fin 256))

/-- The head a column of the result belongs to. -/
def head (j : Fin 512) : Fin 4 := ⟨j.val / 128, by omega⟩

/-- The result: each query's weighted sum of values over the sum of its weights. -/
def attended : FVec Ideal S8x8192x512 .bf16 := fun j =>
  Ideal.div
    (Attention.total (scoreAt Q K (j 0) (j 1) (head (j 2)))
      (valueAt W (j 0) (head (j 2)) ⟨(j 2).val % 128, Nat.mod_lt _ (by norm_num)⟩) 8192)
    (Attention.total (scoreAt Q K (j 0) (j 1) (head (j 2))) (fun _ => 1) 8192)

theorem index0 : ∀ t : Fin grid0.N, win0_0.index t 0 = t.val / 32 ∧ win0_0.index t 1 = t.val % 16 ∧ win0_0.index t 2 = t.val / 16 % 2 := by
  decide +kernel
theorem index1 : ∀ t : Fin grid0.N, win0_1.index t 0 = t.val / 32 ∧ win0_1.index t 1 = 0 ∧ win0_1.index t 2 = t.val / 16 % 2 := by
  decide +kernel
theorem index2 : ∀ t : Fin grid0.N, win0_2.index t 0 = t.val / 32 ∧ win0_2.index t 1 = 0 ∧ win0_2.index t 2 = t.val / 16 % 2 := by
  decide +kernel
theorem index3 : ∀ t : Fin grid0.N, win0_3.index t 0 = t.val / 32 ∧ win0_3.index t 1 = t.val % 16 ∧ win0_3.index t 2 = t.val / 16 % 2 := by
  decide +kernel

variable (m : (ℓ : Loc nD τ sig) → Buf (Elt Ideal) ℓ) (ρ : Dev nD → PrngReg)

/-- The keys the region finds are the argument's: the cast changes no extended real. -/
theorem keys_eq (c : Dev nD) : V m c main_v0 = (m ((c : Thread nD τ).loc main_arg1) : FVec Ideal S8x8192x256 .f32) := by
  unfold_abbrev_sides
  after_results
  rfl

/-- And the values. -/
theorem values_eq (c : Dev nD) : V m c main_v1 = (m ((c : Thread nD τ).loc main_arg2) : FVec Ideal S8x8192x256 .f32) := by
  unfold_abbrev_sides
  after_results
  rfl

theorem block0 (c : Dev nD) (t : Fin cfg0.N) (a : Fin 1) (r : Fin 512) (d : Fin 256) (i : S8x8192x512.Idx)
    (h0 : (i 0).val = t.val / 32) (h1 : (i 1).val = 512 * (t.val % 16) + r.val) (h2 : (i 2).val = 256 * (t.val / 16 % 2) + d.val) :
    (iblk m c 0 t : FVec Ideal S1x512x256 .f32) (ix3 a r d) = (m ((c : Thread nD τ).loc main_arg0) : FVec Ideal S8x8192x512 .f32) i := by
  have hi := index0 t
  unfold iblk
  rw [View.read_apply]
  show V m c main_arg0 _ = _
  rw [V_main_arg0]
  refine congrArg (m ((c : Thread nD τ).loc main_arg0) : FVec Ideal S8x8192x512 .f32) (funext fun x => Fin.ext ?_)
  match x with
  | ⟨0, _⟩ => show win0_0.index t 0 * 1 + 1 * a.val = (i 0).val
              rw [hi.1, h0]; omega
  | ⟨1, _⟩ => show win0_0.index t 1 * 512 + 1 * r.val = (i 1).val
              rw [hi.2.1, h1]; omega
  | ⟨2, _⟩ => show win0_0.index t 2 * 256 + 1 * d.val = (i 2).val
              rw [hi.2.2, h2]; omega

theorem block1 (c : Dev nD) (t : Fin cfg0.N) (a : Fin 1) (r : Fin 8192) (d : Fin 128) (i : S8x8192x256.Idx)
    (h0 : (i 0).val = t.val / 32) (h1 : (i 1).val = r.val) (h2 : (i 2).val = 128 * (t.val / 16 % 2) + d.val) :
    (iblk m c 1 t : FVec Ideal S1x8192x128 .bf16) (ix3 a r d) = (m ((c : Thread nD τ).loc main_arg1) : FVec Ideal S8x8192x256 .f32) i := by
  have hi := index1 t
  unfold iblk
  rw [View.read_apply]
  show V m c main_v0 _ = _
  rw [keys_eq]
  refine congrArg (m ((c : Thread nD τ).loc main_arg1) : FVec Ideal S8x8192x256 .f32) (funext fun x => Fin.ext ?_)
  match x with
  | ⟨0, _⟩ => show win0_1.index t 0 * 1 + 1 * a.val = (i 0).val
              rw [hi.1, h0]; omega
  | ⟨1, _⟩ => show win0_1.index t 1 * 8192 + 1 * r.val = (i 1).val
              rw [hi.2.1, h1]; omega
  | ⟨2, _⟩ => show win0_1.index t 2 * 128 + 1 * d.val = (i 2).val
              rw [hi.2.2, h2]; omega

theorem block2 (c : Dev nD) (t : Fin cfg0.N) (a : Fin 1) (r : Fin 8192) (d : Fin 128) (i : S8x8192x256.Idx)
    (h0 : (i 0).val = t.val / 32) (h1 : (i 1).val = r.val) (h2 : (i 2).val = 128 * (t.val / 16 % 2) + d.val) :
    (iblk m c 2 t : FVec Ideal S1x8192x128 .bf16) (ix3 a r d) = (m ((c : Thread nD τ).loc main_arg2) : FVec Ideal S8x8192x256 .f32) i := by
  have hi := index2 t
  unfold iblk
  rw [View.read_apply]
  show V m c main_v1 _ = _
  rw [values_eq]
  refine congrArg (m ((c : Thread nD τ).loc main_arg2) : FVec Ideal S8x8192x256 .f32) (funext fun x => Fin.ext ?_)
  match x with
  | ⟨0, _⟩ => show win0_2.index t 0 * 1 + 1 * a.val = (i 0).val
              rw [hi.1, h0]; omega
  | ⟨1, _⟩ => show win0_2.index t 1 * 8192 + 1 * r.val = (i 1).val
              rw [hi.2.1, h1]; omega
  | ⟨2, _⟩ => show win0_2.index t 2 * 128 + 1 * d.val = (i 2).val
              rw [hi.2.2, h2]; omega

/-- The result array. -/
abbrev result (c : Dev nD) : FVec Ideal S8x8192x512 .bf16 :=
  attended (m ((c : Thread nD τ).loc main_arg0)) (m ((c : Thread nD τ).loc main_arg1)) (m ((c : Thread nD τ).loc main_arg2))

/-- What a point computes is its block of the result. -/
theorem block_eq (c : Dev nD) (t : Fin cfg0.N) (a : Fin 1) (r : Fin 512) (d : Fin 256) (i : S8x8192x512.Idx)
    (h0 : (i 0).val = t.val / 32) (h1 : (i 1).val = 512 * (t.val % 16) + r.val) (h2 : (i 2).val = 256 * (t.val / 16 % 2) + d.val) :
    blockOut (F := Ideal) (iblk m c 0 t) (iblk m c 1 t) (iblk m c 2 t) (ix3 a r d) = result m c i := by
  obtain rfl : a = 0 := Subsingleton.elim _ _
  have hs : score (rows (F := Ideal) (iblk m c 0 t)) (iblk m c 1 t)
        ⟨(r.val + 512 * (d.val / 128)) % 1024, Nat.mod_lt _ (by norm_num)⟩
      = scoreAt (m ((c : Thread nD τ).loc main_arg0)) (m ((c : Thread nD τ).loc main_arg1)) (i 0) (i 1) (head (i 2)) := by
    funext n
    unfold score scoreAt
    refine Finset.sum_congr rfl fun e _ => ?_
    refine congrArg₂ (· * ·) ?_ (block1 m c t _ _ _ _ h0 rfl ?_)
    · unfold rows
      refine congrArg₂ (· * ·) (block0 m c t _ _ _ _ h0 ?_ ?_) scale_eq
      · show (i 1).val = 512 * (t.val % 16) + (r.val + 512 * (d.val / 128)) % 1024 % 512
        omega
      · show 128 * ((i 2).val / 128) + e.val
          = 256 * (t.val / 16 % 2) + (128 * ((r.val + 512 * (d.val / 128)) % 1024 / 512) + e.val) % 256
        omega
    · show 128 * ((i 2).val / 128 / 2) + e.val = 128 * (t.val / 16 % 2) + e.val
      omega
  have hv : factor (iblk m c 2 t : FVec Ideal S1x8192x128 .bf16) (d.val % 128)
      = valueAt (m ((c : Thread nD τ).loc main_arg2)) (i 0) (head (i 2)) ⟨(i 2).val % 128, Nat.mod_lt _ (by norm_num)⟩ := by
    funext n
    unfold factor valueAt
    rw [dif_pos (Nat.mod_lt _ (by norm_num))]
    refine block2 m c t _ _ _ _ h0 rfl ?_
    show 128 * ((i 2).val / 128 / 2) + (i 2).val % 128 = 128 * (t.val / 16 % 2) + d.val % 128
    omega
  rw [blockOut_apply, hs, hv]
  rfl

/-- What a point writes back is its block of the result. -/
theorem flushed_eq (c : Dev nD) (t : Fin cfg0.N) (_ : (cfg0.win 3).flush t = true) :
    (dats m 0 c).flushed 3 t = ((cfg0.win 3).blk t).view.read (Elt Ideal) (result m c) := by
  have hi := index3 t
  rw [Value.flushed3_A, out_eq]
  refine funext fun (j : S1x512x256.Idx) => ?_
  rw [View.read_apply]
  idx_vars j
  refine block_eq m c t j0 j1 j2 _ ?_ ?_ ?_
  · show win0_3.index t 0 * 1 + 1 * j0.val = _
    rw [hi.1]; omega
  · show win0_3.index t 1 * 512 + 1 * j1.val = _
    rw [hi.2.1]; omega
  · show win0_3.index t 2 * 256 + 1 * j2.val = _
    rw [hi.2.2]; omega

/-- The result array after the run. -/
theorem final (c : Dev nD) : (dats m 0 c).arrAt 3 cfg0.N = result m c :=
  (dats m 0 c).arrAt_eq_of_cover 3 (result m c) (flushed_eq m c) fun i => by
    have hN : cfg0.N = 256 := N_0
    have h0 : (i 0 : ℕ) < 8 := (i 0).isLt
    have h1 : (i 1 : ℕ) < 8192 := (i 1).isLt
    have h2 : (i 2 : ℕ) < 512 := (i 2).isLt
    let t : Fin cfg0.N := ⟨32 * (i 0).val + 16 * ((i 2).val / 256) + (i 1).val / 512, by rw [hN]; omega⟩
    have hi := index3 t
    have ht : t.val = 32 * (i 0).val + 16 * ((i 2).val / 256) + (i 1).val / 512 := rfl
    refine ⟨t, flush0_3 t, ?_⟩
    show i ∈ ((View.whole main_v2).slice (win0_3.rect t)).set
    rw [View.set_slice_whole, Rect.mem_set_unit]
    intro a
    match a with
    | ⟨0, _⟩ => show win0_3.index t 0 * 1 ≤ (i 0 : ℕ) ∧ (i 0 : ℕ) < win0_3.index t 0 * 1 + 1
                rw [hi.1]; omega
    | ⟨1, _⟩ => show win0_3.index t 1 * 512 ≤ (i 1 : ℕ) ∧ (i 1 : ℕ) < win0_3.index t 1 * 512 + 512
                rw [hi.2.1]; omega
    | ⟨2, _⟩ => show win0_3.index t 2 * 256 ≤ (i 2 : ℕ) ∧ (i 2 : ℕ) < win0_3.index t 2 * 256 + 256
                rw [hi.2.2]; omega

/-- The run: the result, and the arguments as they were. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelIdeal.Arrays

end
-- ==== Proof.AttentionReference.lean ====
/-
  THE ATTENTION'S REFERENCE AT AN INDEX, over the extended reals: the softmax of a query's scores over the values, the
  scores `(∑ k · q) / √128`.
-/
module

public import proofs.«01_k».proof.Proof.Gen.ReferenceIdeal.Run
public import proofs.«01_k».proof.Proof.Gen.ReferenceIdeal.Read
public import Idealize.ShloMosaic.Lib.Pointwise

@[expose] public section

set_option maxRecDepth 16384

noncomputable section

namespace Cert.ReferenceIdeal.Plain

open Cert.ReferenceIdeal Cert.ReferenceIdeal.Gen Cert.ReferenceIdeal.Read
open Idealize.ShloMosaic Idealize.ShloMosaic.TcCoe Idealize.SL.Sem

variable (Q : FVec Ideal S8x8192x512 .f32) (K W : FVec Ideal S8x8192x256 .f32)

/-- The score of query `r` of head `h` of batch entry `b` against key `i`. -/
def plainScore (b : Fin 8) (r : Fin 8192) (h : Fin 4) (i : ℕ) : EReal :=
  (∑ d : Fin 128, K (ix3 b (⟨i % 8192, Nat.mod_lt _ (by norm_num)⟩ : Fin 8192) (⟨128 * (h.val / 2) + d.val, by omega⟩ : Fin 256))
    * Q (ix3 b r (⟨128 * h.val + d.val, by omega⟩ : Fin 512))) * (((Real.sqrt 128)⁻¹ : ℝ) : EReal)

/-- Column `d` of the value of key `i`, for head `h` of batch entry `b`. -/
def plainValue (b : Fin 8) (h : Fin 4) (d : Fin 128) (i : ℕ) : EReal :=
  W (ix3 b (⟨i % 8192, Nat.mod_lt _ (by norm_num)⟩ : Fin 8192) (⟨128 * (h.val / 2) + d.val, by omega⟩ : Fin 256))

/-- The largest of a query's 8192 scores. -/
def plainMax (b : Fin 8) (r : Fin 8192) (h : Fin 4) : EReal :=
  (Finset.univ : Finset (Fin 8192)).fold max ⊥ fun i => plainScore Q K b r h i.val

/-- The head of a group and a place in it. -/
def headOf (g p : Fin 2) : Fin 4 := ⟨2 * g.val + p.val, by omega⟩

theorem minus_infinity : Ideal.ofBits .f32 0xFF800000#32 = ⊥ := by simp [Ideal.ofBits, Ideal.ieee]
theorem dimension : Ideal.ofBits .f32 0x43000000#32 = ((128 : ℝ) : EReal) := by
  simp [Ideal.ofBits, Ideal.ieee, -EReal.coe_mul]; norm_num

/-- The scaled scores. -/
theorem score_apply (i : S8x2x2x8192x8192.Idx) :
    val_main_v7 (F := Ideal) Q K i = plainScore Q K (i 0) (i 3) (headOf (i 1) (i 2)) (i 4).val := by
  rw [val_main_v7_apply, val_main_v6_apply, val_main_v5_apply, val_main_cst_apply, val_main_v4_apply, val_main_v3_apply]
  rw [Ideal.hostDivf_def, Ideal.hostUnary_sqrt_def, Ideal.ofBits_def, dimension, Ideal.sqrt_coe, if_neg (by norm_num),
    Ideal.div_coe (Real.sqrt_pos.mpr (by norm_num)).ne', one_div]
  unfold plainScore
  refine congrArg (· * _) (Finset.sum_congr rfl fun d _ => congrArg₂ (· * ·) ?_ ?_)
  · rw [val_main_v1_apply]
    have h0 : (i 0).val < 8 := (i 0).isLt
    have h1 : (i 1).val < 2 := (i 1).isLt
    have h2 : (i 2).val < 2 := (i 2).isLt
    have h4 : (i 4).val < 8192 := (i 4).isLt
    refine congrArg K (funext fun a => Fin.ext ?_)
    match a with
    | ⟨0, _⟩ => show ((((i 0).val * 8192 + (i 4).val) * 2 + (i 1).val) * 128 + d.val) / 2097152 = (i 0).val
                omega
    | ⟨1, _⟩ => show ((((i 0).val * 8192 + (i 4).val) * 2 + (i 1).val) * 128 + d.val) / 256 % 8192 = (i 4).val % 8192
                omega
    | ⟨2, _⟩ => show ((((i 0).val * 8192 + (i 4).val) * 2 + (i 1).val) * 128 + d.val) % 256
                  = 128 * ((2 * (i 1).val + (i 2).val) / 2) + d.val
                omega
  · rw [val_main_v0_apply]
    have h0 : (i 0).val < 8 := (i 0).isLt
    have h1 : (i 1).val < 2 := (i 1).isLt
    have h2 : (i 2).val < 2 := (i 2).isLt
    have h3 : (i 3).val < 8192 := (i 3).isLt
    refine congrArg Q (funext fun a => Fin.ext ?_)
    match a with
    | ⟨0, _⟩ => show (((((i 0).val * 8192 + (i 3).val) * 2 + (i 1).val) * 2 + (i 2).val) * 128 + d.val) / 4194304 = (i 0).val
                omega
    | ⟨1, _⟩ => show (((((i 0).val * 8192 + (i 3).val) * 2 + (i 1).val) * 2 + (i 2).val) * 128 + d.val) / 512 % 8192 = (i 3).val
                omega
    | ⟨2, _⟩ => show (((((i 0).val * 8192 + (i 3).val) * 2 + (i 1).val) * 2 + (i 2).val) * 128 + d.val) % 512
                  = 128 * (2 * (i 1).val + (i 2).val) + d.val
                omega

/-- The largest score of a query. -/
theorem max_apply (i : S8x2x2x8192.Idx) :
    val_main_v8 (F := Ideal) Q K i = plainMax Q K (i 0) (i 3) (headOf (i 1) (i 2)) := by
  unfold val_main_v8
  have h : S8x2x2x8192x8192.Reduces [4] S8x2x2x8192 := by decide
  rw [Host.reduce_eq_fold_single _ _ _ _ h]
  refine (congrArg (Finset.fold max · _ _) minus_infinity).trans (congrArg (Finset.fold max ⊥ · _) (funext fun k => ?_))
  show val_main_v7 (F := Ideal) Q K (h.lift i k) = _
  rw [score_apply]
  rfl

/-- The weight of a key. -/
theorem weight_apply (i : S8x2x2x8192x8192.Idx) :
    val_main_v12 (F := Ideal) Q K i = Ideal.exp (plainScore Q K (i 0) (i 3) (headOf (i 1) (i 2)) (i 4).val
      - plainMax Q K (i 0) (i 3) (headOf (i 1) (i 2))) := by
  rw [val_main_v12_apply, val_main_v11_apply, score_apply, val_main_v10_apply, val_main_v9_apply, max_apply]
  rfl

/-- The reference's result at an index. -/
theorem result_apply (i : S8x8192x512.Idx) :
    val_main_v21 (F := Ideal) Q K W i
      = Ideal.div
          (∑ k : Fin 8192, plainValue W (i 0) ⟨(i 2).val / 128, by have := (i 2).isLt; show _ < 4; change (i 2).val < 512 at this; omega⟩
              ⟨(i 2).val % 128, Nat.mod_lt _ (by norm_num)⟩ k.val
            * Ideal.exp (plainScore Q K (i 0) (i 1) ⟨(i 2).val / 128, by have := (i 2).isLt; show _ < 4; change (i 2).val < 512 at this; omega⟩ k.val
              - plainMax Q K (i 0) (i 1) ⟨(i 2).val / 128, by have := (i 2).isLt; show _ < 4; change (i 2).val < 512 at this; omega⟩))
          (∑ k : Fin 8192, Ideal.exp (plainScore Q K (i 0) (i 1) ⟨(i 2).val / 128, by have := (i 2).isLt; show _ < 4; change (i 2).val < 512 at this; omega⟩ k.val
              - plainMax Q K (i 0) (i 1) ⟨(i 2).val / 128, by have := (i 2).isLt; show _ < 4; change (i 2).val < 512 at this; omega⟩)) := by
  have h0 : (i 0).val < 8 := (i 0).isLt
  have h1 : (i 1).val < 8192 := (i 1).isLt
  have h2 : (i 2).val < 512 := (i 2).isLt
  have e0 : (idx_main_v20 i 0) = i 0 := Fin.ext (by show (((i 0).val * 8192 + (i 1).val) * 512 + (i 2).val) / 4194304 = _; omega)
  have e1 : (idx_main_v20 i 1) = i 1 := Fin.ext (by show (((i 0).val * 8192 + (i 1).val) * 512 + (i 2).val) / 512 % 8192 = _; omega)
  have e4 : (idx_main_v20 i 4) = (⟨(i 2).val % 128, Nat.mod_lt _ (by norm_num)⟩ : Fin 128) :=
    Fin.ext (by show (((i 0).val * 8192 + (i 1).val) * 512 + (i 2).val) % 128 = (i 2).val % 128; omega)
  have eh : headOf (idx_main_v20 i 2) (idx_main_v20 i 3) = ⟨(i 2).val / 128, by omega⟩ :=
    Fin.ext (by show 2 * ((((i 0).val * 8192 + (i 1).val) * 512 + (i 2).val) / 256 % 2)
                  + (((i 0).val * 8192 + (i 1).val) * 512 + (i 2).val) / 128 % 2 = (i 2).val / 128; omega)
  rw [val_main_v21_apply, val_main_v20_apply, val_main_v19_apply]
  generalize idx_main_v20 i = y at e0 e1 e4 eh ⊢
  rw [val_main_v17_apply, val_main_v16_apply, val_main_v18_apply, val_main_v15_apply, val_main_v14_apply, val_main_v13_apply,
    ← e0, ← e1, ← e4, ← eh]
  simp only [weight_apply]
  refine congrArg₂ Ideal.div (Finset.sum_congr rfl fun k _ => congrArg₂ (· * ·) ?_ rfl) ?_
  · rw [val_main_v2_apply]
    have h0 : (y 0).val < 8 := (y 0).isLt
    have h2 : (y 2).val < 2 := (y 2).isLt
    have h3 : (y 3).val < 2 := (y 3).isLt
    have h4 : (y 4).val < 128 := (y 4).isLt
    unfold plainValue
    refine congrArg W (funext fun a => Fin.ext ?_)
    match a with
    | ⟨0, _⟩ => show ((((y 0).val * 8192 + k.val) * 2 + (y 2).val) * 128 + (y 4).val) / 2097152 = (y 0).val
                omega
    | ⟨1, _⟩ => show ((((y 0).val * 8192 + k.val) * 2 + (y 2).val) * 128 + (y 4).val) / 256 % 8192 = k.val % 8192
                omega
    | ⟨2, _⟩ => show ((((y 0).val * 8192 + k.val) * 2 + (y 2).val) * 128 + (y 4).val) % 256
                  = 128 * ((2 * (y 2).val + (y 3).val) / 2) + (y 4).val
                omega
  · rw [val_main_cst_1_apply]
    refine (congrArg (· + _) (show FloatOps.ofBits (F := Ideal) .f32 0x00000000#32 = (0 : EReal) from ?_)).trans (zero_add _)
    exact Ideal.ofBits_zero_f32

end Cert.ReferenceIdeal.Plain

end
-- ==== Proof.AttentionEquation.lean ====
/-
  THE ATTENTION'S EQUATION: the kernel scores in powers of two, its queries scaled by `1 / (log 2 · √128)`; the reference
  in powers of `e`, its scores divided by `√128`. Each of the kernel's scores is `1 / log 2` times the reference's, so each
  term of the one sum is the same term of the other.
-/
module

public import proofs.«01_k».proof.Proof.AttentionArray
public import proofs.«01_k».proof.Proof.AttentionReference

@[expose] public section

set_option maxRecDepth 16384

noncomputable section

namespace Cert.AttentionEquation

open Cert.KernelIdeal.Arrays Cert.ReferenceIdeal.Plain Attention
open Idealize.ShloMosaic Idealize.ShloMosaic.TcCoe Idealize.SL.Sem

/-- The base two's share of the kernel's scale. -/
abbrev perLog : ℝ := (Real.log 2)⁻¹

theorem perLog_pos : 0 < perLog := inv_pos.mpr (Real.log_pos (by norm_num))

variable (Q : FVec Ideal Cert.KernelIdeal.S8x8192x512 .f32) (K W : FVec Ideal Cert.KernelIdeal.S8x8192x256 .f32)

/-- The kernel's score is `1 / log 2` times the reference's. -/
theorem score_eq (b : Fin 8) (r : Fin 8192) (h : Fin 4) (i : ℕ) :
    scoreAt Q K b r h i = (perLog : EReal) * plainScore Q K b r h i := by
  have hs : 0 ≤ scale := EReal.coe_nonneg.mpr (mul_nonneg perLog_pos.le (inv_nonneg.mpr (Real.sqrt_nonneg _)))
  have hm : scale = (perLog : EReal) * (((Real.sqrt 128)⁻¹ : ℝ) : EReal) := EReal.coe_mul _ _
  unfold scoreAt plainScore
  rw [mul_comm (∑ _ : Fin 128, _), ← mul_assoc, ← hm, mul_sum_of_nonneg _ hs (EReal.coe_ne_top _)]
  refine Finset.sum_congr rfl fun d _ => ?_
  rw [mul_comm (Q _) scale, mul_assoc, mul_comm (Q _)]

/-- And so the largest. -/
theorem max_eq (b : Fin 8) (r : Fin 8192) (h : Fin 4) :
    top (scoreAt Q K b r h) 8192 = (perLog : EReal) * plainMax Q K b r h := by
  have hp : plainMax Q K b r h = top (plainScore Q K b r h) 8192 := by
    have e := top_add (plainScore Q K b r h) 0 8192
    rw [top_zero, max_eq_right bot_le] at e
    simp only [Nat.zero_add] at e
    exact e
  rw [hp]
  unfold top
  rw [← sup_scale _ perLog_pos]
  exact Finset.sup_congr rfl fun i _ => score_eq Q K b r h i

/-- The kernel's sum is the reference's. -/
theorem total_eq (w : ℕ → EReal) (b : Fin 8) (r : Fin 8192) (h : Fin 4) :
    total (scoreAt Q K b r h) w 8192
      = ∑ k : Fin 8192, w k.val * Ideal.exp (plainScore Q K b r h k.val - plainMax Q K b r h) := by
  unfold total
  rw [Finset.sum_range]
  refine Finset.sum_congr rfl fun k _ => ?_
  rw [max_eq, score_eq, exp2_scaled, mul_comm]

/-- The two programs' results are one array. -/
theorem result_eq : Cert.ReferenceIdeal.Read.val_main_v21 (F := Ideal) Q K W = attended Q K W := by
  refine funext fun (i : Cert.KernelIdeal.S8x8192x512.Idx) => ?_
  refine (result_apply Q K W i).trans (congrArg₂ Ideal.div ?_ ?_)
  · exact (total_eq Q K _ (i 0) (i 1) (head (i 2))).symm
  · exact (Finset.sum_congr rfl fun k _ => (one_mul _).symm).trans (total_eq Q K (fun _ => 1) (i 0) (i 1) (head (i 2))).symm

end Cert.AttentionEquation

end
-- ==== Proof.AttentionClaims.lean ====
/-
  The attention's claims: the frames, the named constant, and the equality with the reference.
-/
module

public import proofs.«01_k».proof.Defs
public import proofs.«01_k».proof.Proof.AttentionEquation
public import proofs.«01_k».proof.Proof.Gen.Kernel.Frame
public import Idealize.ShloMosaic.Lib.Quiescent

@[expose] public section

noncomputable section

namespace Cert.Proof.AttentionClaims

open Idealize.ShloMosaic Idealize.ShloMosaic.TcCoe Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one named constant. -/
theorem preserves : Cert.preserves_Kernel_KernelIdeal :=
  IdealRules.named_const.statement Cert.KernelIdeal.κ "q_scale" .f32 0x3E0293EE#32
    (((Real.log 2)⁻¹ * (Real.sqrt 128)⁻¹ : ℝ) : EReal) rfl

theorem algebraic : Cert.algebraic_KernelIdeal_ReferenceIdeal := by
  intro m ρ m' ρ' _ hagree
  refine ⟨_, Cert.KernelIdeal.Arrays.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v21_eq (F := Ideal) _ _ _).trans (Cert.AttentionEquation.result_eq _ _ _)

end Cert.Proof.AttentionClaims

end
-- ==== Proof.MoeBlock.lean ====
/-
  ONE STEP OF THE MIXTURE OF EXPERTS' KERNEL.

  A block holds 1024 tokens, and a step takes eight experts: `expert e j` is the `j`th one's activation (`hidden`, `gated`)
  weighted by the token's gate, which a rotation of the gates' columns brings to the first column. `step` sums the eight
  experts' products with their second weights. The first step starts the running sum at `bias`, the gates times the biases
  (which the kernel splits in two); each step adds its `step` (`first_step`, `middle_step`, `last_step`), and the last one
  stores `blockOut`, the residual plus the sum scaled.
-/
module

public import proofs.«01_k».proof.Proof.Gen.Kernel2Ideal.Frame
public import Idealize.ShloMosaic.Lib.Pipeline.Value
public import Idealize.ShloMosaic.Lib.Pipeline.ValueKit.Tiles
public import Idealize.ShloMosaic.Lib.Pointwise

@[expose] public section

set_option maxRecDepth 16384

noncomputable section

namespace Cert.Kernel2Ideal.Block

open Cert.Kernel2Ideal Cert.Kernel2Ideal.Gen
open Idealize.ShloMosaic Idealize.ShloMosaic.TcCoe Idealize.SL.Sem

variable {F : FTy → Type} [FloatOps F]

/-- The `j`th of the step's eight first weights. -/
def weights (x : Vec F S8x1024x512 .bf16) (j : ℕ) : Vec F S1x1024x512 .bf16 := fun i =>
  x (ix3 (⟨j % 8, Nat.mod_lt _ (by norm_num)⟩ : Fin 8) (i 1) (i 2))

/-- The `j`th of the step's eight first biases. -/
def biases (x : Vec F S8x1x512 .f32) (j : ℕ) : Vec F S1x1x512 .f32 := fun i =>
  x (ix3 (⟨j % 8, Nat.mod_lt _ (by norm_num)⟩ : Fin 8) (i 1) (i 2))

/-- The tokens through an expert's first layer: 256 columns of gates, then 256 of linear parts. -/
def hidden (n : Vec F S1x1024x1024 .bf16) (w : Vec F S1x1024x512 .bf16) (b : Vec F S1x1x512 .f32) : FVec F S1024x512 .f32 :=
  addf (matmul dot_S1024x1024_S1024x512_S1024x512_1_0_0_1_n_n none
      (shapeCast S1024x1024 n shapeCasts_S1x1024x1024_S1024x1024) (shapeCast S1024x512 w shapeCasts_S1x1024x512_S1024x512)
      (constant S1024x512 .f32 0x00000000#32))
    (broadcastTo S1024x512 (shapeCast S1x512 b shapeCasts_S1x1x512_S1x512) broadcasts_S1x512_S1024x512)

/-- The smaller of the gates' columns and 7. -/
def limited (h : FVec F S1024x512 .f32) : FVec F S1024x256 .f32 :=
  minimumf (extractStridedSlice S1024x256 ![0, 0] h slices_S1024x512_o0_0_S1024x256)
    (broadcast S1024x256 (Scalar.ofBits .f32 0x40E00000#32))

/-- The clamped gated unit. -/
def gated (h : FVec F S1024x512 .f32) : FVec F S1024x256 .f32 :=
  mulf (mulf (limited h) (logistic (mulf (broadcast S1024x256 (Scalar.ofBits .f32 0x3FD9DB23#32)) (limited h))))
    (addf (minimumf (broadcast S1024x256 (Scalar.ofBits .f32 0x40E00000#32))
        (maximumf (broadcast S1024x256 (Scalar.ofBits .f32 0xC0E00000#32))
          (extractStridedSlice S1024x256 ![0, 256] h slices_S1024x512_o0_256_S1024x256)))
      (broadcast S1024x256 (Scalar.ofBits .f32 0x3F800000#32)))

/-- How far the gates' columns are rotated for the `j`th expert of step `e`. -/
def shift (e j : BitVec 32) : BitVec 32 :=
  Scalar.andi (Scalar.subi 128#32 (Scalar.addi (Scalar.muli e 8#32) j)) 127#32

/-- The `j`th expert's gate of each token, in every column. -/
def gate (e j : BitVec 32) (g : Vec F S1x1024x128 .f32) : FVec F S1024x256 .f32 :=
  broadcastTo S1024x256 (extractStridedSlice S1024x1 ![0, 0]
    (dynamicRotate 1 (shift e j) none (shapeCast S1024x128 g shapeCasts_S1x1024x128_S1024x128) rotates_S1024x128_d1)
    slices_S1024x128_o0_0_S1024x1) broadcasts_S1024x1_S1024x256

/-- The `j`th expert's activation, weighted by its gate. -/
def expert (e j : BitVec 32) (n : Vec F S1x1024x1024 .bf16) (g : Vec F S1x1024x128 .f32) (w : Vec F S1x1024x512 .bf16)
    (b : Vec F S1x1x512 .f32) : FVec F S1024x256 .bf16 :=
  truncf .bf16 (mulf (gated (hidden n w b)) (gate e j g)) bitsLt_bf16_f32

/-- The eight experts' activations side by side. -/
def experts (e : BitVec 32) (n : Vec F S1x1024x1024 .bf16) (g : Vec F S1x1024x128 .f32) (w : Vec F S8x1024x512 .bf16)
    (b : Vec F S8x1x512 .f32) : FVec F S1024x2048 .bf16 :=
  concatenate S1024x2048 1 [
    ⟨S1024x256, expert e 0#32 n g (weights w 0) (biases b 0)⟩,
    ⟨S1024x256, expert e 1#32 n g (weights w 1) (biases b 1)⟩,
    ⟨S1024x256, expert e 2#32 n g (weights w 2) (biases b 2)⟩,
    ⟨S1024x256, expert e 3#32 n g (weights w 3) (biases b 3)⟩,
    ⟨S1024x256, expert e 4#32 n g (weights w 4) (biases b 4)⟩,
    ⟨S1024x256, expert e 5#32 n g (weights w 5) (biases b 5)⟩,
    ⟨S1024x256, expert e 6#32 n g (weights w 6) (biases b 6)⟩,
    ⟨S1024x256, expert e 7#32 n g (weights w 7) (biases b 7)⟩] concatenates_S1024x256_S1024x256_S1024x256_S1024x256_S1024x256_S1024x256_S1024x256_S1024x256_S1024x2048_d1

/-- What the eight experts of a step add. -/
def step (e : BitVec 32) (n : Vec F S1x1024x1024 .bf16) (g : Vec F S1x1024x128 .f32) (w : Vec F S8x1024x512 .bf16)
    (b : Vec F S8x1x512 .f32) (d : Vec F S8x256x1024 .bf16) : FVec F S1024x1024 .f32 :=
  matmul dot_S1024x2048_S2048x1024_S1024x1024_1_0_0_1_n_n none (experts e n g w b)
    (shapeCast S2048x1024 d shapeCasts_S8x256x1024_S2048x1024) (constant S1024x1024 .f32 0x00000000#32)

/-- The gates times the biases' leading and trailing halves. -/
def bias (g : Vec F S1x1024x128 .f32) (b : Vec F S128x1024 .f32) : FVec F S1024x1024 .f32 :=
  addf
    (matmul dot_S1024x128_S128x1024_S1024x1024_1_0_0_1_n_n none
      (truncf .bf16 (shapeCast S1024x128 g shapeCasts_S1x1024x128_S1024x128) bitsLt_bf16_f32)
      (truncf .bf16 b bitsLt_bf16_f32) (constant S1024x1024 .f32 0x00000000#32))
    (matmul dot_S1024x128_S128x1024_S1024x1024_1_0_0_1_n_n none
      (truncf .bf16 (shapeCast S1024x128 g shapeCasts_S1x1024x128_S1024x128) bitsLt_bf16_f32)
      (truncf .bf16 (subf b (extf .f32 (truncf .bf16 b bitsLt_bf16_f32) bitsLt_bf16_f32)) bitsLt_bf16_f32)
      (constant S1024x1024 .f32 0x00000000#32))

/-- What the last step stores: the residual plus the sum scaled by the sixth of the block's six rows. -/
def blockOut (x : Vec F S1x1024x1024 .f32) (mod : Vec F S1x6x1024 .f32) (a : FVec F S1024x1024 .f32) : Vec F S1x1024x1024
  .f32 :=
  shapeCast S1x1024x1024 (addf (shapeCast S1024x1024 x shapeCasts_S1x1024x1024_S1024x1024)
    (mulf (broadcastTo S1024x1024 (fun i => mod (ix3 (0 : Fin 1) (5 : Fin 6) (i 1))) broadcasts_S1x1024_S1024x1024) a))
    shapeCasts_S1024x1024_S1x1024x1024

theorem zero2 : (![0, 0] : Fin 2 → ℕ) = fun _ => 0 := funext fun a => by fin_cases a <;> rfl

theorem zero3 : (![0, 0, 0] : Fin 3 → ℕ) = fun _ => 0 := funext fun a => by fin_cases a <;> rfl

/-- A load of one expert's first weights. -/
theorem load_weights (a : Memref sig .tc .vmem S8x1024x512 .bf16) (ha : a.IsWhole) (x : Vec F S8x1024x512 .bf16) (o : ℕ)
    (inb : ∀ b, (![o, 0, 0] : Fin 3 → ℕ) b + S1x1024x512.size b ≤ S8x1024x512.size b) :
    View.readAt (Elt F) a.view (Rect.unit (s := S8x1024x512) ![o, 0, 0] S1x1024x512.size inb).toLoadRect (ha.unread x) =
      weights x o := by
  have ho : o + 1 ≤ 8 := inb 0
  rw [View.readAt_eq_ld, ha.read_unread]
  funext j
  refine View.ld_unit_apply_of x _ _ _ j _ fun b => ?_
  match b with
  | ⟨0, _⟩ => have h0 : (j 0).val < 1 := (j 0).isLt
              show o % 8 = o + (j 0).val
              omega
  | ⟨1, _⟩ => show (j 1).val = 0 + (j 1).val
              omega
  | ⟨2, _⟩ => show (j 2).val = 0 + (j 2).val
              omega

/-- A load of one expert's first bias. -/
theorem load_bias (a : Memref sig .tc .vmem S8x1x512 .f32) (ha : a.IsWhole) (x : Vec F S8x1x512 .f32) (o : ℕ)
    (inb : ∀ b, (![o, 0, 0] : Fin 3 → ℕ) b + S1x1x512.size b ≤ S8x1x512.size b) :
    View.readAt (Elt F) a.view (Rect.unit (s := S8x1x512) ![o, 0, 0] S1x1x512.size inb).toLoadRect (ha.unread x) = biases
      x o := by
  have ho : o + 1 ≤ 8 := inb 0
  rw [View.readAt_eq_ld, ha.read_unread]
  funext j
  refine View.ld_unit_apply_of x _ _ _ j _ fun b => ?_
  match b with
  | ⟨0, _⟩ => have h0 : (j 0).val < 1 := (j 0).isLt
              show o % 8 = o + (j 0).val
              omega
  | ⟨1, _⟩ => show (j 1).val = 0 + (j 1).val
              omega
  | ⟨2, _⟩ => show (j 2).val = 0 + (j 2).val
              omega

/-- A load of the sixth of the block's six rows. -/
theorem load_row (a : Memref sig .tc .vmem S1x6x1024 .f32) (ha : a.IsWhole) (x : Vec F S1x6x1024 .f32) (inb) :
    View.readAt (Elt F) a.view (Rect.unit (s := S1x6x1024) ![0, 5, 0] S1x1x1024.size inb).toLoadRect (ha.unread x)
      = fun j : S1x1x1024.Idx => x (ix3 (0 : Fin 1) (5 : Fin 6) (j 2)) := by
  rw [View.readAt_eq_ld, ha.read_unread]
  funext j
  refine View.ld_unit_apply_of x _ _ _ j _ fun b => ?_
  match b with
  | ⟨0, _⟩ => have h0 : (j 0).val < 1 := (j 0).isLt
              show 0 = 0 + (j 0).val
              omega
  | ⟨1, _⟩ => have h1 : (j 1).val < 1 := (j 1).isLt
              show 5 = 5 + (j 1).val
              omega
  | ⟨2, _⟩ => show (j 2).val = 0 + (j 2).val
              omega

variable (c : Dev nD) (i : grid0.Coords)
  (arg3 : Memref sig .tc .vmem S1x1024x1024 .bf16) (harg3 : arg3.IsWhole)
  (arg4 : Memref sig .tc .vmem S1x1024x128 .f32) (harg4 : arg4.IsWhole)
  (arg5 : Memref sig .tc .vmem S1x1024x1024 .f32) (harg5 : arg5.IsWhole)
  (arg6 : Memref sig .tc .vmem S1x6x1024 .f32) (harg6 : arg6.IsWhole)
  (arg7 : Memref sig .tc .vmem S8x1024x512 .bf16) (harg7 : arg7.IsWhole)
  (arg8 : Memref sig .tc .vmem S8x1x512 .f32) (harg8 : arg8.IsWhole)
  (arg9 : Memref sig .tc .vmem S8x256x1024 .bf16) (harg9 : arg9.IsWhole)
  (arg10 : Memref sig .tc .vmem S128x1024 .f32) (harg10 : arg10.IsWhole)
  (arg11 : Memref sig .tc .vmem S1x1024x1024 .f32) (harg11 : arg11.IsWhole)
  (arg12 : Memref sig .tc .vmem S1024x1024 .f32) (harg12 : arg12.IsWhole)
  (x0 : Vec F S1x1024x1024 .bf16)
  (x1 : Vec F S1x1024x128 .f32)
  (x2 : Vec F S1x1024x1024 .f32)
  (x3 : Vec F S1x6x1024 .f32)
  (x4 : Vec F S8x1024x512 .bf16)
  (x5 : Vec F S8x1x512 .f32)
  (x6 : Vec F S8x256x1024 .bf16)
  (x7 : Vec F S128x1024 .f32)

/-- The body's own words for a step's sum. -/
theorem step_eq (e : BitVec 32) (x0 : Vec F S1x1024x1024 .bf16) (x1 : Vec F S1x1024x128 .f32) (x4 : Vec F S8x1024x512 .bf16)
    (x5 : Vec F S8x1x512 .f32) (x6 : Vec F S8x256x1024 .bf16) (a : FVec F S1024x1024 .f32) :
    k0_pay22 e (k0_pay1 x1)
      (k0_pay5 (k0_pay1 x1) (k0_pay4 x0 (weights x4 0) (biases x5 0))
        (Scalar.subi 128#32 (Scalar.addi (Scalar.muli e 8#32) 0#32)) 127#32)
      (k0_pay6 e (k0_pay1 x1) (k0_pay3 x0) (weights x4 1) (biases x5 1))
      (k0_pay8 e (k0_pay1 x1) (k0_pay7 (k0_pay3 x0) (weights x4 2)) (biases x5 2))
      (k0_pay12 e (k0_pay1 x1) (k0_pay10 (k0_pay3 x0) (weights x4 3) (biases x5 3))
        (k0_pay11 (k0_pay3 x0) (weights x4 3) (biases x5 3)) (Scalar.ofBits .f32 0xC0E00000#32))
      (k0_pay16 e (k0_pay1 x1) (k0_pay14 (k0_pay3 x0) (weights x4 4) (biases x5 4))
        (k0_pay15 (k0_pay3 x0) (weights x4 4) (biases x5 4)))
      (k0_pay18 (k0_pay17 e (k0_pay1 x1) (k0_pay3 x0) (weights x4 5) (biases x5 5)))
      (k0_pay19 e (k0_pay1 x1) (k0_pay3 x0) (weights x4 6) (biases x5 6))
      (k0_pay20 (k0_pay3 x0) (weights x4 7)) (k0_pay21 (biases x5 7)) a x6
      = addf a (step e x0 x1 x4 x5 x6) := by
  simp only [k0_pay1, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, shapeCast_self]
  rfl

open Cert.Kernel2Ideal.Gen.kernelRun0_A.sl in
/-- The first step reads the biases' sum back. -/
theorem start_eq : v255 c arg4 harg4 arg10 harg10 arg12 x1 x7 = bias x1 x7 := by
  unfold v255 HS0_1
  rw [View.readCov_cons_toLoadRect]
  simp only [View.readAt_eq_ld, harg4.read_unread, harg10.read_unread, View.ld_unit_zero (S := S1x1024x128) zero3,
    View.ld_unit_zero (S := S128x1024) zero2]
  simp only [k0_pay2, k0_pay1, shapeCast_self]
  rfl

open Cert.Kernel2Ideal.Gen.kernelRun0_A.sl in
/-- The first step leaves the biases' sum plus its own. -/
theorem first_step (hc0 : cond0_0 i) (hc1 : ¬cond0_1 i) :
    sout0_A_0 c i arg3 harg3 arg4 harg4 arg5 harg5 arg6 harg6 arg7 harg7 arg8 harg8 arg9 harg9 arg10 harg10 arg11 harg11
      arg12 harg12
      hc0 hc1 x0 x1 x2 x3 x4 x5 x6 x7
      = addf (bias x1 x7) (step (BitVec.ofNat 32 (i 2).val) x0 x1 x4 x5 x6) := by
  unfold sout0_A_0
  rw [View.read_writes_eq_canon _ _ _ (scover0_A_0 c i arg3 harg3 arg4 harg4 arg5 harg5 arg6 harg6 arg7 harg7 arg8 harg8
    arg9 harg9 arg10 harg10 arg11 harg11 arg12 harg12
    hc0 hc1 x0 x1 x2 x3 x4 x5 x6 x7)]
  unfold kernelRun0_A
  dsimp only
  refine (View.canon_cons_unit_zero (S := S1024x1024) zero2 _ _ _).trans ?_
  rw [start_eq]
  simp only [v31, v30, v29, cst_53, r, r_1, r_2, r_3, r_4, r_5, r_6, r_7, r_8, r_9, r_10, r_11, r_12, r_13, r_14, r_15,
    r_16, r_17,
    load_weights arg7 harg7 x4, load_bias arg8 harg8 x5,
    View.readAt_eq_ld, harg3.read_unread, harg4.read_unread, harg9.read_unread,  View.ld_unit_zero (S := S1x1024x1024)
      zero3, View.ld_unit_zero (S := S1x1024x128) zero3, View.ld_unit_zero (S := S8x256x1024) zero3, View.ld_unit_zero (S
      := S1024x1024) zero2]
  exact step_eq _ x0 x1 x4 x5 x6 _

open Cert.Kernel2Ideal.Gen.kernelRun0_B.sl in
/-- A middle step adds its own. -/
theorem middle_step (hc0 : ¬cond0_0 i) (hc1 : ¬cond0_1 i) (xs0 : Vec F S1024x1024 .f32) :
    sout0_B_0 c i arg3 harg3 arg4 harg4 arg5 harg5 arg6 harg6 arg7 harg7 arg8 harg8 arg9 harg9 arg10 harg10 arg11 harg11
      arg12 harg12
      hc0 hc1 x0 x1 x2 x3 x4 x5 x6 x7 xs0
      = addf xs0 (step (BitVec.ofNat 32 (i 2).val) x0 x1 x4 x5 x6) := by
  unfold sout0_B_0
  rw [View.read_writes_eq_canon _ _ _ (scover0_B_0 c i arg3 harg3 arg4 harg4 arg5 harg5 arg6 harg6 arg7 harg7 arg8 harg8
    arg9 harg9 arg10 harg10 arg11 harg11 arg12 harg12
    hc0 hc1 x0 x1 x2 x3 x4 x5 x6 x7 xs0)]
  unfold kernelRun0_B
  dsimp only
  refine (View.canon_cons_unit_zero (S := S1024x1024) zero2 _ _ _).trans ?_
  simp only [v31, v30, v29, cst_53, r, r_1, r_2, r_3, r_4, r_5, r_6, r_7, r_8, r_9, r_10, r_11, r_12, r_13, r_14, r_15,
    r_16, r_17,
    load_weights arg7 harg7 x4, load_bias arg8 harg8 x5,
    View.readAt_eq_ld, harg3.read_unread, harg4.read_unread, harg9.read_unread, harg12.read_unread, View.ld_unit_zero (S
      := S1x1024x1024) zero3, View.ld_unit_zero (S := S1x1024x128) zero3, View.ld_unit_zero (S := S8x256x1024) zero3,
      View.ld_unit_zero (S := S1024x1024) zero2]
  exact step_eq _ x0 x1 x4 x5 x6 _

open Cert.Kernel2Ideal.Gen.kernelRun0_C.sl in
/-- The last step's sum, read back. -/
theorem last_step (xs0 : Vec F S1024x1024 .f32) :
    v272 c i arg3 harg3 arg4 harg4 arg7 harg7 arg8 harg8 arg9 harg9 arg12 harg12 x0 x1 x4 x5 x6 xs0
      = addf xs0 (step (BitVec.ofNat 32 (i 2).val) x0 x1 x4 x5 x6) := by
  unfold v272 HS0_1
  rw [View.readCov_cons_toLoadRect]
  simp only [v31, v30, v29, cst_53, r, r_1, r_2, r_3, r_4, r_5, r_6, r_7, r_8, r_9, r_10, r_11, r_12, r_13, r_14, r_15,
    r_16, r_17,
    load_weights arg7 harg7 x4, load_bias arg8 harg8 x5,
    View.readAt_eq_ld, harg3.read_unread, harg4.read_unread, harg9.read_unread, harg12.read_unread, View.ld_unit_zero (S
      := S1x1024x1024) zero3, View.ld_unit_zero (S := S1x1024x128) zero3, View.ld_unit_zero (S := S8x256x1024) zero3,
      View.ld_unit_zero (S := S1024x1024) zero2]
  exact step_eq _ x0 x1 x4 x5 x6 _

/-- What the last step stores. -/
theorem out_eq (hc0 : ¬cond0_0 i) (hc1 : cond0_1 i) (xs0 : Vec F S1024x1024 .f32) :
    out0_C_8 c i arg3 harg3 arg4 harg4 arg5 harg5 arg6 harg6 arg7 harg7 arg8 harg8 arg9 harg9 arg10 harg10 arg11 harg11
      arg12 harg12
      hc0 hc1 x0 x1 x2 x3 x4 x5 x6 x7 xs0
      = blockOut x2 x3 (addf xs0 (step (BitVec.ofNat 32 (i 2).val) x0 x1 x4 x5 x6)) := by
  unfold out0_C_8
  rw [View.read_writes_eq_canon _ _ _ (cover0_C_8 c i arg3 harg3 arg4 harg4 arg5 harg5 arg6 harg6 arg7 harg7 arg8 harg8
    arg9 harg9 arg10 harg10 arg11 harg11 arg12 harg12
    hc0 hc1 x0 x1 x2 x3 x4 x5 x6 x7 xs0)]
  unfold kernelRun0_C
  dsimp only
  refine (View.canon_cons_unit_zero (S := S1x1024x1024) zero3 _ _ _).trans ?_
  rw [last_step, load_row]
  simp only [View.readAt_eq_ld, harg5.read_unread, View.ld_unit_zero (S := S1x1024x1024) zero3]
  simp only [k0_pay23, blockOut]
  refine congrArg (fun y => shapeCast S1x1024x1024 (addf _ (mulf (broadcastTo S1024x1024 y _) _)) _) ?_
  funext j
  idx_vars j
  pointwise []

end Cert.Kernel2Ideal.Block

end
-- ==== Proof.MoeSteps.lean ====
/-
  ONE STEP'S ENTRIES, over the extended reals: an expert's activation is the gated unit of its two columns times the
  token's gate, a step adds 2048 of them times the second weights, and the two halves of a finite bias add up to the bias.
-/
module

public import proofs.«01_k».proof.Proof.MoeBlock
public import Idealize.ShloMosaic.Lib.KernelVsHost

@[expose] public section

set_option maxRecDepth 16384

noncomputable section

namespace Cert.Kernel2Ideal.Block

open Cert.Kernel2Ideal Cert.Kernel2Ideal.Gen
open Idealize.ShloMosaic Idealize.ShloMosaic.TcCoe Idealize.SL.Sem

/-- The clamped gated unit of a gate `a` and a linear part `l`. -/
def unit (a l : EReal) : EReal :=
  min a (Ideal.ofBits .f32 0x40E00000#32)
      * Ideal.logistic (Ideal.ofBits .f32 0x3FD9DB23#32 * min a (Ideal.ofBits .f32 0x40E00000#32))
    * (min (Ideal.ofBits .f32 0x40E00000#32) (max (Ideal.ofBits .f32 0xC0E00000#32) l) + Ideal.ofBits .f32 0x3F800000#32)

/-- Column `k` of a token's first layer. -/
def up (n : FVec Ideal S1x1024x1024 .bf16) (w : FVec Ideal S1x1024x512 .bf16) (b : FVec Ideal S1x1x512 .f32)
    (r : Fin 1024) (k : Fin 512) : EReal :=
  ∑ d : Fin 1024, n (ix3 (0 : Fin 1) r d) * w (ix3 (0 : Fin 1) d k) + b (ix3 (0 : Fin 1) (0 : Fin 1) k)

theorem hidden_apply (n : FVec Ideal S1x1024x1024 .bf16) (w : FVec Ideal S1x1024x512 .bf16) (b : FVec Ideal S1x1x512 .f32)
    (r : Fin 1024) (k : Fin 512) : hidden (F := Ideal) n w b (ix2 r k) = up n w b r k := by
  pointwise [hidden, up]

theorem gated_apply (h : FVec Ideal S1024x512 .f32) (r : Fin 1024) (f : Fin 256) :
    gated (F := Ideal) h (ix2 r f)
      = unit (h (ix2 r (⟨f.val, by omega⟩ : Fin 512))) (h (ix2 r (⟨256 + f.val, by omega⟩ : Fin 512))) := by
  pointwise [gated, limited, unit]

theorem shift_toNat : ∀ (e : Fin 4) (j : Fin 8),
    (shift (BitVec.ofNat 32 e.val) (BitVec.ofNat 32 j.val)).toNat = (128 - (8 * e.val + j.val)) % 128 := by
  decide +kernel

theorem gate_apply (g : FVec Ideal S1x1024x128 .f32) (e : Fin 4) (j : Fin 8) (r : Fin 1024) (f : Fin 256) :
    gate (F := Ideal) (BitVec.ofNat 32 e.val) (BitVec.ofNat 32 j.val) g (ix2 r f)
      = g (ix3 (0 : Fin 1) r (⟨8 * e.val + j.val, by omega⟩ : Fin 128)) := by
  have hs := shift_toNat e j
  pointwise [gate]
  refine congrArg g (funext fun a => Fin.ext ?_)
  match a with
  | ⟨0, _⟩ => rfl
  | ⟨1, _⟩ => rfl
  | ⟨2, _⟩ => show (128 - (shift (BitVec.ofNat 32 e.val) (BitVec.ofNat 32 j.val)).toNat % 128) % 128 = 8 * e.val + j.val
              omega

theorem experts_eq (e : BitVec 32) (n : FVec Ideal S1x1024x1024 .bf16) (g : FVec Ideal S1x1024x128 .f32)
    (w : FVec Ideal S8x1024x512 .bf16) (b : FVec Ideal S8x1x512 .f32) :
    experts (F := Ideal) e n g w b = concatenate S1024x2048 1 (List.ofFn fun j : Fin 8 =>
      (⟨S1024x256, expert (F := Ideal) e (BitVec.ofNat 32 j.val) n g (weights (F := Ideal) w j.val) (biases (F := Ideal) b j.val)⟩
        : (s : Shape) × (s.Idx → EReal)))
      concatenates_S1024x256_S1024x256_S1024x256_S1024x256_S1024x256_S1024x256_S1024x256_S1024x256_S1024x2048_d1 := rfl

theorem expert_apply (n : FVec Ideal S1x1024x1024 .bf16) (g : FVec Ideal S1x1024x128 .f32) (w : FVec Ideal S1x1024x512 .bf16)
    (b : FVec Ideal S1x1x512 .f32) (e : Fin 4) (j : Fin 8) (r : Fin 1024) (f : Fin 256) :
    expert (F := Ideal) (BitVec.ofNat 32 e.val) (BitVec.ofNat 32 j.val) n g w b (ix2 r f)
      = unit (up n w b r (⟨f.val, by omega⟩ : Fin 512)) (up n w b r (⟨256 + f.val, by omega⟩ : Fin 512))
        * g (ix3 (0 : Fin 1) r (⟨8 * e.val + j.val, by omega⟩ : Fin 128)) := by
  pointwise [expert]
  rw [gated_apply, gate_apply, hidden_apply, hidden_apply]

/-- Column `k` of the eight experts' activations. -/
theorem experts_apply (n : FVec Ideal S1x1024x1024 .bf16) (g : FVec Ideal S1x1024x128 .f32) (w : FVec Ideal S8x1024x512 .bf16)
    (b : FVec Ideal S8x1x512 .f32) (e : Fin 4) (r : Fin 1024) (k : Fin 2048) :
    experts (F := Ideal) (BitVec.ofNat 32 e.val) n g w b (ix2 r k)
      = expert (F := Ideal) (BitVec.ofNat 32 e.val) (BitVec.ofNat 32 (k.val / 256)) n g (weights (F := Ideal) w (k.val / 256))
          (biases (F := Ideal) b (k.val / 256)) (ix2 r (⟨k.val % 256, Nat.mod_lt _ (by norm_num)⟩ : Fin 256)) := by
  rw [experts_eq]
  refine concatenate_ofFn_apply (t := S1024x2048) (s₁ := S1024x256) 1 _ _ rfl 256 rfl (ix2 r k) (⟨k.val / 256, by omega⟩ : Fin 8) rfl
    (ix2 r (⟨k.val % 256, Nat.mod_lt _ (by norm_num)⟩ : Fin 256)) rfl ?_
  intro x hx
  match x with
  | ⟨0, _⟩ => rfl
  | ⟨1, _⟩ => exact absurd rfl hx

/-- What a step adds in column `q`. -/
theorem step_apply (n : FVec Ideal S1x1024x1024 .bf16) (g : FVec Ideal S1x1024x128 .f32) (w : FVec Ideal S8x1024x512 .bf16)
    (b : FVec Ideal S8x1x512 .f32) (d : FVec Ideal S8x256x1024 .bf16) (e : Fin 4) (r q : Fin 1024) :
    step (F := Ideal) (BitVec.ofNat 32 e.val) n g w b d (ix2 r q)
      = ∑ k : Fin 2048, unit
            (up n (weights (F := Ideal) w (k.val / 256)) (biases (F := Ideal) b (k.val / 256)) r (⟨k.val % 256, by omega⟩ : Fin 512))
            (up n (weights (F := Ideal) w (k.val / 256)) (biases (F := Ideal) b (k.val / 256)) r
              (⟨256 + k.val % 256, by omega⟩ : Fin 512))
          * g (ix3 (0 : Fin 1) r (⟨8 * e.val + k.val / 256, by omega⟩ : Fin 128))
          * d (ix3 (⟨k.val / 256, by omega⟩ : Fin 8) (⟨k.val % 256, Nat.mod_lt _ (by norm_num)⟩ : Fin 256) q) := by
  pointwise [step]
  refine Finset.sum_congr rfl fun k _ => ?_
  rw [experts_apply]
  exact congrArg₂ (· * ·) (expert_apply n g _ _ e (⟨k.val / 256, by omega⟩ : Fin 8) r _) rfl

/-- The two halves of a finite bias. -/
theorem bias_apply (g : FVec Ideal S1x1024x128 .f32) (b : FVec Ideal S128x1024 .f32)
    (hb : ∀ i, b i ≠ ⊤ ∧ b i ≠ ⊥) (r q : Fin 1024) :
    bias (F := Ideal) g b (ix2 r q) = ∑ l : Fin 128, g (ix3 (0 : Fin 1) r l) * b (ix2 l q) := by
  pointwise [bias]
  simp only [EReal.sub_self (hb _).1 (hb _).2, mul_zero, Finset.sum_const_zero, add_zero]

theorem blockOut_apply (x : FVec Ideal S1x1024x1024 .f32) (mod : FVec Ideal S1x6x1024 .f32) (a : FVec Ideal S1024x1024 .f32)
    (r q : Fin 1024) :
    blockOut (F := Ideal) x mod a (ix3 (0 : Fin 1) r q)
      = x (ix3 (0 : Fin 1) r q) + mod (ix3 (0 : Fin 1) (5 : Fin 6) q) * a (ix2 r q) := by
  pointwise [blockOut]

end Cert.Kernel2Ideal.Block

end
-- ==== Proof.MoeInputs.lean ====
/-
  WHAT THE MIXTURE OF EXPERTS' KERNEL IS GIVEN, over the extended reals: the host's code before the call sorts the columns
  of each expert's first weights and biases, the even ones before the odd ones, and pads the second biases with rows of
  zeros; its casts change no extended real.
-/
module

public import proofs.«01_k».proof.Proof.MoeSteps
public import proofs.«01_k».proof.Proof.Gen.Kernel2Ideal.Value
public import Idealize.ShloMosaic.Lib.StableHlo.Run

@[expose] public section

set_option maxRecDepth 16384

noncomputable section

namespace Cert.Kernel2Ideal.Arrays

open Cert.Kernel2Ideal Cert.Kernel2Ideal.Gen Cert.Kernel2Ideal.Block
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev argN : FVec Ideal S8x8192x1024 .f32 := m ((c : Thread nD τ).loc main_arg0)
abbrev argG : FVec Ideal S8x8192x128 .f32 := m ((c : Thread nD τ).loc main_arg1)
abbrev argX : FVec Ideal S8x8192x1024 .f32 := m ((c : Thread nD τ).loc main_arg2)
abbrev argM : FVec Ideal S8x6x1024 .f32 := m ((c : Thread nD τ).loc main_arg3)
abbrev argU : FVec Ideal S1x32x1024x512 .f32 := m ((c : Thread nD τ).loc main_arg4)
abbrev argB : FVec Ideal S1x32x512 .f32 := m ((c : Thread nD τ).loc main_arg5)
abbrev argD : FVec Ideal S1x32x256x1024 .f32 := m ((c : Thread nD τ).loc main_arg6)
abbrev argC : FVec Ideal S1x32x1024 .f32 := m ((c : Thread nD τ).loc main_arg7)

/-- Where column `k` of the sorted weights comes from. -/
def column (k : Fin 512) : Fin 512 := ⟨2 * (k.val % 256) + k.val / 256, by omega⟩

/-- The tokens. -/
theorem tokens_eq : V m c main_v15 = argN m c := by
  unfold_abbrev_sides
  simp only [hostOps0, hostOps0_1, hostOps0_2, List.flatten_cons, List.flatten_nil, List.append_nil, List.cons_append, List.nil_append]
  after_results
  rfl

/-- The first weights. -/
theorem up_eq (e : Fin 32) (d : Fin 1024) (k : Fin 512) :
    (V m c main_v5 : FVec Ideal S32x1024x512 .bf16) (ix3 e d k) = argU m c (ix4 (0 : Fin 1) e d (column k)) := by
  have h : (V m c main_v5 : FVec Ideal S32x1024x512 .bf16)
      = concatenate S32x1024x512 2 [
        ⟨S32x1024x256, Host.slice S32x1024x256 ![0, 0, 0] ![1, 1, 2]
          (shapeCast S32x1024x512 (argU m c) shapeCasts_S1x32x1024x512_S32x1024x512) slicesBy_S32x1024x512_S32x1024x256_0s1_0s1_0s2⟩,
        ⟨S32x1024x256, Host.slice S32x1024x256 ![0, 0, 1] ![1, 1, 2]
          (shapeCast S32x1024x512 (argU m c) shapeCasts_S1x32x1024x512_S32x1024x512) slicesBy_S32x1024x512_S32x1024x256_0s1_0s1_1s2⟩]
        concatenates_S32x1024x256_S32x1024x256_S32x1024x512_d2 := by
    unfold_abbrev_sides
    simp only [hostOps0, hostOps0_1, hostOps0_2, List.flatten_cons, List.flatten_nil, List.append_nil, List.cons_append, List.nil_append]
    after_results
    rfl
  rw [h]
  pointwise []
  have hk := k.isLt
  split
  · refine congrArg (fun x => argU m c (ix4 (0 : Fin 1) e d x)) (Fin.ext ?_)
    show 2 * k.val = 2 * (k.val % 256) + k.val / 256
    omega
  · refine congrArg (fun x => argU m c (ix4 (0 : Fin 1) e d x)) (Fin.ext ?_)
    show 1 + 2 * (k.val - 256) = 2 * (k.val % 256) + k.val / 256
    omega

/-- The first biases. -/
theorem up_bias_eq (e : Fin 32) (z : Fin 1) (k : Fin 512) :
    (V m c main_v12 : FVec Ideal S32x1x512 .f32) (ix3 e z k) = argB m c (ix3 (0 : Fin 1) e (column k)) := by
  have h : (V m c main_v12 : FVec Ideal S32x1x512 .f32)
      = concatenate S32x1x512 2 [
        ⟨S32x1x256, broadcastInDim S32x1x256 ![0, 2] bcast_S32x256_S32x1x256_0_2 (Host.slice S32x256 ![0, 0] ![1, 2]
          (shapeCast S32x512 (argB m c) shapeCasts_S1x32x512_S32x512) slicesBy_S32x512_S32x256_0s1_0s2)⟩,
        ⟨S32x1x256, broadcastInDim S32x1x256 ![0, 2] bcast_S32x256_S32x1x256_0_2 (Host.slice S32x256 ![0, 1] ![1, 2]
          (shapeCast S32x512 (argB m c) shapeCasts_S1x32x512_S32x512) slicesBy_S32x512_S32x256_0s1_1s2)⟩]
        concatenates_S32x1x256_S32x1x256_S32x1x512_d2 := by
    unfold_abbrev_sides
    simp only [hostOps0, hostOps0_1, hostOps0_2, List.flatten_cons, List.flatten_nil, List.append_nil, List.cons_append, List.nil_append]
    after_results
    rfl
  rw [h]
  pointwise []
  have hk := k.isLt
  split
  · refine congrArg (fun x => argB m c (ix3 (0 : Fin 1) e x)) (Fin.ext ?_)
    show 2 * k.val = 2 * (k.val % 256) + k.val / 256
    omega
  · refine congrArg (fun x => argB m c (ix3 (0 : Fin 1) e x)) (Fin.ext ?_)
    show 1 + 2 * (k.val - 256) = 2 * (k.val % 256) + k.val / 256
    omega

/-- The second weights. -/
theorem down_eq (e : Fin 32) (f : Fin 256) (q : Fin 1024) :
    (V m c main_v17 : FVec Ideal S32x256x1024 .bf16) (ix3 e f q) = argD m c (ix4 (0 : Fin 1) e f q) := by
  have h : (V m c main_v17 : FVec Ideal S32x256x1024 .bf16)
      = shapeCast S32x256x1024 (argD m c) shapeCasts_S1x32x256x1024_S32x256x1024 := by
    unfold_abbrev_sides
    simp only [hostOps0, hostOps0_1, hostOps0_2, List.flatten_cons, List.flatten_nil, List.append_nil, List.cons_append, List.nil_append]
    after_results
    rfl
  rw [h]
  pointwise []

/-- The second biases. -/
theorem down_bias_eq (l : Fin 128) (q : Fin 1024) :
    (V m c main_v14 : FVec Ideal S128x1024 .f32) (ix2 l q)
      = if h : l.val < 32 then argC m c (ix3 (0 : Fin 1) (⟨l.val, h⟩ : Fin 32) q) else 0 := by
  have h : (V m c main_v14 : FVec Ideal S128x1024 .f32)
      = pad S128x1024 ![0, 0] ![96, 0] ![0, 0] (shapeCast S32x1024 (argC m c) shapeCasts_S1x32x1024_S32x1024)
        (sitofp (F := Ideal) .f32 (constantI S_ 32 0#32)) pads_S32x1024_S128x1024_0960_000 h_S_ := by
    unfold_abbrev_sides
    simp only [hostOps0, hostOps0_1, hostOps0_2, List.flatten_cons, List.flatten_nil, List.append_nil, List.cons_append, List.nil_append]
    after_results
    rfl
  rw [h]
  pointwise []
  refine congrArg (fun y : EReal => if h : l.val < 32 then argC m c (ix3 (0 : Fin 1) (⟨l.val, h⟩ : Fin 32) q) else y) ?_
  show (((0#32 : BitVec 32).toInt : ℝ) : EReal) = 0
  simp

end Cert.Kernel2Ideal.Arrays

end
-- ==== Proof.MoeArray.lean ====
/-
  THE RESULT ARRAY OF THE MIXTURE OF EXPERTS' KERNEL, over the extended reals. A point of the grid is a batch entry, a run
  of 1024 tokens and eight of the experts; after a run's points before the last the running sum is the biases' sum and the
  first experts' (`sum_eq`), and what the last one writes back is its block of one function of the arguments (`mixed`).
-/
module

public import proofs.«01_k».proof.Proof.MoeInputs

@[expose] public section

set_option maxRecDepth 16384

noncomputable section

namespace Cert.Kernel2Ideal.Arrays

open Cert.Kernel2Ideal Cert.Kernel2Ideal.Gen Cert.Kernel2Ideal.Block
open Idealize.ShloMosaic Idealize.ShloMosaic.TcCoe Idealize.SL.Sem
open Idealize.ShloMosaic.Pipeline (Dat)

section Whole

variable (N : FVec Ideal S8x8192x1024 .f32) (G : FVec Ideal S8x8192x128 .f32) (X : FVec Ideal S8x8192x1024 .f32)
  (M : FVec Ideal S8x6x1024 .f32) (U : FVec Ideal S1x32x1024x512 .f32) (B : FVec Ideal S1x32x512 .f32)
  (D : FVec Ideal S1x32x256x1024 .f32) (C : FVec Ideal S1x32x1024 .f32)

/-- Column `k` of expert `e`'s first layer on token `s` of batch entry `b`. -/
def hiddenAt (b : Fin 8) (s : Fin 8192) (e : Fin 32) (k : Fin 512) : EReal :=
  ∑ d : Fin 1024, N (ix3 b s d) * U (ix4 (0 : Fin 1) e d k) + B (ix3 (0 : Fin 1) e k)

/-- What activation `f` of expert `e` adds to column `q`. -/
def termAt (b : Fin 8) (s : Fin 8192) (q : Fin 1024) (e : Fin 32) (f : Fin 256) : EReal :=
  unit (hiddenAt N U B b s e (⟨2 * f.val, by omega⟩ : Fin 512)) (hiddenAt N U B b s e (⟨2 * f.val + 1, by omega⟩ : Fin 512))
    * G (ix3 b s (⟨e.val, by omega⟩ : Fin 128)) * D (ix4 (0 : Fin 1) e f q)

/-- The experts' activations one after another, 256 of each. -/
def term (b : Fin 8) (s : Fin 8192) (q : Fin 1024) (k : ℕ) : EReal :=
  termAt N G U B D b s q (⟨k / 256 % 32, Nat.mod_lt _ (by norm_num)⟩ : Fin 32) (⟨k % 256, Nat.mod_lt _ (by norm_num)⟩ : Fin 256)

/-- The gates times the padded second biases. -/
def biasAt (b : Fin 8) (s : Fin 8192) (q : Fin 1024) : EReal :=
  ∑ l : Fin 128, G (ix3 b s l) * (if h : l.val < 32 then C (ix3 (0 : Fin 1) (⟨l.val, h⟩ : Fin 32) q) else 0)

/-- The result. -/
def mixed : FVec Ideal S8x8192x1024 .f32 := fun j =>
  X j + M (ix3 (j 0) (5 : Fin 6) (j 2))
    * (biasAt G C (j 0) (j 1) (j 2) + ∑ k ∈ Finset.range 8192, term N G U B D (j 0) (j 1) (j 2) k)

end Whole

theorem index0 : ∀ t : Fin grid0.N, win0_0.index t 0 = t.val / 32 ∧ win0_0.index t 1 = t.val / 4 % 8 ∧ win0_0.index t 2 = 0 := by
  decide +kernel
theorem index1 : ∀ t : Fin grid0.N, win0_1.index t 0 = t.val / 32 ∧ win0_1.index t 1 = t.val / 4 % 8 ∧ win0_1.index t 2 = 0 := by
  decide +kernel
theorem index2 : ∀ t : Fin grid0.N, win0_2.index t 0 = t.val / 32 ∧ win0_2.index t 1 = t.val / 4 % 8 ∧ win0_2.index t 2 = 0 := by
  decide +kernel
theorem index3 : ∀ t : Fin grid0.N, win0_3.index t 0 = t.val / 32 ∧ win0_3.index t 1 = 0 ∧ win0_3.index t 2 = 0 := by
  decide +kernel
theorem index4 : ∀ t : Fin grid0.N, win0_4.index t 0 = t.val % 4 ∧ win0_4.index t 1 = 0 ∧ win0_4.index t 2 = 0 := by
  decide +kernel
theorem index5 : ∀ t : Fin grid0.N, win0_5.index t 0 = t.val % 4 ∧ win0_5.index t 1 = 0 ∧ win0_5.index t 2 = 0 := by
  decide +kernel
theorem index6 : ∀ t : Fin grid0.N, win0_6.index t 0 = t.val % 4 ∧ win0_6.index t 1 = 0 ∧ win0_6.index t 2 = 0 := by
  decide +kernel
theorem index8 : ∀ t : Fin grid0.N, win0_8.index t 0 = t.val / 32 ∧ win0_8.index t 1 = t.val / 4 % 8 ∧ win0_8.index t 2 = 0 := by
  decide +kernel
theorem index7 : ∀ t : Fin grid0.N, win0_7.index t 0 = 0 ∧ win0_7.index t 1 = 0 := by
  decide +kernel
theorem step_index : ∀ t : Fin grid0.N, (grid0.coords t 2).val = t.val % 4 := by
  decide +kernel

variable (m : (ℓ : Loc nD τ sig) → Buf (Elt Ideal) ℓ) (ρ : Dev nD → PrngReg) (c : Dev nD) (t : Fin cfg0.N)

/-- The block's tokens. -/
theorem block0 (b : Fin 8) (s : Fin 8192) (r : Fin 1024) (d : Fin 1024) (hb : b.val = t.val / 32)
    (hs : s.val = 1024 * (t.val / 4 % 8) + r.val) :
    (iblk m c 0 t : FVec Ideal S1x1024x1024 .bf16) (ix3 (0 : Fin 1) r d) = argN m c (ix3 b s d) := by
  have hi := index0 t
  unfold iblk
  rw [View.read_apply]
  show V m c main_v15 _ = _
  rw [tokens_eq]
  refine congrArg (argN m c) (funext fun x => Fin.ext ?_)
  match x with
  | ⟨0, _⟩ => show win0_0.index t 0 * 1 + 1 * 0 = b.val
              rw [hi.1]; omega
  | ⟨1, _⟩ => show win0_0.index t 1 * 1024 + 1 * r.val = s.val
              rw [hi.2.1]; omega
  | ⟨2, _⟩ => show win0_0.index t 2 * 1024 + 1 * d.val = d.val
              rw [hi.2.2]; omega

/-- The block's gates. -/
theorem block1 (b : Fin 8) (s : Fin 8192) (r : Fin 1024) (d : Fin 128) (hb : b.val = t.val / 32)
    (hs : s.val = 1024 * (t.val / 4 % 8) + r.val) :
    (iblk m c 1 t : FVec Ideal S1x1024x128 .f32) (ix3 (0 : Fin 1) r d) = argG m c (ix3 b s d) := by
  have hi := index1 t
  unfold iblk
  rw [View.read_apply]
  show V m c main_arg1 _ = _
  rw [V_main_arg1]
  refine congrArg (argG m c) (funext fun x => Fin.ext ?_)
  match x with
  | ⟨0, _⟩ => show win0_1.index t 0 * 1 + 1 * 0 = b.val
              rw [hi.1]; omega
  | ⟨1, _⟩ => show win0_1.index t 1 * 1024 + 1 * r.val = s.val
              rw [hi.2.1]; omega
  | ⟨2, _⟩ => show win0_1.index t 2 * 128 + 1 * d.val = d.val
              rw [hi.2.2]; omega

/-- The block's residual. -/
theorem block2 (b : Fin 8) (s : Fin 8192) (r : Fin 1024) (d : Fin 1024) (hb : b.val = t.val / 32)
    (hs : s.val = 1024 * (t.val / 4 % 8) + r.val) :
    (iblk m c 2 t : FVec Ideal S1x1024x1024 .f32) (ix3 (0 : Fin 1) r d) = argX m c (ix3 b s d) := by
  have hi := index2 t
  unfold iblk
  rw [View.read_apply]
  show V m c main_arg2 _ = _
  rw [V_main_arg2]
  refine congrArg (argX m c) (funext fun x => Fin.ext ?_)
  match x with
  | ⟨0, _⟩ => show win0_2.index t 0 * 1 + 1 * 0 = b.val
              rw [hi.1]; omega
  | ⟨1, _⟩ => show win0_2.index t 1 * 1024 + 1 * r.val = s.val
              rw [hi.2.1]; omega
  | ⟨2, _⟩ => show win0_2.index t 2 * 1024 + 1 * d.val = d.val
              rw [hi.2.2]; omega

/-- The block's six rows. -/
theorem block3 (b : Fin 8) (a : Fin 6) (d : Fin 1024) (hb : b.val = t.val / 32) :
    (iblk m c 3 t : FVec Ideal S1x6x1024 .f32) (ix3 (0 : Fin 1) a d) = argM m c (ix3 b a d) := by
  have hi := index3 t
  unfold iblk
  rw [View.read_apply]
  show V m c main_arg3 _ = _
  rw [V_main_arg3]
  refine congrArg (argM m c) (funext fun x => Fin.ext ?_)
  match x with
  | ⟨0, _⟩ => show win0_3.index t 0 * 1 + 1 * 0 = b.val
              rw [hi.1]; omega
  | ⟨1, _⟩ => show win0_3.index t 1 * 6 + 1 * a.val = a.val
              rw [hi.2.1]; omega
  | ⟨2, _⟩ => show win0_3.index t 2 * 1024 + 1 * d.val = d.val
              rw [hi.2.2]; omega

/-- The step's first weights. -/
theorem block4 (e : Fin 32) (j : Fin 8) (a : Fin 1024) (d : Fin 512) (he : e.val = 8 * (t.val % 4) + j.val) :
    (iblk m c 4 t : FVec Ideal S8x1024x512 .bf16) (ix3 j a d) = argU m c (ix4 (0 : Fin 1) e a (column d)) := by
  have hi := index4 t
  rw [← up_eq m c]
  unfold iblk
  rw [View.read_apply]
  show (V m c main_v5 : FVec Ideal S32x1024x512 .bf16) _ = _
  refine congrArg (V m c main_v5 : FVec Ideal S32x1024x512 .bf16) (funext fun x => Fin.ext ?_)
  match x with
  | ⟨0, _⟩ => show win0_4.index t 0 * 8 + 1 * j.val = e.val
              rw [hi.1]; omega
  | ⟨1, _⟩ => show win0_4.index t 1 * 1024 + 1 * a.val = a.val
              rw [hi.2.1]; omega
  | ⟨2, _⟩ => show win0_4.index t 2 * 512 + 1 * d.val = d.val
              rw [hi.2.2]; omega

/-- The step's first biases. -/
theorem block5 (e : Fin 32) (j : Fin 8) (a : Fin 1) (d : Fin 512) (he : e.val = 8 * (t.val % 4) + j.val) :
    (iblk m c 5 t : FVec Ideal S8x1x512 .f32) (ix3 j a d) = argB m c (ix3 (0 : Fin 1) e (column d)) := by
  have hi := index5 t
  rw [← up_bias_eq m c]
  unfold iblk
  rw [View.read_apply]
  show (V m c main_v12 : FVec Ideal S32x1x512 .f32) _ = _
  refine congrArg (V m c main_v12 : FVec Ideal S32x1x512 .f32) (funext fun x => Fin.ext ?_)
  match x with
  | ⟨0, _⟩ => show win0_5.index t 0 * 8 + 1 * j.val = e.val
              rw [hi.1]; omega
  | ⟨1, _⟩ => show win0_5.index t 1 * 1 + 1 * a.val = a.val
              rw [hi.2.1]; omega
  | ⟨2, _⟩ => show win0_5.index t 2 * 512 + 1 * d.val = d.val
              rw [hi.2.2]; omega

/-- The step's second weights. -/
theorem block6 (e : Fin 32) (j : Fin 8) (a : Fin 256) (d : Fin 1024) (he : e.val = 8 * (t.val % 4) + j.val) :
    (iblk m c 6 t : FVec Ideal S8x256x1024 .bf16) (ix3 j a d) = argD m c (ix4 (0 : Fin 1) e a d) := by
  have hi := index6 t
  rw [← down_eq m c]
  unfold iblk
  rw [View.read_apply]
  show (V m c main_v17 : FVec Ideal S32x256x1024 .bf16) _ = _
  refine congrArg (V m c main_v17 : FVec Ideal S32x256x1024 .bf16) (funext fun x => Fin.ext ?_)
  match x with
  | ⟨0, _⟩ => show win0_6.index t 0 * 8 + 1 * j.val = e.val
              rw [hi.1]; omega
  | ⟨1, _⟩ => show win0_6.index t 1 * 256 + 1 * a.val = a.val
              rw [hi.2.1]; omega
  | ⟨2, _⟩ => show win0_6.index t 2 * 1024 + 1 * d.val = d.val
              rw [hi.2.2]; omega

/-- The padded second biases. -/
theorem block7 (l : Fin 128) (q : Fin 1024) :
    (iblk m c 7 t : FVec Ideal S128x1024 .f32) (ix2 l q)
      = if h : l.val < 32 then argC m c (ix3 (0 : Fin 1) (⟨l.val, h⟩ : Fin 32) q) else 0 := by
  have hi := index7 t
  rw [← down_bias_eq m c]
  unfold iblk
  rw [View.read_apply]
  show (V m c main_v14 : FVec Ideal S128x1024 .f32) _ = _
  refine congrArg (V m c main_v14 : FVec Ideal S128x1024 .f32) (funext fun x => Fin.ext ?_)
  match x with
  | ⟨0, _⟩ => show win0_7.index t 0 * 128 + 1 * l.val = l.val
              rw [hi.1]; omega
  | ⟨1, _⟩ => show win0_7.index t 1 * 1024 + 1 * q.val = q.val
              rw [hi.2]; omega

/-- A column of one of the step's experts. -/
theorem up_block (b : Fin 8) (s : Fin 8192) (e : Fin 32) (r : Fin 1024) (j : ℕ) (k : Fin 512) (hj : j < 8)
    (hb : b.val = t.val / 32) (hs : s.val = 1024 * (t.val / 4 % 8) + r.val) (he : e.val = 8 * (t.val % 4) + j) :
    up (iblk m c 0 t) (weights (F := Ideal) (iblk m c 4 t) j) (biases (F := Ideal) (iblk m c 5 t) j) r k
      = hiddenAt (argN m c) (argU m c) (argB m c) b s e (column k) := by
  have hj' : e.val = 8 * (t.val % 4) + j % 8 := by omega
  unfold up hiddenAt
  exact congrArg₂ (· + ·) (Finset.sum_congr rfl fun d _ => congrArg₂ (· * ·) (block0 m c t b s r d hb hs)
    (block4 m c t e (⟨j % 8, Nat.mod_lt _ (by norm_num)⟩ : Fin 8) d k hj'))
    (block5 m c t e (⟨j % 8, Nat.mod_lt _ (by norm_num)⟩ : Fin 8) 0 k hj')

/-- What a point adds. -/
theorem step_block (b : Fin 8) (s : Fin 8192) (r q : Fin 1024)
    (hb : b.val = t.val / 32) (hs : s.val = 1024 * (t.val / 4 % 8) + r.val) :
    step (F := Ideal) (BitVec.ofNat 32 (grid0.coords t 2).val) (iblk m c 0 t) (iblk m c 1 t) (iblk m c 4 t) (iblk m c 5 t)
        (iblk m c 6 t) (ix2 r q)
      = ∑ k ∈ Finset.range 2048, term (argN m c) (argG m c) (argU m c) (argB m c) (argD m c) b s q (2048 * (t.val % 4) + k) := by
  rw [step_index]
  refine (step_apply _ _ _ _ _ (⟨t.val % 4, Nat.mod_lt _ (by norm_num)⟩ : Fin 4) r q).trans ?_
  rw [Finset.sum_range]
  refine Finset.sum_congr rfl fun k _ => ?_
  have hk := k.isLt
  have he : (2048 * (t.val % 4) + k.val) / 256 % 32 = 8 * (t.val % 4) + k.val / 256 := by omega
  unfold term termAt
  refine congrArg₂ (· * ·) (congrArg₂ (· * ·) (congrArg₂ unit ?_ ?_) ?_) ?_
  · refine (up_block m c t b s (⟨(2048 * (t.val % 4) + k.val) / 256 % 32, Nat.mod_lt _ (by norm_num)⟩ : Fin 32) r (k.val / 256) _
      (by omega) hb hs he).trans (congrArg (hiddenAt _ _ _ b s _) (Fin.ext ?_))
    show 2 * (k.val % 256 % 256) + k.val % 256 / 256 = 2 * ((2048 * (t.val % 4) + k.val) % 256)
    omega
  · refine (up_block m c t b s (⟨(2048 * (t.val % 4) + k.val) / 256 % 32, Nat.mod_lt _ (by norm_num)⟩ : Fin 32) r (k.val / 256) _
      (by omega) hb hs he).trans (congrArg (hiddenAt _ _ _ b s _) (Fin.ext ?_))
    show 2 * ((256 + k.val % 256) % 256) + (256 + k.val % 256) / 256 = 2 * ((2048 * (t.val % 4) + k.val) % 256) + 1
    omega
  · refine (block1 m c t b s r _ hb hs).trans (congrArg (fun x => argG m c (ix3 b s x)) (Fin.ext ?_))
    show 8 * (t.val % 4) + k.val / 256 = (2048 * (t.val % 4) + k.val) / 256 % 32
    omega
  · refine (block6 m c t (⟨(2048 * (t.val % 4) + k.val) / 256 % 32, Nat.mod_lt _ (by norm_num)⟩ : Fin 32) _ _ q he).trans
      (congrArg (fun x => argD m c (ix4 (0 : Fin 1) _ x q)) (Fin.ext ?_))
    show k.val % 256 = (2048 * (t.val % 4) + k.val) % 256
    omega

/-- The second biases are numbers. -/
def Finite (m : (ℓ : Loc nD τ sig) → Buf (Elt Ideal) ℓ) (c : Dev nD) : Prop := ∀ i, argC m c i ≠ ⊤ ∧ argC m c i ≠ ⊥

/-- Where a run's sum starts. -/
theorem bias_block (hC : Finite m c) (b : Fin 8) (s : Fin 8192) (r q : Fin 1024)
    (hb : b.val = t.val / 32) (hs : s.val = 1024 * (t.val / 4 % 8) + r.val) :
    bias (F := Ideal) (iblk m c 1 t) (iblk m c 7 t) (ix2 r q) = biasAt (argG m c) (argC m c) b s q := by
  refine (bias_apply _ _ ?_ r q).trans ?_
  · refine fun (i : S128x1024.Idx) => ?_
    idx_vars i
    rw [block7]
    split
    · exact hC _
    · exact ⟨EReal.zero_ne_top, EReal.zero_ne_bot⟩
  · unfold biasAt
    exact Finset.sum_congr rfl fun l _ => congrArg₂ (· * ·) (block1 m c t b s r l hb hs) (block7 m c t l q)

/-- The running sum after a point that is not a run's last. -/
theorem sum_eq (hC : Finite m c) : ∀ (n : ℕ) (h : n < cfg0.N) (_ : n % 4 ≠ 3) (b : Fin 8) (s : Fin 8192) (r q : Fin 1024)
    (_ : b.val = n / 32) (_ : s.val = 1024 * (n / 4 % 8) + r.val),
    (outsAt0 m c n h).2 (ix2 r q) = biasAt (argG m c) (argC m c) b s q
      + ∑ k ∈ Finset.range (2048 * (n % 4 + 1)), term (argN m c) (argG m c) (argU m c) (argB m c) (argD m c) b s q k := by
  intro n
  induction n with
  | zero =>
    intro h h3 b s r q hb hs
    rw [outsAt0_A m c ⟨0, h⟩ rfl h3]
    dsimp only
    rw [first_step]
    refine congrArg₂ (· + ·) (bias_block m c ⟨0, h⟩ hC b s r q hb hs) ((step_block m c ⟨0, h⟩ b s r q hb hs).trans ?_)
    exact Finset.sum_congr rfl fun k _ => congrArg (term _ _ _ _ _ b s q) (by show 2048 * (0 % 4) + k = k; omega)
  | succ n ih =>
    intro h h3 b s r q hb hs
    by_cases h0 : (n + 1) % 4 = 0
    · rw [outsAt0_A m c ⟨n + 1, h⟩ h0 h3]
      dsimp only
      rw [first_step]
      refine congrArg₂ (· + ·) (bias_block m c ⟨n + 1, h⟩ hC b s r q hb hs) ((step_block m c ⟨n + 1, h⟩ b s r q hb hs).trans ?_)
      rw [h0]
      exact Finset.sum_congr rfl fun k _ => congrArg (term _ _ _ _ _ b s q) (by omega)
    · rw [outsAt0_B m c ⟨n + 1, h⟩ h0 h3]
      dsimp only
      rw [middle_step]
      refine (congrArg₂ (· + ·) (ih (by omega) (by omega) b s r q (by omega) (by omega))
        (step_block m c ⟨n + 1, h⟩ b s r q hb hs)).trans ?_
      rw [add_assoc, show n % 4 + 1 = (n + 1) % 4 by omega, Nat.mul_succ 2048 ((n + 1) % 4), Finset.sum_range_add]

/-- The result array. -/
abbrev result : FVec Ideal S8x8192x1024 .f32 :=
  mixed (argN m c) (argG m c) (argX m c) (argM m c) (argU m c) (argB m c) (argD m c) (argC m c)

/-- What a run's last point stores is its block of the result. -/
theorem block_eq (hC : Finite m c) (h0 : ¬t.val % 4 = 0) (h3 : t.val % 4 = 3) (b : Fin 8) (s : Fin 8192) (r q : Fin 1024)
    (hb : b.val = t.val / 32) (hs : s.val = 1024 * (t.val / 4 % 8) + r.val) :
    blockOut (F := Ideal) (iblk m c 2 t) (iblk m c 3 t)
        (addf (outsAt0 m c (t.val - 1) (Nat.lt_of_le_of_lt (Nat.sub_le _ _) t.isLt)).2
          (step (BitVec.ofNat 32 (grid0.coords t 2).val) (iblk m c 0 t) (iblk m c 1 t) (iblk m c 4 t) (iblk m c 5 t)
            (iblk m c 6 t))) (ix3 (0 : Fin 1) r q)
      = result m c (ix3 b s q) := by
  refine (blockOut_apply _ _ _ r q).trans ?_
  refine congrArg₂ (· + ·) (block2 m c t b s r q hb hs) (congrArg₂ (· * ·) (block3 m c t b 5 q hb) ?_)
  refine (congrArg₂ (· + ·) (sum_eq m c hC (t.val - 1) _ (by omega) b s r q (by omega) (by omega))
    (step_block m c t b s r q hb hs)).trans ?_
  rw [add_assoc, show 2048 * ((t.val - 1) % 4 + 1) = 2048 * (t.val % 4) by omega, ← Finset.sum_range_add, h3]
  rfl

/-- What a point writes back is its block of the result. -/
theorem flushed_eq (hC : Finite m c) (hf : (cfg0.win 8).flush t = true) :
    (dats m 0 c).flushed 8 t = ((cfg0.win 8).blk t).view.read (Elt Ideal) (result m c) := by
  have h3 : t.val % 4 = 3 := (flush0_8 t).mp hf
  have h0 : ¬t.val % 4 = 0 := by omega
  have hi := index8 t
  have hN : cfg0.N = 256 := N_0
  have ht := t.isLt
  rw [Value.flushed8_C m c t h0 h3, out_eq]
  refine funext fun (j : S1x1024x1024.Idx) => ?_
  rw [View.read_apply]
  idx_vars j
  obtain rfl : j0 = 0 := Subsingleton.elim _ _
  refine (block_eq m c t hC h0 h3 (⟨t.val / 32, by omega⟩ : Fin 8) (⟨1024 * (t.val / 4 % 8) + j1.val, by omega⟩ : Fin 8192)
    j1 j2 rfl rfl).trans (congrArg (result m c) (funext fun x => Fin.ext ?_))
  match x with
  | ⟨0, _⟩ => show t.val / 32 = win0_8.index t 0 * 1 + 1 * 0
              rw [hi.1]; omega
  | ⟨1, _⟩ => show 1024 * (t.val / 4 % 8) + j1.val = win0_8.index t 1 * 1024 + 1 * j1.val
              rw [hi.2.1]; omega
  | ⟨2, _⟩ => show j2.val = win0_8.index t 2 * 1024 + 1 * j2.val
              rw [hi.2.2]; omega

/-- The result array after the run. -/
theorem final (hC : Finite m c) : (dats m 0 c).arrAt 8 cfg0.N = result m c :=
  (dats m 0 c).arrAt_eq_of_cover 8 (result m c) (fun t => flushed_eq m c t hC) fun i => by
    have hN : cfg0.N = 256 := N_0
    have h0 : (i 0 : ℕ) < 8 := (i 0).isLt
    have h1 : (i 1 : ℕ) < 8192 := (i 1).isLt
    have h2 : (i 2 : ℕ) < 1024 := (i 2).isLt
    let t : Fin cfg0.N := ⟨32 * (i 0).val + 4 * ((i 1).val / 1024) + 3, by rw [hN]; omega⟩
    have hi := index8 t
    have ht : t.val = 32 * (i 0).val + 4 * ((i 1).val / 1024) + 3 := rfl
    refine ⟨t, (flush0_8 t).mpr (by omega), ?_⟩
    show i ∈ ((View.whole main_v18).slice (win0_8.rect t)).set
    rw [View.set_slice_whole, Rect.mem_set_unit]
    intro a
    match a with
    | ⟨0, _⟩ => show win0_8.index t 0 * 1 ≤ (i 0 : ℕ) ∧ (i 0 : ℕ) < win0_8.index t 0 * 1 + 1
                rw [hi.1]; omega
    | ⟨1, _⟩ => show win0_8.index t 1 * 1024 ≤ (i 1 : ℕ) ∧ (i 1 : ℕ) < win0_8.index t 1 * 1024 + 1024
                rw [hi.2.1]; omega
    | ⟨2, _⟩ => show win0_8.index t 2 * 1024 ≤ (i 2 : ℕ) ∧ (i 2 : ℕ) < win0_8.index t 2 * 1024 + 1024
                rw [hi.2.2]; omega

/-- The run: the result, and the arguments as they were. -/
theorem run (hC : ∀ c, Finite m c) : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans ((Value.final8 m c).symm.trans (final m c (hC c))), (h c).2⟩)
    (Value.run m ρ)

end Cert.Kernel2Ideal.Arrays

end
-- ==== Proof.MoeReference.lean ====
/-
  THE MIXTURE OF EXPERTS' REFERENCE AT AN INDEX, over the extended reals: the residual plus, scaled, the sum over the
  experts and their activations of the gated unit of two neighbouring columns, times the gate, times the second weight, and
  the sum over the experts of the gate times the second bias.
-/
module

public import proofs.«01_k».proof.Proof.Gen.Reference2Ideal.Run
public import proofs.«01_k».proof.Proof.Gen.Reference2Ideal.Read
public import Idealize.ShloMosaic.Lib.Pointwise

@[expose] public section

set_option maxRecDepth 16384

noncomputable section

namespace Cert.Reference2Ideal.Plain

open Cert.Reference2Ideal Cert.Reference2Ideal.Gen Cert.Reference2Ideal.Read
open Idealize.ShloMosaic Idealize.ShloMosaic.TcCoe Idealize.SL.Sem

variable (N : FVec Ideal S8x8192x1024 .f32) (G : FVec Ideal S8x8192x128 .f32) (X : FVec Ideal S8x8192x1024 .f32)
  (M : FVec Ideal S8x6x1024 .f32) (U : FVec Ideal S1x32x1024x512 .f32) (B : FVec Ideal S1x32x512 .f32)
  (D : FVec Ideal S1x32x256x1024 .f32) (C : FVec Ideal S1x32x1024 .f32)

/-- Column `k` of expert `e`'s first layer on token `s` of batch entry `b`. -/
def plainHidden (b : Fin 8) (s : Fin 8192) (e : Fin 32) (k : Fin 512) : EReal :=
  ∑ d : Fin 1024, N (ix3 b s d) * U (ix4 (0 : Fin 1) e d k) + B (ix3 (0 : Fin 1) e k)

/-- The clamped gated unit. -/
def plainUnit (a l : EReal) : EReal :=
  min a (Ideal.ofBits .f32 0x40E00000#32)
      * Ideal.logistic (Ideal.ofBits .f32 0x3FD9DB23#32 * min a (Ideal.ofBits .f32 0x40E00000#32))
    * (min (Ideal.ofBits .f32 0x40E00000#32) (max (Ideal.ofBits .f32 0xC0E00000#32) l) + Ideal.ofBits .f32 0x3F800000#32)

/-- The first layer. -/
theorem hidden_apply (b : Fin 8) (s : Fin 8192) (e : Fin 32) (k : Fin 512) :
    val_main_v7 (F := Ideal) N U B (ix4 b s e k) = plainHidden N U B b s e k := by
  pointwise [val_main_v7, val_main_v3, val_main_v2, val_main_v6, val_main_v5, val_main_v4, plainHidden]

/-- An expert's activation, weighted by the token's gate. -/
theorem activation_apply (b : Fin 8) (s : Fin 8192) (e : Fin 32) (f : Fin 256) :
    val_main_v27 (F := Ideal) N G U B (ix4 b s e f)
      = plainUnit (plainHidden N U B b s e (⟨2 * f.val, by omega⟩ : Fin 512)) (plainHidden N U B b s e (⟨2 * f.val + 1, by omega⟩ : Fin 512))
        * G (ix3 b s (⟨e.val, by omega⟩ : Fin 128)) := by
  pointwise [val_main_v27, val_main_v24, val_main_v21, val_main_v20, val_main_v18, val_main_v16, val_main_v15, val_main_v14,
    val_main_v10, val_main_v8, val_main_v12, val_main_v11, val_main_call0_v2, val_main_call0_v1, val_main_call0_v4, val_main_v23,
    val_main_v9, val_main_v13, val_main_v17, val_main_v19, val_main_v22, val_main_call0_v0, val_main_call0_v3, val_main_cst,
    val_main_cst_0, val_main_cst_1, val_main_cst_2, val_main_cst_3, val_main_cst_4, val_main_cst_5, val_main_v26, val_main_v25,
    val_main_v0, plainUnit]
  rw [hidden_apply, show (⟨1 + 2 * f.val, by omega⟩ : Fin 512) = ⟨2 * f.val + 1, by omega⟩ from Fin.ext (Nat.add_comm _ _),
    hidden_apply]
  rfl

/-- The result. -/
theorem result_apply (b : Fin 8) (s : Fin 8192) (q : Fin 1024) :
    val_main_v35 (F := Ideal) N G X M U B D C (ix3 b s q)
      = X (ix3 b s q) + M (ix3 b (5 : Fin 6) q)
        * (∑ e : Fin 32, ∑ f : Fin 256, plainUnit (plainHidden N U B b s e (⟨2 * f.val, by omega⟩ : Fin 512))
              (plainHidden N U B b s e (⟨2 * f.val + 1, by omega⟩ : Fin 512))
            * G (ix3 b s (⟨e.val, by omega⟩ : Fin 128)) * D (ix4 (0 : Fin 1) e f q)
          + ∑ e : Fin 32, G (ix3 b s (⟨e.val, by omega⟩ : Fin 128)) * C (ix3 (0 : Fin 1) e q)) := by
  pointwise [val_main_v35, val_main_v34, val_main_v33, val_main_v32, val_main_v31, val_main_v30, val_main_v29, val_main_v28,
    val_main_v1, val_main_v0]
  simp only [activation_apply]

end Cert.Reference2Ideal.Plain

end
-- ==== Proof.MoeEquation.lean ====
/-
  THE TWO SIDES OF THE MIXTURE OF EXPERTS MEET.  The kernel's sum over the consecutive activations is the reference's sum
  over the experts and their activations, and its product with 128 rows of biases, the last 96 of which are zero, is the
  reference's sum over 32 experts.
-/
module

public import proofs.«01_k».proof.Proof.MoeArray
public import proofs.«01_k».proof.Proof.MoeReference

@[expose] public section

set_option maxRecDepth 16384

noncomputable section

namespace Cert.MoeEquation

open Idealize.ShloMosaic Idealize.ShloMosaic.TcCoe Idealize.SL.Sem
open Cert.Kernel2Ideal Cert.Kernel2Ideal.Arrays

/-- A sum over `n` consecutive groups of `w` numbers, group by group. -/
theorem sum_groups (n w : ℕ) (f : ℕ → EReal) :
    ∑ k ∈ Finset.range (n * w), f k = ∑ e ∈ Finset.range n, ∑ l ∈ Finset.range w, f (w * e + l) := by
  induction n with
  | zero => simp
  | succ n ih => rw [Nat.succ_mul, Finset.sum_range_add, ih, Finset.sum_range_succ, Nat.mul_comm n w]

variable (N : FVec Ideal S8x8192x1024 .f32) (G : FVec Ideal S8x8192x128 .f32) (X : FVec Ideal S8x8192x1024 .f32)
  (M : FVec Ideal S8x6x1024 .f32) (U : FVec Ideal S1x32x1024x512 .f32) (B : FVec Ideal S1x32x512 .f32)
  (D : FVec Ideal S1x32x256x1024 .f32) (C : FVec Ideal S1x32x1024 .f32)

/-- The sum over all activations, expert by expert. -/
theorem terms_eq (b : Fin 8) (s : Fin 8192) (q : Fin 1024) :
    ∑ k ∈ Finset.range 8192, term N G U B D b s q k = ∑ e : Fin 32, ∑ f : Fin 256, termAt N G U B D b s q e f := by
  refine (sum_groups 32 256 _).trans ((Finset.sum_range _).trans (Finset.sum_congr rfl fun e _ =>
    (Finset.sum_range _).trans (Finset.sum_congr rfl fun f _ => ?_)))
  refine congrArg₂ (termAt N G U B D b s q) (Fin.ext ?_) (Fin.ext ?_)
  · show (256 * e.val + f.val) / 256 % 32 = e.val
    omega
  · show (256 * e.val + f.val) % 256 = f.val
    omega

/-- The product with the padded biases. -/
theorem biases_eq (b : Fin 8) (s : Fin 8192) (q : Fin 1024) :
    biasAt G C b s q = ∑ e : Fin 32, G (ix3 b s (⟨e.val, by omega⟩ : Fin 128)) * C (ix3 (0 : Fin 1) e q) := by
  refine (Fin.sum_univ_add (a := 32) (b := 96) _).trans ?_
  rw [Finset.sum_eq_zero (s := (Finset.univ : Finset (Fin 96))), add_zero]
  · refine Finset.sum_congr rfl fun e _ => ?_
    exact congrArg (G (ix3 b s (⟨e.val, by omega⟩ : Fin 128)) * ·) (dif_pos e.isLt)
  · intro e _
    rw [dif_neg (by simp), mul_zero]

/-- Both sides' unit. -/
theorem unit_eq (a l : EReal) : Block.unit a l = Cert.Reference2Ideal.Plain.plainUnit a l := rfl

/-- The two results are one. -/
theorem result_eq :
    (Cert.Reference2Ideal.Read.val_main_v35 (F := Ideal) N G X M U B D C : FVec Ideal S8x8192x1024 .f32)
      = mixed N G X M U B D C := by
  funext i
  idx_vars i
  refine (Cert.Reference2Ideal.Plain.result_apply N G X M U B D C i0 i1 i2).trans ?_
  refine congrArg (X (ix3 i0 i1 i2) + M (ix3 i0 (5 : Fin 6) i2) * ·) ?_
  exact (add_comm _ _).trans (congrArg₂ (· + ·) (biases_eq G C i0 i1 i2).symm (terms_eq N G U B D i0 i1 i2).symm)

end Cert.MoeEquation

end
-- ==== Proof.MoeClaims.lean ====
/-
  The mixture of experts' claims: the frames, and, for finite biases of the second layer, the equality with the reference.
-/
module

public import proofs.«01_k».proof.Defs
public import proofs.«01_k».proof.Proof.MoeEquation
public import proofs.«01_k».proof.Proof.Gen.Kernel2.Frame
public import proofs.«01_k».proof.Proof.Gen.Pre_bias_finite
public import Idealize.ShloMosaic.Lib.Quiescent
public import Idealize.ShloMosaic.Lib.Pointwise

@[expose] public section

noncomputable section

namespace Cert.Proof.MoeClaims

open Idealize.ShloMosaic Idealize.ShloMosaic.TcCoe Idealize.SL.Sem

theorem frame_p : Cert.quiescent_Kernel2 := fun m ρ _ => Cert.Kernel2.Gen.frame m ρ

theorem frame_pi : Cert.quiescent_Kernel2Ideal := fun m ρ _ => Cert.Kernel2Ideal.Gen.frame m ρ

theorem frame_pi_finite : Cert.quiescent_Kernel2Ideal_pre_bias_finite := fun m ρ _ => Cert.Kernel2Ideal.Gen.frame m ρ

theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_ri_finite : Cert.quiescent_Reference2Ideal_pre_bias_finite := fun m ρ _ => frame_ri m ρ trivial

theorem preserves : Cert.preserves_Kernel2_Kernel2Ideal := trivial

/-- The word of the positive infinity. -/
theorem top_word : Ideal.ofBits .f32 0x7F800000#32 = ⊤ := by simp [Ideal.ofBits, Ideal.ieee]

/-- What the precondition says of one bias. -/
theorem finite_of_lt (x : EReal) (h : max x (-x) < ⊤) : x ≠ ⊤ ∧ x ≠ ⊥ := by
  refine ⟨fun hx => ?_, fun hx => ?_⟩ <;> subst hx <;> simp at h

/-- The precondition: every bias of the second layer is finite. -/
theorem finite (m : (ℓ : Loc Cert.Kernel2Ideal.nD Cert.Kernel2Ideal.τ Cert.Kernel2Ideal.sig) → Buf (Elt Ideal) ℓ)
    (h : Cert.Pre_Kernel2Ideal_bias_finite m) (c : Dev Cert.Kernel2Ideal.nD) : Cert.Kernel2Ideal.Arrays.Finite m c := by
  intro i
  have hi := congrFun (h c) i
  pointwise [Cert.Pre_bias_finite.fn] at hi
  rw [top_word, Ideal.absf_def] at hi
  refine finite_of_lt _ (Decidable.byContradiction fun hn => ?_)
  rw [decide_eq_false hn] at hi
  exact absurd hi (by decide)

theorem algebraic : Cert.algebraic_Kernel2Ideal_Reference2Ideal_pre_bias_finite := by
  intro m ρ m' ρ' hpre hagree
  refine ⟨_, Cert.Kernel2Ideal.Arrays.run m ρ (finite m hpre), ?_⟩
  refine (θ_run Cert.Reference2Ideal.defs _ _).mono (fun _ h c => ⟨(h c).1.trans ?_, (h c).2⟩)
    (Cert.Reference2Ideal.Value.run (F := Ideal) m' ρ')
  obtain ⟨h0, h1, h2, h3, h4, h5, h6, h7⟩ := hagree c
  rw [h0, h1, h2, h3, h4, h5, h6, h7]
  exact (Cert.Reference2Ideal.Read.val_main_v35_eq (F := Ideal) _ _ _ _ _ _ _ _).trans
    (Cert.MoeEquation.result_eq _ _ _ _ _ _ _ _)

end Cert.Proof.MoeClaims

end
-- ==== Proof.InputRows.lean ====
/-
  THE INPUT PROJECTION, ROW BY ROW, over the extended reals: what both programs compute of one batch entry, from its rows.

  A row is normalised (its elements over the root of their mean square), scaled and shifted (`normed`), and multiplied by the
  weights (`projected`). The first 1536 columns pass a convolution of three taps along the rows, with zeros past the ends
  (`mixed`); the other columns are the queries' and keys' heads, normalised and turned (`turned`), the values and the gates.
-/
module

public import Idealize.ShloMosaic.Lib.Pointwise

@[expose] public section

noncomputable section

namespace Cert.Input

open Idealize.ShloMosaic

/-- What a batch entry's rows are computed from. -/
structure Entry where
  /-- the rows -/
  x : Fin 8192 → Fin 1024 → EReal
  /-- the norm's gain, and the entry's own scale and shift -/
  gain : Fin 1024 → EReal
  scale : Fin 1024 → EReal
  shift : Fin 1024 → EReal
  /-- the projection's weights -/
  w : Fin 1024 → Fin 4608 → EReal
  /-- the convolution's taps and bias -/
  tap : Fin 3 → Fin 1536 → EReal
  bias : Fin 1536 → EReal
  /-- the rotation's cosines and sines at each row, the sines with the rotation's sign -/
  cos : Fin 8192 → Fin 128 → EReal
  sin : Fin 8192 → Fin 128 → EReal
  /-- the gains of the queries' and of the keys' norm -/
  qgain : Fin 128 → EReal
  kgain : Fin 128 → EReal

/-- An element over the root of the row's mean square; `w` is the row's length. -/
def unit {n : ℕ} (w : EReal) (x : Fin n → EReal) (k : Fin n) : EReal :=
  x k * Ideal.rsqrt (Ideal.div (∑ l, x l * x l) w + Ideal.ofBits .f32 0x358637BD#32)

/-- The normalised row, scaled and shifted. -/
def norm (x gain scale shift : Fin 1024 → EReal) (k : Fin 1024) : EReal :=
  unit (Ideal.ofBits .f32 0x44800000#32) x k * gain k * (1 + scale k) + shift k

/-- The lane a lane is turned with: 32 lanes on in the first half of each 64, 32 back in the second. -/
def partner (d : Fin 128) : Fin 128 :=
  if d.val % 64 < 32 then ⟨(d.val + 128 - 96) % 128, Nat.mod_lt _ (by norm_num)⟩
  else ⟨(d.val + 128 - 32) % 128, Nat.mod_lt _ (by norm_num)⟩

/-- A head normalised and turned. -/
def turned (z gain cos sin : Fin 128 → EReal) (d : Fin 128) : EReal :=
  unit (Ideal.ofBits .f32 0x43000000#32) z d * gain d * cos d
    + unit (Ideal.ofBits .f32 0x43000000#32) z (partner d) * gain (partner d) * sin d

/-- The angle a row's lane is turned by. The row's number in a grid of 64 columns is its position: the grid's row turns the
    first half of the lanes, its column the second; a lane's frequency is a power of ten thousand. -/
def angle (s : Fin 8192) (d : Fin 128) : EReal :=
  FloatOps.sitofp (F := Ideal) FTy.f32 (BitVec.ofNat 32 (if d.val < 64 then s.val / 64 else s.val % 64))
    * Ideal.pow (Ideal.ofBits .f32 0x461C4000#32)
        (Ideal.div (-FloatOps.sitofp (F := Ideal) FTy.f32 (BitVec.ofNat 32 (d.val % 32))) (Ideal.ofBits .f32 0x42000000#32))

/-- Its sine, with the rotation's sign: the partner of a lane in the first half of each 64 is subtracted. -/
def signedSine (s : Fin 8192) (d : Fin 128) : EReal :=
  if d.val % 64 < 32 then -Ideal.sin (angle s d) else Ideal.sin (angle s d)

namespace Entry

variable (E : Entry)

/-- The normalised rows. -/
def normed (s : Fin 8192) : Fin 1024 → EReal := norm (E.x s) E.gain E.scale E.shift

/-- The projected rows. -/
def projected (s : Fin 8192) (c : Fin 4608) : EReal := ∑ k, E.normed s k * E.w k c

/-- The row before, zero at the first. -/
def before (s : Fin 8192) (c : Fin 1536) : EReal :=
  if s.val = 0 then 0 else E.projected ⟨s.val - 1, by omega⟩ ⟨c.val, by omega⟩

/-- The row after, zero at the last. -/
def after (s : Fin 8192) (c : Fin 1536) : EReal :=
  if h : s.val + 1 < 8192 then E.projected ⟨s.val + 1, h⟩ ⟨c.val, by omega⟩ else 0

/-- The convolution. -/
def mixed (s : Fin 8192) (c : Fin 1536) : EReal :=
  E.before s c * E.tap 0 c + E.projected s ⟨c.val, by omega⟩ * E.tap 1 c + E.after s c * E.tap 2 c + E.bias c

/-- The first result: the convolution's first 512 columns. -/
def first (s : Fin 8192) (c : Fin 512) : EReal := E.mixed s ⟨c.val, by omega⟩

/-- The second: its second 512 times its third. -/
def second (s : Fin 8192) (c : Fin 512) : EReal := E.mixed s ⟨512 + c.val, by omega⟩ * E.mixed s ⟨1024 + c.val, by omega⟩

/-- The queries, four heads of 128. -/
def query (s : Fin 8192) (c : Fin 512) : EReal :=
  turned (fun e => E.projected s ⟨1536 + (128 * (c.val / 128) + e.val), by omega⟩) E.qgain (E.cos s) (E.sin s)
    ⟨c.val % 128, Nat.mod_lt _ (by norm_num)⟩

/-- The keys, two heads of 128. -/
def key (s : Fin 8192) (c : Fin 256) : EReal :=
  turned (fun e => E.projected s ⟨2048 + (128 * (c.val / 128) + e.val), by omega⟩) E.kgain (E.cos s) (E.sin s)
    ⟨c.val % 128, Nat.mod_lt _ (by norm_num)⟩

/-- The values, and the two gates. -/
def value (s : Fin 8192) (c : Fin 256) : EReal := E.projected s ⟨2304 + c.val, by omega⟩
def gateHyena (s : Fin 8192) (c : Fin 1024) : EReal := E.projected s ⟨2560 + c.val, by omega⟩
def gateAttention (s : Fin 8192) (c : Fin 1024) : EReal := E.projected s ⟨3584 + c.val, by omega⟩

end Entry

end Cert.Input

end
-- ==== Proof.InputPieces.lean ====
/-
  THE PIECES OF THE INPUT PROJECTION'S KERNEL. A block holds 1024 rows and is worked in two runs of 512, by the same
  operations: the second run's values are the first's at other rows (`second_…`), and every head of a run is `turnedHead` of
  `unitHead`. Over the extended reals each piece is read at an index.
-/
module

public import proofs.«01_k».proof.Proof.InputRows
public import proofs.«01_k».proof.Proof.Gen.Kernel3Ideal.Frame

@[expose] public section

set_option maxRecDepth 16384

noncomputable section

namespace Cert.Kernel3Ideal.Pieces

open Cert.Kernel3Ideal Cert.Kernel3Ideal.Gen
open Idealize.ShloMosaic Idealize.ShloMosaic.TcCoe Idealize.SL.Sem

section Any
variable {F : FTy → Type} [FloatOps F]

theorem second_normed (a b c d) : k0_pay52 (F := F) (k0_pay50 a b c) (k0_pay51 d) = k0_pay5 a b c d := rfl

theorem second_projected (p q a b) (g : Vec F S1x1024 .f32) (s t w) :
    k0_pay55 p q a b g s t w = k0_pay8 p q (k0_pay52 a b) g s t w := rfl

/-- The row after a run, times 0 where there is none. -/
def rowAfter (z : F .f32) (u : FVec F S528x1536 .f32) : FVec F S1x1536 .f32 :=
  mulf (extractStridedSlice S1x1536 ![520, 0] u slices_S528x1536_o520_0_S1x1536) (broadcast S1x1536 z)

/-- A head over the root of its mean square, times the gain. -/
def unitHead (z : FVec F S512x128 .f32) (g : Vec F S1x128 .f32) : FVec F S512x128 .f32 :=
  mulf (mulf z (broadcastTo S512x128 (rsqrt (addf (divf (shapeCast S512x1 (multiReduction .add [1] S512 (mulf z z)
      0x00000000#32 reduces_S512x128_S512 (.inl rfl) rfl) shapeCasts_S512_S512x1)
    (broadcast S512x1 (Scalar.ofBits .f32 0x43000000#32))) (broadcast S512x1 (Scalar.ofBits .f32 0x358637BD#32))))
    broadcasts_S512x1_S512x128)) (broadcastTo S512x128 (shapeCast S1x128 g shapeCasts_S1x128_S1x128) broadcasts_S1x128_S512x128)

/-- A head turned: times the cosines, plus the partners' lanes times the sines. -/
def turnedHead (c s n : FVec F S512x128 .f32) : FVec F S512x128 .f32 :=
  addf (mulf n c) (mulf (select (cmpi .slt k0_pay19 k0_pay20) (dynamicRotate 1 96#32 none n rotates_S512x128_d1)
    (dynamicRotate 1 32#32 none n rotates_S512x128_d1)) s)

/-- A head of the queries, from the run's projection. -/
def queryHead (c s : FVec F S512x128 .f32) (z : FVec F S512x512 .f32) (g : Vec F S1x128 .f32) (o : ℕ)
    (h : S512x512.Slices ![0, o] S512x128) : FVec F S1x512x128 .f32 :=
  shapeCast S1x512x128 (turnedHead c s (unitHead (extractStridedSlice S512x128 ![0, o] z h) g)) shapeCasts_S512x128_S1x512x128

/-- A head of the keys. -/
def keyHead (c s : FVec F S512x128 .f32) (z : FVec F S512x256 .f32) (g : Vec F S1x128 .f32) (o : ℕ)
    (h : S512x256.Slices ![0, o] S512x128) : FVec F S1x512x128 .bf16 :=
  shapeCast S1x512x128 (truncf .bf16 (turnedHead c s (unitHead (extractStridedSlice S512x128 ![0, o] z h) g)) bitsLt_bf16_f32)
    shapeCasts_S512x128_S1x512x128

end Any

/-- The words a lane's half is told by. -/
theorem half_word : ∀ k : Fin 128, (cmpi .slt k0_pay19 k0_pay20) (ix2 (0 : Fin 512) k) = BitVec.ofBool (decide (k.val % 64 < 32)) := by
  decide +kernel

theorem select_half {α : Type} (r : Fin 512) (k : Fin 128) (a b : α) :
    Scalar.select ((cmpi .slt k0_pay19 k0_pay20) (ix2 r k)) a b = if k.val % 64 < 32 then a else b := by
  have h : (cmpi .slt k0_pay19 k0_pay20) (ix2 r k) = (cmpi .slt k0_pay19 k0_pay20) (ix2 (0 : Fin 512) k) := rfl
  rw [h, half_word]
  by_cases hk : k.val % 64 < 32
  · rw [if_pos hk, decide_eq_true hk]; rfl
  · rw [if_neg hk, decide_eq_false hk]; rfl

theorem first_word : ∀ r : Fin 512, IntOp.cmpi .eq (BitVec.ofNat 32 r.val) 0#32 = BitVec.ofBool (decide (r.val = 0)) := by
  decide +kernel
theorem last_word : ∀ r : Fin 512, IntOp.cmpi .eq (BitVec.ofNat 32 r.val) 511#32 = BitVec.ofBool (decide (r.val = 511)) := by
  decide +kernel

theorem select_bool {α : Type} (p : Prop) [Decidable p] (a b : α) :
    Scalar.select (BitVec.ofBool (decide p)) a b = if p then a else b := by
  by_cases hp : p
  · rw [if_pos hp, decide_eq_true hp]; rfl
  · rw [if_neg hp, decide_eq_false hp]; rfl

theorem normed_apply (v : Vec Ideal S1x512x1024 .f32) (g : Vec Ideal S1x1024 .f32) (a b : Vec Ideal S1x1x1024 .f32) (r : Fin 512)
    (k : Fin 1024) :
    k0_pay5 v g a b (ix2 r k)
      = Input.norm (fun l => v (ix3 0 r l)) (fun l => g (ix2 0 l)) (fun l => a (ix3 0 0 l)) (fun l => b (ix3 0 0 l)) k := by
  pointwise [k0_pay5]
  rfl

section Projection
variable (p q : FVec Ideal S8x1024 .f32) (n : FVec Ideal S512x1024 .bf16) (g : Vec Ideal S1x1024 .f32)
  (a b : Vec Ideal S1x1x1024 .f32) (w : Vec Ideal S1024x1536 .bf16) (z : Ideal .f32) (k : Fin 1536)

/-- The convolved columns at a row of the run, -/
theorem inner_apply (r : Fin 512) : k0_pay9 p q n g a b w (ix2 r k) = ∑ l, n (ix2 r l) * w (ix2 l k) := by
  pointwise [k0_pay9, k0_pay8]

/-- at the row before it, -/
theorem before_apply : k0_pay10 p q z n g a b w (ix2 0 k)
    = (∑ l, Input.norm (fun l => p (ix2 7 l)) (fun l => g (ix2 0 l)) (fun l => a (ix3 0 0 l)) (fun l => b (ix3 0 0 l)) l
        * w (ix2 l k)) * z := by
  pointwise [k0_pay10, k0_pay8]
  rfl

/-- and at the row after it. -/
theorem after_apply : rowAfter z (k0_pay8 p q n g a b w) (ix2 0 k)
    = (∑ l, Input.norm (fun l => q (ix2 0 l)) (fun l => g (ix2 0 l)) (fun l => a (ix3 0 0 l)) (fun l => b (ix3 0 0 l)) l
        * w (ix2 l k)) * z := by
  pointwise [rowAfter, k0_pay8]
  rfl

end Projection

theorem mixed_apply (u : FVec Ideal S512x1536 .f32) (p n : FVec Ideal S1x1536 .f32) (a b d e : Vec Ideal S1x1536 .f32)
    (r : Fin 512) (k : Fin 1536) :
    k0_pay12 u p n a b d e (ix2 r k)
      = (if r.val = 0 then p (ix2 0 k) else u (ix2 (⟨(r.val + 512 - 1) % 512, Nat.mod_lt _ (by norm_num)⟩ : Fin 512) k)) * a (ix2 0 k)
        + u (ix2 r k) * b (ix2 0 k)
        + (if r.val = 511 then n (ix2 0 k) else u (ix2 (⟨(r.val + 512 - 511) % 512, Nat.mod_lt _ (by norm_num)⟩ : Fin 512) k)) * d (ix2 0 k)
        + e (ix2 0 k) := by
  pointwise [k0_pay12]
  rw [first_word, last_word, select_bool, select_bool]

theorem turned_apply (c s z : FVec Ideal S512x128 .f32) (g : Vec Ideal S1x128 .f32) (r : Fin 512) (d : Fin 128) :
    turnedHead c s (unitHead z g) (ix2 r d)
      = Input.turned (fun e => z (ix2 r e)) (fun e => g (ix2 0 e)) (fun e => c (ix2 r e)) (fun e => s (ix2 r e)) d := by
  have h : turnedHead c s (unitHead z g) (ix2 r d) = unitHead z g (ix2 r d) * c (ix2 r d)
      + Scalar.select ((cmpi .slt k0_pay19 k0_pay20) (ix2 r d))
          (unitHead z g (ix2 r (⟨(d.val + 128 - 96) % 128, Nat.mod_lt _ (by norm_num)⟩ : Fin 128)))
          (unitHead z g (ix2 r (⟨(d.val + 128 - 32) % 128, Nat.mod_lt _ (by norm_num)⟩ : Fin 128))) * s (ix2 r d) := by
    pointwise [turnedHead]
  rw [h, select_half]
  unfold Input.turned Input.partner
  split
  · pointwise [unitHead]
    rfl
  · pointwise [unitHead]
    rfl

end Cert.Kernel3Ideal.Pieces

end
-- ==== Proof.InputBlock.lean ====
/-
  WHAT A POINT OF THE INPUT PROJECTION'S GRID LEAVES IN ITS BUFFERS, over the extended reals. A point reads 1024 rows of a
  batch entry and the eight on either side (`Reads`); what it leaves in each result's buffer is that result at those rows.
-/
module

public import proofs.«01_k».proof.Proof.InputPieces
public import Idealize.ShloMosaic.Lib.Pipeline.Value
public import Idealize.ShloMosaic.Lib.Pipeline.ValueKit.Tiles

@[expose] public section

set_option maxRecDepth 16384

noncomputable section

namespace Cert.Kernel3Ideal.Block

open Cert.Kernel3Ideal Cert.Kernel3Ideal.Gen Cert.Kernel3Ideal.Pieces
open Idealize.ShloMosaic Idealize.ShloMosaic.TcCoe Idealize.SL.Sem
open Cert.Input (Entry)

/-- The blocks of point `i`, as parts of the batch entry `E`: block `i 1` of its rows, and the rows around it. -/
structure Reads (E : Entry) (i : grid0.Coords) (x0 : Vec Ideal S1x1024x1024 .f32) (x1 x2 : Vec Ideal S1x8x1024 .f32)
    (x3 : Vec Ideal S1x6x1024 .f32) (x4 : Vec Ideal S1x1024 .f32) (x5 : Vec Ideal S1024x4608 .bf16)
    (x6 x7 : Vec Ideal S1024x128 .f32) (x8 x9 : Vec Ideal S1x128 .f32) (x10 : Vec Ideal S3x1536 .f32)
    (x11 : Vec Ideal S1x1536 .f32) : Prop where
  rows : ∀ (r : Fin 1024) (s : Fin 8192), s.val = 1024 * (i 1).val + r.val → (fun k => x0 (ix3 0 r k)) = E.x s
  prev : ∀ s : Fin 8192, s.val + 1 = 1024 * (i 1).val → (fun k => x1 (ix3 0 7 k)) = E.x s
  next : ∀ s : Fin 8192, s.val = 1024 * (i 1).val + 1024 → (fun k => x2 (ix3 0 0 k)) = E.x s
  scale : (fun k => x3 (ix3 0 1 k)) = E.scale
  shift : (fun k => x3 (ix3 0 0 k)) = E.shift
  gain : (fun k => x4 (ix2 0 k)) = E.gain
  weights : ∀ k c, x5 (ix2 k c) = E.w k c
  cos : ∀ (r : Fin 1024) (s : Fin 8192), s.val = 1024 * (i 1).val + r.val → (fun d => x6 (ix2 r d)) = E.cos s
  sin : ∀ (r : Fin 1024) (s : Fin 8192), s.val = 1024 * (i 1).val + r.val → (fun d => x7 (ix2 r d)) = E.sin s
  qgain : (fun d => x8 (ix2 0 d)) = E.qgain
  kgain : (fun d => x9 (ix2 0 d)) = E.kgain
  tap : ∀ t c, x10 (ix2 t c) = E.tap t c
  bias : ∀ c, x11 (ix2 0 c) = E.bias c

variable {E : Entry} {i : grid0.Coords} {x0 : Vec Ideal S1x1024x1024 .f32} {x1 x2 : Vec Ideal S1x8x1024 .f32}
  {x3 : Vec Ideal S1x6x1024 .f32} {x4 : Vec Ideal S1x1024 .f32} {x5 : Vec Ideal S1024x4608 .bf16}
  {x6 x7 : Vec Ideal S1024x128 .f32} {x8 x9 : Vec Ideal S1x128 .f32} {x10 : Vec Ideal S3x1536 .f32} {x11 : Vec Ideal S1x1536 .f32}

/-- A run of 512 rows of `E` from row `o` on. -/
def Run (E : Entry) (o : ℕ) (n : FVec Ideal S512x1024 .bf16) : Prop :=
  ∀ (r : Fin 512) (s : Fin 8192), s.val = o + r.val → ∀ k, n (ix2 r k) = E.normed s k

section Runs
variable (h : Reads E i x0 x1 x2 x3 x4 x5 x6 x7 x8 x9 x10 x11)
include h

/-- The norm of a row. -/
theorem norm_eq (s : Fin 8192) (v : Fin 1024 → EReal) (hv : v = E.x s) :
    Input.norm v (fun l => View.ld x4 r0_3 (ix2 0 l)) (fun l => View.ld x3 r0_4 (ix3 0 0 l)) (fun l => View.ld x3 r0_5 (ix3 0 0 l))
      = E.normed s := by
  have hg : (fun l => View.ld x4 r0_3 (ix2 0 l)) = E.gain := by
    refine Eq.trans (funext fun l => ?_) h.gain
    pointwise []
  have ha : (fun l => View.ld x3 r0_4 (ix3 0 0 l)) = E.scale := by
    refine Eq.trans (funext fun l => ?_) h.scale
    pointwise []
  have hb : (fun l => View.ld x3 r0_5 (ix3 0 0 l)) = E.shift := by
    refine Eq.trans (funext fun l => ?_) h.shift
    pointwise []
  rw [hg, ha, hb, hv]
  rfl

theorem run_first : Run E (1024 * (i 1).val) (k0_pay99 i x0 x1 x2 x3 x4 x5 x6 x7 x8 x9 x10 x11) := by
  intro r s hs k
  unfold k0_pay99
  rw [normed_apply, norm_eq h s]
  refine Eq.trans (funext fun l => ?_) (h.rows ⟨r.val, by omega⟩ s hs)
  pointwise []

theorem run_second : Run E (1024 * (i 1).val + 512) (k0_pay111 i x0 x1 x2 x3 x4 x5 x6 x7 x8 x9 x10 x11) := by
  intro r s hs k
  unfold k0_pay111 k0_pay110 k0_pay109
  rw [second_normed, normed_apply, norm_eq h s]
  refine Eq.trans (funext fun l => ?_) (h.rows ⟨512 + r.val, by omega⟩ s (by show s.val = _ + (512 + r.val); omega))
  pointwise []

/-- The cosines and the sines of a run. -/
theorem cos_first (r : Fin 512) (s : Fin 8192) (hs : s.val = 1024 * (i 1).val + r.val) :
    (fun d => k0_pay100 i x0 x1 x2 x3 x4 x5 x6 x7 x8 x9 x10 x11 (ix2 r d)) = E.cos s := by
  refine Eq.trans (funext fun d => ?_) (h.cos ⟨r.val, by omega⟩ s hs)
  pointwise [k0_pay100, k0_pay6]

theorem sin_first (r : Fin 512) (s : Fin 8192) (hs : s.val = 1024 * (i 1).val + r.val) :
    (fun d => k0_pay101 i x0 x1 x2 x3 x4 x5 x6 x7 x8 x9 x10 x11 (ix2 r d)) = E.sin s := by
  refine Eq.trans (funext fun d => ?_) (h.sin ⟨r.val, by omega⟩ s hs)
  pointwise [k0_pay101, k0_pay7]

theorem cos_second (r : Fin 512) (s : Fin 8192) (hs : s.val = 1024 * (i 1).val + 512 + r.val) :
    (fun d => k0_pay112 i x0 x1 x2 x3 x4 x5 x6 x7 x8 x9 x10 x11 (ix2 r d)) = E.cos s := by
  refine Eq.trans (funext fun d => ?_) (h.cos ⟨512 + r.val, by omega⟩ s (by show s.val = _ + (512 + r.val); omega))
  pointwise [k0_pay112, k0_pay53]

theorem sin_second (r : Fin 512) (s : Fin 8192) (hs : s.val = 1024 * (i 1).val + 512 + r.val) :
    (fun d => k0_pay113 i x0 x1 x2 x3 x4 x5 x6 x7 x8 x9 x10 x11 (ix2 r d)) = E.sin s := by
  refine Eq.trans (funext fun d => ?_) (h.sin ⟨512 + r.val, by omega⟩ s (by show s.val = _ + (512 + r.val); omega))
  pointwise [k0_pay113, k0_pay54]

theorem qgain_eq : (fun d => View.ld x8 r0_15 (ix2 0 d)) = E.qgain := by
  refine Eq.trans (funext fun d => ?_) h.qgain
  pointwise []

theorem kgain_eq : (fun d => View.ld x9 r0_15 (ix2 0 d)) = E.kgain := by
  refine Eq.trans (funext fun d => ?_) h.kgain
  pointwise []

variable {o : ℕ} {n : FVec Ideal S512x1024 .bf16} (hn : Run E o n)
include hn

/-- A run's projections. -/
theorem queries (r : Fin 512) (s : Fin 8192) (hs : s.val = o + r.val) (c : Fin 512) :
    k0_pay16 n (View.ld x5 r0_13) (ix2 r c) = E.projected s ⟨1536 + c.val, by omega⟩ := by
  pointwise [k0_pay16]
  exact Finset.sum_congr rfl fun k _ => congrArg₂ _ (hn r s hs k) (h.weights _ _)

theorem keys (r : Fin 512) (s : Fin 8192) (hs : s.val = o + r.val) (c : Fin 256) :
    k0_pay17 n (View.ld x5 r0_14) (ix2 r c) = E.projected s ⟨2048 + c.val, by omega⟩ := by
  pointwise [k0_pay17]
  exact Finset.sum_congr rfl fun k _ => congrArg₂ _ (hn r s hs k) (h.weights _ _)

theorem values (r : Fin 512) (s : Fin 8192) (hs : s.val = o + r.val) (c c' : Fin 256) (hc : c'.val = c.val) :
    k0_pay43 n (View.ld x5 r0_22) (ix3 0 r c) = E.value s c' := by
  obtain rfl := Fin.ext hc
  pointwise [k0_pay43]
  exact Finset.sum_congr rfl fun k _ => congrArg₂ _ (hn r s hs k) (h.weights _ _)

theorem gatesHyena (r : Fin 512) (s : Fin 8192) (hs : s.val = o + r.val) (c c' : Fin 1024) (hc : c'.val = c.val) :
    k0_pay44 n (View.ld x5 r0_24) (ix3 0 r c) = E.gateHyena s c' := by
  obtain rfl := Fin.ext hc
  pointwise [k0_pay44]
  exact Finset.sum_congr rfl fun k _ => congrArg₂ _ (hn r s hs k) (h.weights _ _)

theorem gatesAttention (r : Fin 512) (s : Fin 8192) (hs : s.val = o + r.val) (c c' : Fin 1024) (hc : c'.val = c.val) :
    k0_pay44 n (View.ld x5 r0_25) (ix3 0 r c) = E.gateAttention s c' := by
  obtain rfl := Fin.ext hc
  pointwise [k0_pay44]
  exact Finset.sum_congr rfl fun k _ => congrArg₂ _ (hn r s hs k) (h.weights _ _)

variable {p q : FVec Ideal S8x1024 .f32} {c s : FVec Ideal S512x128 .f32}

theorem inner (r : Fin 512) (t : Fin 8192) (ht : t.val = o + r.val) (k : Fin 1536) :
    k0_pay9 p q n (View.ld x4 r0_3) (View.ld x3 r0_4) (View.ld x3 r0_5) (View.ld x5 r0_7) (ix2 r k)
      = E.projected t ⟨k.val, by omega⟩ := by
  rw [inner_apply]
  refine Finset.sum_congr rfl fun l _ => congrArg₂ _ (hn r t ht l) ?_
  pointwise []
  exact h.weights _ _

omit hn in
/-- A row of the edges, projected. -/
theorem edge (t : Fin 8192) (v : Fin 1024 → EReal) (hv : v = E.x t) (k : Fin 1536) :
    (∑ l, Input.norm v (fun l => View.ld x4 r0_3 (ix2 0 l)) (fun l => View.ld x3 r0_4 (ix3 0 0 l))
        (fun l => View.ld x3 r0_5 (ix3 0 0 l)) l * View.ld x5 r0_7 (ix2 l k)) = E.projected t ⟨k.val, by omega⟩ := by
  rw [norm_eq h t v hv]
  refine Finset.sum_congr rfl fun l _ => congrArg _ ?_
  pointwise []
  exact h.weights _ _

omit hn in
/-- The convolution of a run, whose projections, and whose rows before and after, are `u`, `b` and `a`. -/
theorem mixed_run (ho : o + 512 ≤ 8192) (u : FVec Ideal S512x1536 .f32) (b a : FVec Ideal S1x1536 .f32)
    (hu : ∀ (r : Fin 512) (t : Fin 8192), t.val = o + r.val → ∀ k : Fin 1536, u (ix2 r k) = E.projected t ⟨k.val, by omega⟩)
    (hb : ∀ t : Fin 8192, t.val = o → ∀ k, b (ix2 0 k) = E.before t k)
    (ha : ∀ t : Fin 8192, t.val = o + 511 → ∀ k, a (ix2 0 k) = E.after t k)
    (r : Fin 512) (t : Fin 8192) (ht : t.val = o + r.val) (k : Fin 1536) :
    k0_pay12 u b a (View.ld x10 r0_8) (View.ld x10 r0_9) (View.ld x10 r0_10) (View.ld x11 r0_11) (ix2 r k) = E.mixed t k := by
  have h0 : View.ld x10 r0_8 (ix2 0 k) = E.tap 0 k := by
    refine Eq.trans ?_ (h.tap 0 k)
    pointwise []
  have h1 : View.ld x10 r0_9 (ix2 0 k) = E.tap 1 k := by
    refine Eq.trans ?_ (h.tap 1 k)
    pointwise []
  have h2 : View.ld x10 r0_10 (ix2 0 k) = E.tap 2 k := by
    refine Eq.trans ?_ (h.tap 2 k)
    pointwise []
  have h3 : View.ld x11 r0_11 (ix2 0 k) = E.bias k := by
    refine Eq.trans ?_ (h.bias k)
    pointwise []
  rw [mixed_apply, h0, h1, h2, h3, hu r t ht k]
  have hr := r.isLt
  have hbefore : (if r.val = 0 then b (ix2 0 k)
      else u (ix2 (⟨(r.val + 512 - 1) % 512, Nat.mod_lt _ (by norm_num)⟩ : Fin 512) k)) = E.before t k := by
    by_cases hr0 : r.val = 0
    · rw [if_pos hr0, hb t (by omega) k]
    · rw [if_neg hr0]
      unfold Entry.before
      rw [if_neg (by omega)]
      refine hu _ _ ?_ k
      show t.val - 1 = o + (r.val + 512 - 1) % 512
      omega
  have hafter : (if r.val = 511 then a (ix2 0 k)
      else u (ix2 (⟨(r.val + 512 - 511) % 512, Nat.mod_lt _ (by norm_num)⟩ : Fin 512) k)) = E.after t k := by
    by_cases hr0 : r.val = 511
    · rw [if_pos hr0, ha t (by omega) k]
    · rw [if_neg hr0]
      have hlt : t.val + 1 < 8192 := by omega
      unfold Entry.after
      rw [dif_pos hlt]
      refine hu _ _ ?_ k
      show t.val + 1 = o + (r.val + 512 - 511) % 512
      omega
  rw [hbefore, hafter]
  rfl

omit hn in
/-- A head of a run's queries, -/
theorem query_run (z : FVec Ideal S512x512 .f32) (b : ℕ) (hs : S512x512.Slices ![0, b] S512x128) (hb : b % 128 = 0)
    (hz : ∀ (r : Fin 512) (t : Fin 8192), t.val = o + r.val → ∀ c : Fin 512, z (ix2 r c) = E.projected t ⟨1536 + c.val, by omega⟩)
    (hc : ∀ (r : Fin 512) (t : Fin 8192), t.val = o + r.val → (fun d => c (ix2 r d)) = E.cos t)
    (hsin : ∀ (r : Fin 512) (t : Fin 8192), t.val = o + r.val → (fun d => s (ix2 r d)) = E.sin t)
    (r : Fin 512) (d : Fin 128) (t : Fin 8192) (ht : t.val = o + r.val) (e : Fin 512) (he : e.val = b + d.val) :
    queryHead c s z (View.ld x8 r0_15) b hs (ix3 0 r d) = E.query t e := by
  have hq : queryHead c s z (View.ld x8 r0_15) b hs (ix3 0 r d)
      = turnedHead c s (unitHead (extractStridedSlice S512x128 ![0, b] z hs) (View.ld x8 r0_15)) (ix2 r d) := by
    pointwise [queryHead]
  rw [hq, turned_apply, qgain_eq h, hc r t ht, hsin r t ht]
  unfold Entry.query
  refine congrArg₂ (fun v d => Input.turned v E.qgain (E.cos t) (E.sin t) d) (funext fun l => ?_) (Fin.ext ?_)
  · pointwise []
    rw [hz r t ht]
    refine congrArg _ (Fin.ext ?_)
    show 1536 + (b + l.val) = 1536 + (128 * (e.val / 128) + l.val)
    omega
  · show d.val = e.val % 128
    omega

omit hn in
/-- and of its keys. -/
theorem key_run (z : FVec Ideal S512x256 .f32) (b : ℕ) (hs : S512x256.Slices ![0, b] S512x128) (hb : b % 128 = 0)
    (hz : ∀ (r : Fin 512) (t : Fin 8192), t.val = o + r.val → ∀ c : Fin 256, z (ix2 r c) = E.projected t ⟨2048 + c.val, by omega⟩)
    (hc : ∀ (r : Fin 512) (t : Fin 8192), t.val = o + r.val → (fun d => c (ix2 r d)) = E.cos t)
    (hsin : ∀ (r : Fin 512) (t : Fin 8192), t.val = o + r.val → (fun d => s (ix2 r d)) = E.sin t)
    (r : Fin 512) (d : Fin 128) (t : Fin 8192) (ht : t.val = o + r.val) (e : Fin 256) (he : e.val = b + d.val) :
    keyHead c s z (View.ld x9 r0_15) b hs (ix3 0 r d) = E.key t e := by
  have hq : keyHead c s z (View.ld x9 r0_15) b hs (ix3 0 r d)
      = turnedHead c s (unitHead (extractStridedSlice S512x128 ![0, b] z hs) (View.ld x9 r0_15)) (ix2 r d) := by
    pointwise [keyHead]
  rw [hq, turned_apply, kgain_eq h, hc r t ht, hsin r t ht]
  unfold Entry.key
  refine congrArg₂ (fun v d => Input.turned v E.kgain (E.cos t) (E.sin t) d) (funext fun l => ?_) (Fin.ext ?_)
  · pointwise []
    rw [hz r t ht]
    refine congrArg _ (Fin.ext ?_)
    show 2048 + (b + l.val) = 2048 + (128 * (e.val / 128) + l.val)
    omega
  · show d.val = e.val % 128
    omega

end Runs

end Cert.Kernel3Ideal.Block

end
-- ==== Proof.InputOutputs.lean ====
/-
  THE SEVEN RESULTS OF A POINT OF THE INPUT PROJECTION'S GRID, over the extended reals: each buffer, assembled from the two
  runs' pieces, holds its result at the point's rows.
-/
module

public import proofs.«01_k».proof.Proof.InputBlock

@[expose] public section

set_option maxRecDepth 16384

noncomputable section

namespace Cert.Kernel3Ideal.Block

open Cert.Kernel3Ideal Cert.Kernel3Ideal.Gen Cert.Kernel3Ideal.Pieces
open Idealize.ShloMosaic Idealize.ShloMosaic.TcCoe Idealize.SL.Sem
open Cert.Input (Entry)

variable {E : Entry} {i : grid0.Coords} {x0 : Vec Ideal S1x1024x1024 .f32} {x1 x2 : Vec Ideal S1x8x1024 .f32}
  {x3 : Vec Ideal S1x6x1024 .f32} {x4 : Vec Ideal S1x1024 .f32} {x5 : Vec Ideal S1024x4608 .bf16}
  {x6 x7 : Vec Ideal S1024x128 .f32} {x8 x9 : Vec Ideal S1x128 .f32} {x10 : Vec Ideal S3x1536 .f32} {x11 : Vec Ideal S1x1536 .f32}

/-- The point's block of rows is one of eight. -/
theorem block_lt (i : grid0.Coords) : (i 1).val < 8 := (i 1).isLt

/-- The row of the entry that a row of the block is. -/
def row (i : grid0.Coords) (r : Fin 1024) : Fin 8192 := ⟨1024 * (i 1).val + r.val, by have := block_lt i; omega⟩

theorem at_eq (i : grid0.Coords) {n : ℕ} (f : Fin 8192 → Fin n → EReal) {r r' : Fin 1024} {c c' : Fin n} (hr : r.val = r'.val)
    (hc : c.val = c'.val) : f (row i r) c = f (row i r') c' := by
  rw [Fin.ext hr, Fin.ext hc]

theorem one_word : (Scalar.ofBits .f32 0x3F800000#32 : Ideal .f32) = 1 := by
  pointwise []

/-- What the kernel multiplies the row before the block by: 0 at the first block, -/
theorem has_before (i : grid0.Coords) : k0_pay4 (F := Ideal) i = if (i 1).val = 0 then 0 else 1 := by
  have hw : ∀ k : Fin 8, Scalar.cmpi .sgt (BitVec.ofNat 32 k.val) 0#32 = BitVec.ofBool (decide (¬ k.val = 0)) := by decide +kernel
  pointwise [k0_pay4]
  rw [hw ⟨(i 1).val, block_lt i⟩, select_bool]
  by_cases h0 : (i 1).val = 0
  · rw [if_pos h0, if_neg (not_not_intro h0)]
  · rw [if_neg h0, if_pos h0]

/-- and the row after it: 0 at the last. -/
theorem has_after (i : grid0.Coords) : k0_pay49 (F := Ideal) (BitVec.ofNat 32 (i 1).val) = if (i 1).val < 7 then 1 else 0 := by
  have hw : ∀ k : Fin 8, Scalar.cmpi .slt (BitVec.ofNat 32 k.val) 7#32 = BitVec.ofBool (decide (k.val < 7)) := by decide +kernel
  pointwise [k0_pay49]
  rw [hw ⟨(i 1).val, block_lt i⟩, select_bool]

variable (h : Reads E i x0 x1 x2 x3 x4 x5 x6 x7 x8 x9 x10 x11)
include h

theorem before_first (t : Fin 8192) (ht : t.val = 1024 * (i 1).val) (k : Fin 1536) :
    k0_pay103 i x0 x1 x2 x3 x4 x5 x6 x7 x8 x9 x10 x11 (ix2 0 k) = E.before t k := by
  unfold k0_pay103
  rw [before_apply, has_before]
  unfold Entry.before
  by_cases h0 : (i 1).val = 0
  · rw [if_pos h0, if_pos (by omega), mul_zero]
  · rw [if_neg h0, if_neg (by omega), mul_one]
    refine edge h ⟨t.val - 1, by omega⟩ _ ?_ k
    refine Eq.trans (funext fun l => ?_) (h.prev ⟨t.val - 1, by omega⟩ (by show t.val - 1 + 1 = _; omega))
    pointwise [k0_pay97, k0_pay2]

theorem after_first (t : Fin 8192) (ht : t.val = 1024 * (i 1).val + 511) (k : Fin 1536) :
    k0_pay104 i x0 x1 x2 x3 x4 x5 x6 x7 x8 x9 x10 x11 (ix2 0 k) = E.after t k := by
  have hi := block_lt i
  refine (after_apply _ _ _ _ _ _ _ (Scalar.ofBits .f32 0x3F800000#32) k).trans ?_
  unfold Entry.after
  rw [one_word, mul_one, dif_pos (by omega)]
  refine edge h ⟨t.val + 1, by omega⟩ _ ?_ k
  refine Eq.trans (funext fun l => ?_) (h.rows ⟨512, by norm_num⟩ ⟨t.val + 1, by omega⟩ (by show t.val + 1 = _ + 512; omega))
  pointwise [k0_pay98, k0_pay3]

theorem before_second (t : Fin 8192) (ht : t.val = 1024 * (i 1).val + 512) (k : Fin 1536) :
    k0_pay116 i x0 x1 x2 x3 x4 x5 x6 x7 x8 x9 x10 x11 (ix2 0 k) = E.before t k := by
  refine (before_apply (k0_pay107 i x0 x1 x2 x3 x4 x5 x6 x7 x8 x9 x10 x11) (k0_pay108 i x0 x1 x2 x3 x4 x5 x6 x7 x8 x9 x10 x11)
    (k0_pay111 i x0 x1 x2 x3 x4 x5 x6 x7 x8 x9 x10 x11) _ _ _ _ (Scalar.ofBits .f32 0x3F800000#32) k).trans ?_
  unfold Entry.before
  rw [one_word, mul_one, if_neg (by omega)]
  refine edge h ⟨t.val - 1, by omega⟩ _ ?_ k
  refine Eq.trans (funext fun l => ?_) (h.rows ⟨511, by norm_num⟩ ⟨t.val - 1, by omega⟩ (by show t.val - 1 = _ + 511; omega))
  pointwise [k0_pay107, k0_pay47]

theorem after_second (t : Fin 8192) (ht : t.val = 1024 * (i 1).val + 512 + 511) (k : Fin 1536) :
    rowAfter (k0_pay49 (F := Ideal) (BitVec.ofNat 32 (i 1).val)) (k0_pay114 i x0 x1 x2 x3 x4 x5 x6 x7 x8 x9 x10 x11) (ix2 0 k)
      = E.after t k := by
  have hi := block_lt i
  unfold k0_pay114
  rw [second_projected, after_apply, has_after]
  unfold Entry.after
  by_cases h7 : (i 1).val < 7
  · rw [if_pos h7, dif_pos (by omega), mul_one]
    refine edge h ⟨t.val + 1, by omega⟩ _ ?_ k
    refine Eq.trans (funext fun l => ?_) (h.next ⟨t.val + 1, by omega⟩ (by show t.val + 1 = _; omega))
    pointwise [k0_pay108, k0_pay48]
  · rw [if_neg h7, dif_neg (by omega), mul_zero]

/-- The convolution of the first run, -/
theorem mixed_first (r : Fin 512) (t : Fin 8192) (ht : t.val = 1024 * (i 1).val + r.val) (k : Fin 1536) :
    k0_pay12 (k0_pay102 i x0 x1 x2 x3 x4 x5 x6 x7 x8 x9 x10 x11) (k0_pay103 i x0 x1 x2 x3 x4 x5 x6 x7 x8 x9 x10 x11)
        (k0_pay104 i x0 x1 x2 x3 x4 x5 x6 x7 x8 x9 x10 x11) (View.ld x10 r0_8) (View.ld x10 r0_9) (View.ld x10 r0_10)
        (View.ld x11 r0_11) (ix2 r k) = E.mixed t k :=
  mixed_run h (by have := block_lt i; omega) _ _ _ (fun r t ht k => inner h (run_first h) r t ht k) (before_first h)
    (after_first h) r t ht k

/-- and of the second. -/
theorem mixed_second (r : Fin 512) (t : Fin 8192) (ht : t.val = 1024 * (i 1).val + 512 + r.val) (k : Fin 1536) :
    k0_pay12 (k0_pay115 i x0 x1 x2 x3 x4 x5 x6 x7 x8 x9 x10 x11) (k0_pay116 i x0 x1 x2 x3 x4 x5 x6 x7 x8 x9 x10 x11)
        (rowAfter (k0_pay49 (F := Ideal) (BitVec.ofNat 32 (i 1).val)) (k0_pay114 i x0 x1 x2 x3 x4 x5 x6 x7 x8 x9 x10 x11))
        (View.ld x10 r0_8) (View.ld x10 r0_9) (View.ld x10 r0_10) (View.ld x11 r0_11) (ix2 r k) = E.mixed t k :=
  mixed_run h (by have := block_lt i; omega) _ _ _ (fun r t ht k => inner h (run_second h) r t ht k) (before_second h)
    (after_second h) r t ht k

omit h in
/-- The first two results of a run whose convolution is known. -/
theorem first_run {o : ℕ} {u : FVec Ideal S512x1536 .f32} {b a : FVec Ideal S1x1536 .f32} {w0 w1 w2 w3 : Vec Ideal S1x1536 .f32}
    (hm : ∀ (r : Fin 512) (t : Fin 8192), t.val = o + r.val → ∀ k, k0_pay12 u b a w0 w1 w2 w3 (ix2 r k) = E.mixed t k)
    (r : Fin 512) (t : Fin 8192) (ht : t.val = o + r.val) (c c' : Fin 512) (hc : c'.val = c.val) :
    k0_pay13 u b a w0 w1 w2 w3 (ix3 0 r c) = E.first t c' := by
  obtain rfl := Fin.ext hc
  pointwise [k0_pay13]
  exact hm r t ht _

omit h in
theorem second_run {o : ℕ} {u : FVec Ideal S512x1536 .f32} {b a : FVec Ideal S1x1536 .f32} {w0 w1 w2 w3 : Vec Ideal S1x1536 .f32}
    (hm : ∀ (r : Fin 512) (t : Fin 8192), t.val = o + r.val → ∀ k, k0_pay12 u b a w0 w1 w2 w3 (ix2 r k) = E.mixed t k)
    (r : Fin 512) (t : Fin 8192) (ht : t.val = o + r.val) (c c' : Fin 512) (hc : c'.val = c.val) :
    k0_pay15 (k0_pay14 u b a w0 w1 w2 w3) (ix3 0 r c) = E.second t c' := by
  obtain rfl := Fin.ext hc
  pointwise [k0_pay15, k0_pay14]
  exact congrArg₂ _ (hm r t ht _) (hm r t ht _)

/-- The first result: the convolution's first columns. -/
def firstAt (E : Entry) (i : grid0.Coords) : Vec Ideal S1x1024x512 .bf16 := fun y => E.first (row i (y 1)) (y 2)

theorem first_eq : out0_12 i x0 x1 x2 x3 x4 x5 x6 x7 x8 x9 x10 x11 = firstAt E i := by
  have second := first_run (mixed_second h)
  have first := first_run (mixed_first h)
  unfold out0_12
  funext y
  refine View.canon_apply_of_pieces (firstAt E i) _ ?_ y (cover0_12 _ _ y)
  simp only [List.forall_mem_cons, List.not_mem_nil, false_implies, implies_true, and_true]
  refine ⟨fun (j : S1x512x512.Idx) => ?_, fun (j : S1x512x512.Idx) => ?_⟩
  · idx_vars j
    obtain rfl : j0 = 0 := Subsingleton.elim _ _
    refine Eq.trans (second j1 (row i ⟨512 + j1.val, by omega⟩) (by show _ + (512 + j1.val) = _; omega) j2 ⟨0 + j2.val, by omega⟩
      (Nat.zero_add _)) ?_
    exact at_eq i E.first (by show 512 + j1.val = 512 + 1 * j1.val; omega) (by show 0 + j2.val = 0 + 1 * j2.val; omega)
  · idx_vars j
    obtain rfl : j0 = 0 := Subsingleton.elim _ _
    refine Eq.trans (first j1 (row i ⟨0 + j1.val, by omega⟩) (by show _ + (0 + j1.val) = _; omega) j2 ⟨0 + j2.val, by omega⟩
      (Nat.zero_add _)) ?_
    exact at_eq i E.first (by show 0 + j1.val = 0 + 1 * j1.val; omega) (by show 0 + j2.val = 0 + 1 * j2.val; omega)

/-- The second: its second columns times its third. -/
def secondAt (E : Entry) (i : grid0.Coords) : Vec Ideal S1x1024x512 .bf16 := fun y => E.second (row i (y 1)) (y 2)

theorem second_eq : out0_13 i x0 x1 x2 x3 x4 x5 x6 x7 x8 x9 x10 x11 = secondAt E i := by
  have second := second_run (mixed_second h)
  have first := second_run (mixed_first h)
  unfold out0_13
  funext y
  refine View.canon_apply_of_pieces (secondAt E i) _ ?_ y (cover0_13 _ _ y)
  simp only [List.forall_mem_cons, List.not_mem_nil, false_implies, implies_true, and_true]
  refine ⟨fun (j : S1x512x512.Idx) => ?_, fun (j : S1x512x512.Idx) => ?_⟩
  · idx_vars j
    obtain rfl : j0 = 0 := Subsingleton.elim _ _
    refine Eq.trans (second j1 (row i ⟨512 + j1.val, by omega⟩) (by show _ + (512 + j1.val) = _; omega) j2 ⟨0 + j2.val, by omega⟩
      (Nat.zero_add _)) ?_
    exact at_eq i E.second (by show 512 + j1.val = 512 + 1 * j1.val; omega) (by show 0 + j2.val = 0 + 1 * j2.val; omega)
  · idx_vars j
    obtain rfl : j0 = 0 := Subsingleton.elim _ _
    refine Eq.trans (first j1 (row i ⟨0 + j1.val, by omega⟩) (by show _ + (0 + j1.val) = _; omega) j2 ⟨0 + j2.val, by omega⟩
      (Nat.zero_add _)) ?_
    exact at_eq i E.second (by show 0 + j1.val = 0 + 1 * j1.val; omega) (by show 0 + j2.val = 0 + 1 * j2.val; omega)

/-- The queries. -/
def queryAt (E : Entry) (i : grid0.Coords) : Vec Ideal S1x1024x512 .f32 := fun y => E.query (row i (y 1)) (y 2)

theorem query_eq : out0_14 i x0 x1 x2 x3 x4 x5 x6 x7 x8 x9 x10 x11 = queryAt E i := by
  have second (b : ℕ) (hs : S512x512.Slices ![0, b] S512x128) (hb : b % 128 = 0) := query_run h _ b hs hb
    (queries h (run_second h)) (cos_second h) (sin_second h)
  have first (b : ℕ) (hs : S512x512.Slices ![0, b] S512x128) (hb : b % 128 = 0) := query_run h _ b hs hb
    (queries h (run_first h)) (cos_first h) (sin_first h)
  unfold out0_14
  funext y
  refine View.canon_apply_of_pieces (queryAt E i) _ ?_ y (cover0_14 _ _ _ _ _ _ _ _ y)
  simp only [List.forall_mem_cons, List.not_mem_nil, false_implies, implies_true, and_true]
  refine ⟨fun (j : S1x512x128.Idx) => ?_, fun (j : S1x512x128.Idx) => ?_, fun (j : S1x512x128.Idx) => ?_, fun (j : S1x512x128.Idx) => ?_, fun (j : S1x512x128.Idx) => ?_, fun (j : S1x512x128.Idx) => ?_, fun (j : S1x512x128.Idx) => ?_, fun (j : S1x512x128.Idx) => ?_⟩
  · idx_vars j
    obtain rfl : j0 = 0 := Subsingleton.elim _ _
    refine Eq.trans (second 384 slices_S512x512_o0_384_S512x128 rfl j1 j2 (row i ⟨512 + j1.val, by omega⟩)
      (by show _ + (512 + j1.val) = _; omega) ⟨384 + j2.val, by omega⟩ rfl) ?_
    exact at_eq i E.query (by show 512 + j1.val = 512 + 1 * j1.val; omega) (by show 384 + j2.val = 384 + 1 * j2.val; omega)
  · idx_vars j
    obtain rfl : j0 = 0 := Subsingleton.elim _ _
    refine Eq.trans (second 256 slices_S512x512_o0_256_S512x128 rfl j1 j2 (row i ⟨512 + j1.val, by omega⟩)
      (by show _ + (512 + j1.val) = _; omega) ⟨256 + j2.val, by omega⟩ rfl) ?_
    exact at_eq i E.query (by show 512 + j1.val = 512 + 1 * j1.val; omega) (by show 256 + j2.val = 256 + 1 * j2.val; omega)
  · idx_vars j
    obtain rfl : j0 = 0 := Subsingleton.elim _ _
    refine Eq.trans (second 128 slices_S512x512_o0_128_S512x128 rfl j1 j2 (row i ⟨512 + j1.val, by omega⟩)
      (by show _ + (512 + j1.val) = _; omega) ⟨128 + j2.val, by omega⟩ rfl) ?_
    exact at_eq i E.query (by show 512 + j1.val = 512 + 1 * j1.val; omega) (by show 128 + j2.val = 128 + 1 * j2.val; omega)
  · idx_vars j
    obtain rfl : j0 = 0 := Subsingleton.elim _ _
    refine Eq.trans (second 0 slices_S512x512_o0_0_S512x128 rfl j1 j2 (row i ⟨512 + j1.val, by omega⟩)
      (by show _ + (512 + j1.val) = _; omega) ⟨0 + j2.val, by omega⟩ rfl) ?_
    exact at_eq i E.query (by show 512 + j1.val = 512 + 1 * j1.val; omega) (by show 0 + j2.val = 0 + 1 * j2.val; omega)
  · idx_vars j
    obtain rfl : j0 = 0 := Subsingleton.elim _ _
    refine Eq.trans (first 384 slices_S512x512_o0_384_S512x128 rfl j1 j2 (row i ⟨0 + j1.val, by omega⟩)
      (by show _ + (0 + j1.val) = _; omega) ⟨384 + j2.val, by omega⟩ rfl) ?_
    exact at_eq i E.query (by show 0 + j1.val = 0 + 1 * j1.val; omega) (by show 384 + j2.val = 384 + 1 * j2.val; omega)
  · idx_vars j
    obtain rfl : j0 = 0 := Subsingleton.elim _ _
    refine Eq.trans (first 256 slices_S512x512_o0_256_S512x128 rfl j1 j2 (row i ⟨0 + j1.val, by omega⟩)
      (by show _ + (0 + j1.val) = _; omega) ⟨256 + j2.val, by omega⟩ rfl) ?_
    exact at_eq i E.query (by show 0 + j1.val = 0 + 1 * j1.val; omega) (by show 256 + j2.val = 256 + 1 * j2.val; omega)
  · idx_vars j
    obtain rfl : j0 = 0 := Subsingleton.elim _ _
    refine Eq.trans (first 128 slices_S512x512_o0_128_S512x128 rfl j1 j2 (row i ⟨0 + j1.val, by omega⟩)
      (by show _ + (0 + j1.val) = _; omega) ⟨128 + j2.val, by omega⟩ rfl) ?_
    exact at_eq i E.query (by show 0 + j1.val = 0 + 1 * j1.val; omega) (by show 128 + j2.val = 128 + 1 * j2.val; omega)
  · idx_vars j
    obtain rfl : j0 = 0 := Subsingleton.elim _ _
    refine Eq.trans (first 0 slices_S512x512_o0_0_S512x128 rfl j1 j2 (row i ⟨0 + j1.val, by omega⟩)
      (by show _ + (0 + j1.val) = _; omega) ⟨0 + j2.val, by omega⟩ rfl) ?_
    exact at_eq i E.query (by show 0 + j1.val = 0 + 1 * j1.val; omega) (by show 0 + j2.val = 0 + 1 * j2.val; omega)

/-- The keys. -/
def keyAt (E : Entry) (i : grid0.Coords) : Vec Ideal S1x1024x256 .bf16 := fun y => E.key (row i (y 1)) (y 2)

theorem key_eq : out0_15 i x0 x1 x2 x3 x4 x5 x6 x7 x8 x9 x10 x11 = keyAt E i := by
  have second (b : ℕ) (hs : S512x256.Slices ![0, b] S512x128) (hb : b % 128 = 0) := key_run h _ b hs hb
    (keys h (run_second h)) (cos_second h) (sin_second h)
  have first (b : ℕ) (hs : S512x256.Slices ![0, b] S512x128) (hb : b % 128 = 0) := key_run h _ b hs hb
    (keys h (run_first h)) (cos_first h) (sin_first h)
  unfold out0_15
  funext y
  refine View.canon_apply_of_pieces (keyAt E i) _ ?_ y (cover0_15 _ _ _ _ y)
  simp only [List.forall_mem_cons, List.not_mem_nil, false_implies, implies_true, and_true]
  refine ⟨fun (j : S1x512x128.Idx) => ?_, fun (j : S1x512x128.Idx) => ?_, fun (j : S1x512x128.Idx) => ?_, fun (j : S1x512x128.Idx) => ?_⟩
  · idx_vars j
    obtain rfl : j0 = 0 := Subsingleton.elim _ _
    refine Eq.trans (second 128 slices_S512x256_o0_128_S512x128 rfl j1 j2 (row i ⟨512 + j1.val, by omega⟩)
      (by show _ + (512 + j1.val) = _; omega) ⟨128 + j2.val, by omega⟩ rfl) ?_
    exact at_eq i E.key (by show 512 + j1.val = 512 + 1 * j1.val; omega) (by show 128 + j2.val = 128 + 1 * j2.val; omega)
  · idx_vars j
    obtain rfl : j0 = 0 := Subsingleton.elim _ _
    refine Eq.trans (second 0 slices_S512x256_o0_0_S512x128 rfl j1 j2 (row i ⟨512 + j1.val, by omega⟩)
      (by show _ + (512 + j1.val) = _; omega) ⟨0 + j2.val, by omega⟩ rfl) ?_
    exact at_eq i E.key (by show 512 + j1.val = 512 + 1 * j1.val; omega) (by show 0 + j2.val = 0 + 1 * j2.val; omega)
  · idx_vars j
    obtain rfl : j0 = 0 := Subsingleton.elim _ _
    refine Eq.trans (first 128 slices_S512x256_o0_128_S512x128 rfl j1 j2 (row i ⟨0 + j1.val, by omega⟩)
      (by show _ + (0 + j1.val) = _; omega) ⟨128 + j2.val, by omega⟩ rfl) ?_
    exact at_eq i E.key (by show 0 + j1.val = 0 + 1 * j1.val; omega) (by show 128 + j2.val = 128 + 1 * j2.val; omega)
  · idx_vars j
    obtain rfl : j0 = 0 := Subsingleton.elim _ _
    refine Eq.trans (first 0 slices_S512x256_o0_0_S512x128 rfl j1 j2 (row i ⟨0 + j1.val, by omega⟩)
      (by show _ + (0 + j1.val) = _; omega) ⟨0 + j2.val, by omega⟩ rfl) ?_
    exact at_eq i E.key (by show 0 + j1.val = 0 + 1 * j1.val; omega) (by show 0 + j2.val = 0 + 1 * j2.val; omega)

/-- The values. -/
def valueAt (E : Entry) (i : grid0.Coords) : Vec Ideal S1x1024x256 .bf16 := fun y => E.value (row i (y 1)) (y 2)

theorem value_eq : out0_16 i x0 x1 x2 x3 x4 x5 x6 x7 x8 x9 x10 x11 = valueAt E i := by
  have second := values h (run_second h)
  have first := values h (run_first h)
  unfold out0_16
  funext y
  refine View.canon_apply_of_pieces (valueAt E i) _ ?_ y (cover0_16 _ _ y)
  simp only [List.forall_mem_cons, List.not_mem_nil, false_implies, implies_true, and_true]
  refine ⟨fun (j : S1x512x256.Idx) => ?_, fun (j : S1x512x256.Idx) => ?_⟩
  · idx_vars j
    obtain rfl : j0 = 0 := Subsingleton.elim _ _
    refine Eq.trans (second j1 (row i ⟨512 + j1.val, by omega⟩) (by show _ + (512 + j1.val) = _; omega) j2 ⟨0 + j2.val, by omega⟩
      (Nat.zero_add _)) ?_
    exact at_eq i E.value (by show 512 + j1.val = 512 + 1 * j1.val; omega) (by show 0 + j2.val = 0 + 1 * j2.val; omega)
  · idx_vars j
    obtain rfl : j0 = 0 := Subsingleton.elim _ _
    refine Eq.trans (first j1 (row i ⟨0 + j1.val, by omega⟩) (by show _ + (0 + j1.val) = _; omega) j2 ⟨0 + j2.val, by omega⟩
      (Nat.zero_add _)) ?_
    exact at_eq i E.value (by show 0 + j1.val = 0 + 1 * j1.val; omega) (by show 0 + j2.val = 0 + 1 * j2.val; omega)

/-- The first gates. -/
def gateHyenaAt (E : Entry) (i : grid0.Coords) : Vec Ideal S1x1024x1024 .bf16 := fun y => E.gateHyena (row i (y 1)) (y 2)

theorem gateHyena_eq : out0_17 i x0 x1 x2 x3 x4 x5 x6 x7 x8 x9 x10 x11 = gateHyenaAt E i := by
  have second := gatesHyena h (run_second h)
  have first := gatesHyena h (run_first h)
  unfold out0_17
  funext y
  refine View.canon_apply_of_pieces (gateHyenaAt E i) _ ?_ y (cover0_17 _ _ y)
  simp only [List.forall_mem_cons, List.not_mem_nil, false_implies, implies_true, and_true]
  refine ⟨fun (j : S1x512x1024.Idx) => ?_, fun (j : S1x512x1024.Idx) => ?_⟩
  · idx_vars j
    obtain rfl : j0 = 0 := Subsingleton.elim _ _
    refine Eq.trans (second j1 (row i ⟨512 + j1.val, by omega⟩) (by show _ + (512 + j1.val) = _; omega) j2 ⟨0 + j2.val, by omega⟩
      (Nat.zero_add _)) ?_
    exact at_eq i E.gateHyena (by show 512 + j1.val = 512 + 1 * j1.val; omega) (by show 0 + j2.val = 0 + 1 * j2.val; omega)
  · idx_vars j
    obtain rfl : j0 = 0 := Subsingleton.elim _ _
    refine Eq.trans (first j1 (row i ⟨0 + j1.val, by omega⟩) (by show _ + (0 + j1.val) = _; omega) j2 ⟨0 + j2.val, by omega⟩
      (Nat.zero_add _)) ?_
    exact at_eq i E.gateHyena (by show 0 + j1.val = 0 + 1 * j1.val; omega) (by show 0 + j2.val = 0 + 1 * j2.val; omega)

/-- The second gates. -/
def gateAttentionAt (E : Entry) (i : grid0.Coords) : Vec Ideal S1x1024x1024 .bf16 := fun y => E.gateAttention (row i (y 1)) (y 2)

theorem gateAttention_eq : out0_18 i x0 x1 x2 x3 x4 x5 x6 x7 x8 x9 x10 x11 = gateAttentionAt E i := by
  have second := gatesAttention h (run_second h)
  have first := gatesAttention h (run_first h)
  unfold out0_18
  funext y
  refine View.canon_apply_of_pieces (gateAttentionAt E i) _ ?_ y (cover0_18 _ _ y)
  simp only [List.forall_mem_cons, List.not_mem_nil, false_implies, implies_true, and_true]
  refine ⟨fun (j : S1x512x1024.Idx) => ?_, fun (j : S1x512x1024.Idx) => ?_⟩
  · idx_vars j
    obtain rfl : j0 = 0 := Subsingleton.elim _ _
    refine Eq.trans (second j1 (row i ⟨512 + j1.val, by omega⟩) (by show _ + (512 + j1.val) = _; omega) j2 ⟨0 + j2.val, by omega⟩
      (Nat.zero_add _)) ?_
    exact at_eq i E.gateAttention (by show 512 + j1.val = 512 + 1 * j1.val; omega) (by show 0 + j2.val = 0 + 1 * j2.val; omega)
  · idx_vars j
    obtain rfl : j0 = 0 := Subsingleton.elim _ _
    refine Eq.trans (first j1 (row i ⟨0 + j1.val, by omega⟩) (by show _ + (0 + j1.val) = _; omega) j2 ⟨0 + j2.val, by omega⟩
      (Nat.zero_add _)) ?_
    exact at_eq i E.gateAttention (by show 0 + j1.val = 0 + 1 * j1.val; omega) (by show 0 + j2.val = 0 + 1 * j2.val; omega)

end Cert.Kernel3Ideal.Block

end
-- ==== Proof.InputInputs.lean ====
/-
  WHAT THE INPUT PROJECTION'S KERNEL IS GIVEN, over the extended reals: the host's code before the call makes the tables of
  the rotation's cosines and sines; its casts and reshapes change no extended real.
-/
module

public import proofs.«01_k».proof.Proof.InputOutputs
public import proofs.«01_k».proof.Proof.Gen.Kernel3Ideal.Value
public import Idealize.ShloMosaic.Lib.StableHlo.Run

@[expose] public section

set_option maxRecDepth 16384
set_option maxHeartbeats 1000000

noncomputable section

namespace Cert.Kernel3Ideal.Arrays

open Cert.Kernel3Ideal Cert.Kernel3Ideal.Gen Cert.Kernel3Ideal.Block Cert.Input
open Idealize.ShloMosaic Idealize.ShloMosaic.TcCoe Idealize.SL.Sem
open Idealize.ShloMosaic.Pipeline (Dat)

/-- The frequencies, -/
def frequencies : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- the positions in the grid of 64 columns, -/
def gridRow : FVec Ideal S8192 .f32 :=
  shapeCast S8192 (broadcastInDim S128x64 ![0] bcast_S128_S128x64_0 (sitofp .f32 (iotaInDim S128 32 0))) shapeCasts_S128x64_S8192
def gridColumn : FVec Ideal S8192 .f32 :=
  shapeCast S8192 (broadcastInDim S128x64 ![0, 1] bcast_S1x64_S128x64_0_1
    (shapeCast S1x64 (sitofp .f32 (iotaInDim S64 32 0)) shapeCasts_S64_S1x64)) shapeCasts_S128x64_S8192

/-- and the angles. -/
def angles (p : FVec Ideal S8192 .f32) : FVec Ideal S8192x32 .f32 :=
  mulf (broadcastInDim S8192x32 ![0, 1] bcast_S8192x1_S8192x32_0_1 (broadcastInDim S8192x1 ![0] bcast_S8192_S8192x1_0 p))
    (broadcastInDim S8192x32 ![0, 1] bcast_S1x32_S8192x32_0_1 (broadcastInDim S1x32 ![1] bcast_S32_S1x32_1 frequencies))

variable (m : (ℓ : Loc nD τ sig) → Buf (Elt Ideal) ℓ) (c : Dev nD)

/-- The table of cosines, -/
theorem cos_table : (V m c main_v27 : FVec Ideal S8192x128 .f32)
    = concatenate S8192x128 1 [⟨S8192x32, Host.cos (angles gridRow)⟩, ⟨S8192x32, Host.cos (angles gridRow)⟩,
        ⟨S8192x32, Host.cos (angles gridColumn)⟩, ⟨S8192x32, Host.cos (angles gridColumn)⟩]
        concatenates_S8192x32_S8192x32_S8192x32_S8192x32_S8192x128_d1 := by
  unfold_abbrev_sides
  simp only [hostOps0, List.flatten_cons, List.flatten_nil, List.append_nil, List.cons_append, List.nil_append]
  after_results
  rfl

theorem cos_apply (s : Fin 8192) (d : Fin 128) :
    (V m c main_v27 : FVec Ideal S8192x128 .f32) (ix2 s d) = Ideal.cos (angle s d) := by
  rw [cos_table]
  have hd := d.isLt
  pointwise [angles, gridRow, gridColumn, frequencies]
  unfold angle
  split_ifs <;> first | omega | congr <;> omega

/-- and of sines. -/
theorem sin_table : (V m c main_v34 : FVec Ideal S8192x128 .f32)
    = concatenate S8192x128 1 [⟨S8192x32, Host.negf (Host.sin (angles gridRow))⟩, ⟨S8192x32, Host.sin (angles gridRow)⟩,
        ⟨S8192x32, Host.negf (Host.sin (angles gridColumn))⟩, ⟨S8192x32, Host.sin (angles gridColumn)⟩]
        concatenates_S8192x32_S8192x32_S8192x32_S8192x32_S8192x128_d1 := by
  unfold_abbrev_sides
  simp only [hostOps0, List.flatten_cons, List.flatten_nil, List.append_nil, List.cons_append, List.nil_append]
  after_results
  rfl

theorem sin_apply (s : Fin 8192) (d : Fin 128) :
    (V m c main_v34 : FVec Ideal S8192x128 .f32) (ix2 s d) = signedSine s d := by
  rw [sin_table]
  have hd := d.isLt
  pointwise [angles, gridRow, gridColumn, frequencies]
  unfold signedSine angle
  split_ifs <;> first | omega | congr <;> omega

/-- The other arrays are the arguments', -/
theorem gain_eq : (V m c main_v42 : FVec Ideal S1x1024 .f32) = (m ((c : Thread nD τ).loc main_arg2) : FVec Ideal S1x1024 .f32) := by
  unfold_abbrev_sides
  simp only [hostOps0, List.flatten_cons, List.flatten_nil, List.append_nil, List.cons_append, List.nil_append]
  after_results
  exact shapeCast_shapeCast _ _ _

theorem qgain_eq : (V m c main_v43 : FVec Ideal S1x128 .f32) = (m ((c : Thread nD τ).loc main_arg6) : FVec Ideal S1x128 .f32) := by
  unfold_abbrev_sides
  simp only [hostOps0, List.flatten_cons, List.flatten_nil, List.append_nil, List.cons_append, List.nil_append]
  after_results
  exact shapeCast_shapeCast _ _ _

theorem kgain_eq : (V m c main_v44 : FVec Ideal S1x128 .f32) = (m ((c : Thread nD τ).loc main_arg7) : FVec Ideal S1x128 .f32) := by
  unfold_abbrev_sides
  simp only [hostOps0, List.flatten_cons, List.flatten_nil, List.append_nil, List.cons_append, List.nil_append]
  after_results
  exact shapeCast_shapeCast _ _ _

theorem bias_eq : (V m c main_v45 : FVec Ideal S1x1536 .f32) = (m ((c : Thread nD τ).loc main_arg5) : FVec Ideal S1x1536 .f32) := by
  unfold_abbrev_sides
  simp only [hostOps0, List.flatten_cons, List.flatten_nil, List.append_nil, List.cons_append, List.nil_append]
  after_results
  exact shapeCast_shapeCast _ _ _

/-- in another shape or precision. -/
theorem weights_eq : (V m c main_v37 : FVec Ideal S1024x4608 .bf16)
    = shapeCast S1024x4608 (m ((c : Thread nD τ).loc main_arg3) : FVec Ideal S1x1024x4608 .f32) shapeCasts_S1x1024x4608_S1024x4608 := by
  unfold_abbrev_sides
  simp only [hostOps0, List.flatten_cons, List.flatten_nil, List.append_nil, List.cons_append, List.nil_append]
  after_results
  rfl

theorem weights_apply (k : Fin 1024) (d : Fin 4608) : (V m c main_v37 : FVec Ideal S1024x4608 .bf16) (ix2 k d)
    = (m ((c : Thread nD τ).loc main_arg3) : FVec Ideal S1x1024x4608 .f32) (ix3 0 k d) := by
  rw [weights_eq]
  refine (shapeCast_dropUnit_apply ![1024, 4608] (m ((c : Thread nD τ).loc main_arg3) : FVec Ideal S1x1024x4608 .f32) _ _).trans ?_
  refine congrArg (m ((c : Thread nD τ).loc main_arg3) : FVec Ideal S1x1024x4608 .f32) (funext fun x => ?_)
  match x with
  | ⟨0, _⟩ => rfl
  | ⟨1, _⟩ => rfl
  | ⟨2, _⟩ => rfl

theorem tap_eq : (V m c main_v40 : FVec Ideal S3x1536 .f32)
    = shapeCast S3x1536 (m ((c : Thread nD τ).loc main_arg4) : FVec Ideal S1x3x1536 .f32) shapeCasts_S1x3x1536_S3x1536 := by
  unfold_abbrev_sides
  simp only [hostOps0, List.flatten_cons, List.flatten_nil, List.append_nil, List.cons_append, List.nil_append]
  after_results
  rfl

theorem tap_apply (t : Fin 3) (d : Fin 1536) : (V m c main_v40 : FVec Ideal S3x1536 .f32) (ix2 t d)
    = (m ((c : Thread nD τ).loc main_arg4) : FVec Ideal S1x3x1536 .f32) (ix3 0 t d) := by
  rw [tap_eq]
  refine (shapeCast_dropUnit_apply ![3, 1536] (m ((c : Thread nD τ).loc main_arg4) : FVec Ideal S1x3x1536 .f32) _ _).trans ?_
  refine congrArg (m ((c : Thread nD τ).loc main_arg4) : FVec Ideal S1x3x1536 .f32) (funext fun x => ?_)
  match x with
  | ⟨0, _⟩ => rfl
  | ⟨1, _⟩ => rfl
  | ⟨2, _⟩ => rfl

end Cert.Kernel3Ideal.Arrays

end
-- ==== Proof.InputArray.lean ====
/-
  THE INPUT PROJECTION'S RESULT ARRAYS, over the extended reals. A point of the grid is a batch entry and a run of 1024 of its
  rows; what it writes back to each array is its block of one function of the arguments, and the blocks cover the array.
-/
module

public import proofs.«01_k».proof.Proof.InputInputs

@[expose] public section

set_option maxRecDepth 16384

noncomputable section

namespace Cert.Kernel3Ideal.Arrays

open Cert.Kernel3Ideal Cert.Kernel3Ideal.Gen Cert.Kernel3Ideal.Block Cert.Input
open Idealize.ShloMosaic Idealize.ShloMosaic.TcCoe Idealize.SL.Sem
open Idealize.ShloMosaic.Pipeline (Dat)

/-- What the rows of batch entry `b` are computed from: its rows, its scale and shift, and the layer's weights. -/
def entryOf (X : FVec Ideal S8x8192x1024 .f32) (M : FVec Ideal S8x6x1024 .f32) (G : FVec Ideal S1x1024 .f32)
    (W : FVec Ideal S1x1024x4608 .f32) (T : FVec Ideal S1x3x1536 .f32) (B : FVec Ideal S1x1536 .f32)
    (Q K : FVec Ideal S1x128 .f32) (b : Fin 8) : Entry where
  x s k := X (ix3 b s k)
  gain k := G (ix2 0 k)
  scale k := M (ix3 b 1 k)
  shift k := M (ix3 b 0 k)
  w k c := W (ix3 0 k c)
  tap t c := T (ix3 0 t c)
  bias c := B (ix2 0 c)
  cos s d := Ideal.cos (angle s d)
  sin s d := signedSine s d
  qgain d := Q (ix2 0 d)
  kgain d := K (ix2 0 d)

/-- The seven results, of each entry's rows. -/
def firstResult (E : Fin 8 → Entry) : FVec Ideal S8x8192x512 .bf16 := fun j => (E (j 0)).first (j 1) (j 2)
def secondResult (E : Fin 8 → Entry) : FVec Ideal S8x8192x512 .bf16 := fun j => (E (j 0)).second (j 1) (j 2)
def queryResult (E : Fin 8 → Entry) : FVec Ideal S8x8192x512 .f32 := fun j => (E (j 0)).query (j 1) (j 2)
def keyResult (E : Fin 8 → Entry) : FVec Ideal S8x8192x256 .bf16 := fun j => (E (j 0)).key (j 1) (j 2)
def valueResult (E : Fin 8 → Entry) : FVec Ideal S8x8192x256 .bf16 := fun j => (E (j 0)).value (j 1) (j 2)
def gateHyenaResult (E : Fin 8 → Entry) : FVec Ideal S8x8192x1024 .bf16 := fun j => (E (j 0)).gateHyena (j 1) (j 2)
def gateAttentionResult (E : Fin 8 → Entry) : FVec Ideal S8x8192x1024 .bf16 := fun j => (E (j 0)).gateAttention (j 1) (j 2)

theorem ext2 {a b : ℕ} {x y : Shape.Idx ⟨2, ![a, b]⟩} (h0 : (x 0).val = (y 0).val) (h1 : (x 1).val = (y 1).val) : x = y :=
  funext fun z => Fin.ext (match z with | ⟨0, _⟩ => h0 | ⟨1, _⟩ => h1)

theorem ext3 {a b c : ℕ} {x y : Shape.Idx ⟨3, ![a, b, c]⟩} (h0 : (x 0).val = (y 0).val) (h1 : (x 1).val = (y 1).val)
    (h2 : (x 2).val = (y 2).val) : x = y :=
  funext fun z => Fin.ext (match z with | ⟨0, _⟩ => h0 | ⟨1, _⟩ => h1 | ⟨2, _⟩ => h2)

/-! ## Where the windows' blocks lie -/

theorem coords_eq : ∀ t : Fin grid0.N, (grid0.coords t 0).val = t.val / 8 ∧ (grid0.coords t 1).val = t.val % 8 := by decide +kernel
theorem index0 : ∀ t : Fin grid0.N, win0_0.index t 0 = t.val / 8 ∧ win0_0.index t 1 = t.val % 8 ∧ win0_0.index t 2 = 0 := by decide +kernel
theorem index1 : ∀ t : Fin grid0.N, win0_1.index t 0 = t.val / 8 ∧ win0_1.index t 1 = 128 * (t.val % 8) - 1 ∧ win0_1.index t 2 = 0 := by decide +kernel
theorem index2 : ∀ t : Fin grid0.N, win0_2.index t 0 = t.val / 8 ∧ win0_2.index t 1 = min (128 * (t.val % 8) + 128) 1023 ∧ win0_2.index t 2 = 0 := by decide +kernel
theorem index3 : ∀ t : Fin grid0.N, win0_3.index t 0 = t.val / 8 ∧ win0_3.index t 1 = 0 ∧ win0_3.index t 2 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val % 8 ∧ win0_6.index t 1 = 0 := by decide +kernel
theorem index7 : ∀ t : Fin grid0.N, win0_7.index t 0 = t.val % 8 ∧ win0_7.index t 1 = 0 := by decide +kernel
theorem index8 : ∀ t : Fin grid0.N, win0_8.index t 0 = 0 ∧ win0_8.index t 1 = 0 := by decide +kernel
theorem index9 : ∀ t : Fin grid0.N, win0_9.index t 0 = 0 ∧ win0_9.index t 1 = 0 := by decide +kernel
theorem index10 : ∀ t : Fin grid0.N, win0_10.index t 0 = 0 ∧ win0_10.index t 1 = 0 := by decide +kernel
theorem index11 : ∀ t : Fin grid0.N, win0_11.index t 0 = 0 ∧ win0_11.index t 1 = 0 := by decide +kernel
theorem index12 : ∀ t : Fin grid0.N, win0_12.index t 0 = t.val / 8 ∧ win0_12.index t 1 = t.val % 8 ∧ win0_12.index t 2 = 0 := by decide +kernel
theorem index13 : ∀ t : Fin grid0.N, win0_13.index t 0 = t.val / 8 ∧ win0_13.index t 1 = t.val % 8 ∧ win0_13.index t 2 = 0 := by decide +kernel
theorem index14 : ∀ t : Fin grid0.N, win0_14.index t 0 = t.val / 8 ∧ win0_14.index t 1 = t.val % 8 ∧ win0_14.index t 2 = 0 := by decide +kernel
theorem index15 : ∀ t : Fin grid0.N, win0_15.index t 0 = t.val / 8 ∧ win0_15.index t 1 = t.val % 8 ∧ win0_15.index t 2 = 0 := by decide +kernel
theorem index16 : ∀ t : Fin grid0.N, win0_16.index t 0 = t.val / 8 ∧ win0_16.index t 1 = t.val % 8 ∧ win0_16.index t 2 = 0 := by decide +kernel
theorem index17 : ∀ t : Fin grid0.N, win0_17.index t 0 = t.val / 8 ∧ win0_17.index t 1 = t.val % 8 ∧ win0_17.index t 2 = 0 := by decide +kernel
theorem index18 : ∀ t : Fin grid0.N, win0_18.index t 0 = t.val / 8 ∧ win0_18.index t 1 = t.val % 8 ∧ win0_18.index t 2 = 0 := by decide +kernel

variable (m : (ℓ : Loc nD τ sig) → Buf (Elt Ideal) ℓ) (ρ : Dev nD → PrngReg)

/-- The batch entries, from the arguments. -/
abbrev entry (c : Dev nD) : Fin 8 → Entry :=
  entryOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-! ## What the blocks hold -/

theorem block0 (c : Dev nD) (t : Fin cfg0.N) (r : Fin 1024) (k : Fin 1024) (b : Fin 8) (s : Fin 8192) (hb : b.val = t.val / 8)
    (hs : s.val = 1024 * (t.val % 8) + r.val) :
    (iblk m c 0 t : FVec Ideal S1x1024x1024 .f32) (ix3 0 r k) = (m ((c : Thread nD τ).loc main_arg0) : FVec Ideal S8x8192x1024 .f32) (ix3 b s k) := by
  have hi := index0 t
  unfold iblk
  rw [View.read_apply]
  show V m c main_arg0 _ = _
  rw [V_main_arg0]
  exact congrArg (m ((c : Thread nD τ).loc main_arg0) : FVec Ideal S8x8192x1024 .f32) (ext3
    (by show win0_0.index t 0 * 1 + 1 * 0 = b.val; rw [hi.1]; omega)
    (by show win0_0.index t 1 * 1024 + 1 * r.val = s.val; rw [hi.2.1]; omega)
    (by show win0_0.index t 2 * 1024 + 1 * k.val = k.val; rw [hi.2.2]; omega))

theorem block1 (c : Dev nD) (t : Fin cfg0.N) (k : Fin 1024) (b : Fin 8) (s : Fin 8192) (hb : b.val = t.val / 8)
    (hs : s.val + 1 = 1024 * (t.val % 8)) :
    (iblk m c 1 t : FVec Ideal S1x8x1024 .f32) (ix3 0 7 k) = (m ((c : Thread nD τ).loc main_arg0) : FVec Ideal S8x8192x1024 .f32) (ix3 b s k) := by
  have hi := index1 t
  unfold iblk
  rw [View.read_apply]
  show V m c main_arg0 _ = _
  rw [V_main_arg0]
  exact congrArg (m ((c : Thread nD τ).loc main_arg0) : FVec Ideal S8x8192x1024 .f32) (ext3
    (by show win0_1.index t 0 * 1 + 1 * 0 = b.val; rw [hi.1]; omega)
    (by show win0_1.index t 1 * 8 + 1 * 7 = s.val; rw [hi.2.1]; omega)
    (by show win0_1.index t 2 * 1024 + 1 * k.val = k.val; rw [hi.2.2]; omega))

theorem block2 (c : Dev nD) (t : Fin cfg0.N) (k : Fin 1024) (b : Fin 8) (s : Fin 8192) (hb : b.val = t.val / 8)
    (hs : s.val = 1024 * (t.val % 8) + 1024) :
    (iblk m c 2 t : FVec Ideal S1x8x1024 .f32) (ix3 0 0 k) = (m ((c : Thread nD τ).loc main_arg0) : FVec Ideal S8x8192x1024 .f32) (ix3 b s k) := by
  have hi := index2 t
  unfold iblk
  rw [View.read_apply]
  show V m c main_arg0 _ = _
  rw [V_main_arg0]
  exact congrArg (m ((c : Thread nD τ).loc main_arg0) : FVec Ideal S8x8192x1024 .f32) (ext3
    (by show win0_2.index t 0 * 1 + 1 * 0 = b.val; rw [hi.1]; omega)
    (by show win0_2.index t 1 * 8 + 1 * 0 = s.val; rw [hi.2.1]; omega)
    (by show win0_2.index t 2 * 1024 + 1 * k.val = k.val; rw [hi.2.2]; omega))

theorem block3 (c : Dev nD) (t : Fin cfg0.N) (z : Fin 6) (k : Fin 1024) (b : Fin 8) (hb : b.val = t.val / 8) :
    (iblk m c 3 t : FVec Ideal S1x6x1024 .f32) (ix3 0 z k) = (m ((c : Thread nD τ).loc main_arg1) : FVec Ideal S8x6x1024 .f32) (ix3 b z k) := by
  have hi := index3 t
  unfold iblk
  rw [View.read_apply]
  show V m c main_arg1 _ = _
  rw [V_main_arg1]
  exact congrArg (m ((c : Thread nD τ).loc main_arg1) : FVec Ideal S8x6x1024 .f32) (ext3
    (by show win0_3.index t 0 * 1 + 1 * 0 = b.val; rw [hi.1]; omega)
    (by show win0_3.index t 1 * 6 + 1 * z.val = z.val; rw [hi.2.1]; omega)
    (by show win0_3.index t 2 * 1024 + 1 * k.val = k.val; rw [hi.2.2]; omega))

theorem block4 (c : Dev nD) (t : Fin cfg0.N) (z : Fin 1) (d : Fin 1024) :
    (iblk m c 4 t : FVec Ideal S1x1024 .f32) (ix2 z d) = (V m c main_v42 : FVec Ideal S1x1024 .f32) (ix2 z d) := by
  have hi := index4 t
  unfold iblk
  rw [View.read_apply]
  exact congrArg (V m c main_v42 : FVec Ideal S1x1024 .f32) (ext2
    (by show win0_4.index t 0 * 1 + 1 * z.val = z.val; rw [hi.1]; omega)
    (by show win0_4.index t 1 * 1024 + 1 * d.val = d.val; rw [hi.2]; omega))

theorem block5 (c : Dev nD) (t : Fin cfg0.N) (z : Fin 1024) (d : Fin 4608) :
    (iblk m c 5 t : FVec Ideal S1024x4608 .bf16) (ix2 z d) = (V m c main_v37 : FVec Ideal S1024x4608 .bf16) (ix2 z d) := by
  have hi := index5 t
  unfold iblk
  rw [View.read_apply]
  exact congrArg (V m c main_v37 : FVec Ideal S1024x4608 .bf16) (ext2
    (by show win0_5.index t 0 * 1024 + 1 * z.val = z.val; rw [hi.1]; omega)
    (by show win0_5.index t 1 * 4608 + 1 * d.val = d.val; rw [hi.2]; omega))

theorem block6 (c : Dev nD) (t : Fin cfg0.N) (r : Fin 1024) (d : Fin 128) (s : Fin 8192) (hs : s.val = 1024 * (t.val % 8) + r.val) :
    (iblk m c 6 t : FVec Ideal S1024x128 .f32) (ix2 r d) = (V m c main_v27 : FVec Ideal S8192x128 .f32) (ix2 s d) := by
  have hi := index6 t
  unfold iblk
  rw [View.read_apply]
  exact congrArg (V m c main_v27 : FVec Ideal S8192x128 .f32) (ext2
    (by show win0_6.index t 0 * 1024 + 1 * r.val = s.val; rw [hi.1]; omega)
    (by show win0_6.index t 1 * 128 + 1 * d.val = d.val; rw [hi.2]; omega))

theorem block7 (c : Dev nD) (t : Fin cfg0.N) (r : Fin 1024) (d : Fin 128) (s : Fin 8192) (hs : s.val = 1024 * (t.val % 8) + r.val) :
    (iblk m c 7 t : FVec Ideal S1024x128 .f32) (ix2 r d) = (V m c main_v34 : FVec Ideal S8192x128 .f32) (ix2 s d) := by
  have hi := index7 t
  unfold iblk
  rw [View.read_apply]
  exact congrArg (V m c main_v34 : FVec Ideal S8192x128 .f32) (ext2
    (by show win0_7.index t 0 * 1024 + 1 * r.val = s.val; rw [hi.1]; omega)
    (by show win0_7.index t 1 * 128 + 1 * d.val = d.val; rw [hi.2]; omega))

theorem block8 (c : Dev nD) (t : Fin cfg0.N) (z : Fin 1) (d : Fin 128) :
    (iblk m c 8 t : FVec Ideal S1x128 .f32) (ix2 z d) = (V m c main_v43 : FVec Ideal S1x128 .f32) (ix2 z d) := by
  have hi := index8 t
  unfold iblk
  rw [View.read_apply]
  exact congrArg (V m c main_v43 : FVec Ideal S1x128 .f32) (ext2
    (by show win0_8.index t 0 * 1 + 1 * z.val = z.val; rw [hi.1]; omega)
    (by show win0_8.index t 1 * 128 + 1 * d.val = d.val; rw [hi.2]; omega))

theorem block9 (c : Dev nD) (t : Fin cfg0.N) (z : Fin 1) (d : Fin 128) :
    (iblk m c 9 t : FVec Ideal S1x128 .f32) (ix2 z d) = (V m c main_v44 : FVec Ideal S1x128 .f32) (ix2 z d) := by
  have hi := index9 t
  unfold iblk
  rw [View.read_apply]
  exact congrArg (V m c main_v44 : FVec Ideal S1x128 .f32) (ext2
    (by show win0_9.index t 0 * 1 + 1 * z.val = z.val; rw [hi.1]; omega)
    (by show win0_9.index t 1 * 128 + 1 * d.val = d.val; rw [hi.2]; omega))

theorem block10 (c : Dev nD) (t : Fin cfg0.N) (z : Fin 3) (d : Fin 1536) :
    (iblk m c 10 t : FVec Ideal S3x1536 .f32) (ix2 z d) = (V m c main_v40 : FVec Ideal S3x1536 .f32) (ix2 z d) := by
  have hi := index10 t
  unfold iblk
  rw [View.read_apply]
  exact congrArg (V m c main_v40 : FVec Ideal S3x1536 .f32) (ext2
    (by show win0_10.index t 0 * 3 + 1 * z.val = z.val; rw [hi.1]; omega)
    (by show win0_10.index t 1 * 1536 + 1 * d.val = d.val; rw [hi.2]; omega))

theorem block11 (c : Dev nD) (t : Fin cfg0.N) (z : Fin 1) (d : Fin 1536) :
    (iblk m c 11 t : FVec Ideal S1x1536 .f32) (ix2 z d) = (V m c main_v45 : FVec Ideal S1x1536 .f32) (ix2 z d) := by
  have hi := index11 t
  unfold iblk
  rw [View.read_apply]
  exact congrArg (V m c main_v45 : FVec Ideal S1x1536 .f32) (ext2
    (by show win0_11.index t 0 * 1 + 1 * z.val = z.val; rw [hi.1]; omega)
    (by show win0_11.index t 1 * 1536 + 1 * d.val = d.val; rw [hi.2]; omega))

/-- The batch entry of a point. -/
def entryAt (t : Fin cfg0.N) : Fin 8 := ⟨t.val / 8, by have := t.isLt; have hN : cfg0.N = 64 := N_0; omega⟩

/-- A point's blocks hold its run of its entry's rows. -/
theorem reads (c : Dev nD) (t : Fin cfg0.N) : Reads (entry m c (entryAt t)) (grid0.coords t) (iblk m c 0 t) (iblk m c 1 t) (iblk m c 2 t)
    (iblk m c 3 t) (iblk m c 4 t) (iblk m c 5 t) (iblk m c 6 t) (iblk m c 7 t) (iblk m c 8 t) (iblk m c 9 t) (iblk m c 10 t)
    (iblk m c 11 t) where
  rows r s hs := funext fun k => by
    rw [(coords_eq t).2] at hs
    exact block0 m c t r k (entryAt t) s rfl hs
  prev s hs := funext fun k => by
    rw [(coords_eq t).2] at hs
    exact block1 m c t k (entryAt t) s rfl hs
  next s hs := funext fun k => by
    rw [(coords_eq t).2] at hs
    exact block2 m c t k (entryAt t) s rfl hs
  scale := funext fun k => block3 m c t 1 k (entryAt t) rfl
  shift := funext fun k => block3 m c t 0 k (entryAt t) rfl
  gain := funext fun k => (block4 m c t 0 k).trans (congrFun (gain_eq m c) _)
  weights k d := (block5 m c t k d).trans (weights_apply m c k d)
  cos r s hs := funext fun d => by
    rw [(coords_eq t).2] at hs
    exact (block6 m c t r d s hs).trans (cos_apply m c s d)
  sin r s hs := funext fun d => by
    rw [(coords_eq t).2] at hs
    exact (block7 m c t r d s hs).trans (sin_apply m c s d)
  qgain := funext fun d => (block8 m c t 0 d).trans (congrFun (qgain_eq m c) _)
  kgain := funext fun d => (block9 m c t 0 d).trans (congrFun (kgain_eq m c) _)
  tap k d := (block10 m c t k d).trans (tap_apply m c k d)
  bias d := (block11 m c t 0 d).trans (congrFun (bias_eq m c) _)

/-! ## The arrays -/

/-- A row and column of a point's block, found in the array `i0 i1 i2` at the block's place. -/
theorem at_block (t : Fin cfg0.N) {n : ℕ} (f : Fin 8 → Fin 8192 → Fin n → EReal) (r : Fin 1024) (k : Fin n) (i0 : Fin 8)
    (i1 : Fin 8192) (i2 : Fin n) (h0 : i0.val = t.val / 8) (h1 : i1.val = 1024 * (t.val % 8) + r.val) (h2 : i2.val = k.val) :
    f (entryAt t) (row (grid0.coords t) r) k = f i0 i1 i2 := by
  have e0 : entryAt t = i0 := Fin.ext h0.symm
  have e1 : row (grid0.coords t) r = i1 :=
    Fin.ext (by show 1024 * (grid0.coords t 1).val + r.val = i1.val; rw [(coords_eq t).2, h1])
  rw [e0, e1, Fin.ext h2]

/-- The point whose blocks hold a row of an entry, -/
def pointOf (b : Fin 8) (s : Fin 8192) : Fin cfg0.N :=
  ⟨8 * b.val + s.val / 1024, by have hN : cfg0.N = 64 := N_0; rw [hN]; omega⟩

/-- and that they do. -/
theorem in_block (b : Fin 8) (s : Fin 8192) {n d : ℕ} (hd : d < n) (x0 x1 x2 : ℕ)
    (hx : x0 = (pointOf b s).val / 8 ∧ x1 = (pointOf b s).val % 8 ∧ x2 = 0) :
    (x0 * 1 ≤ b.val ∧ b.val < x0 * 1 + 1) ∧ (x1 * 1024 ≤ s.val ∧ s.val < x1 * 1024 + 1024) ∧ (x2 * n ≤ d ∧ d < x2 * n + n) := by
  obtain ⟨rfl, rfl, rfl⟩ := hx
  have hp : (pointOf b s).val = 8 * b.val + s.val / 1024 := rfl
  rw [hp, Nat.zero_mul]
  omega

theorem final12 (c : Dev nD) : (dats m 0 c).arrAt 12 cfg0.N = firstResult (entry m c) := by
  refine (dats m 0 c).arrAt_eq_of_cover 12 (firstResult (entry m c)) (fun t _ => ?_) fun i => ?_
  · have hi := index12 t
    rw [Value.flushed12, first_eq (reads m c t)]
    refine funext fun (j : S1x1024x512.Idx) => ?_
    rw [View.read_apply]
    idx_vars j
    exact at_block t (fun b => (entry m c b).first) j1 j2 _ _ _
      (by show win0_12.index t 0 * 1 + 1 * j0.val = _; rw [hi.1]; omega)
      (by show win0_12.index t 1 * 1024 + 1 * j1.val = _; rw [hi.2.1]; omega)
      (by show win0_12.index t 2 * 512 + 1 * j2.val = _; rw [hi.2.2]; omega)
  · have h := in_block (i 0) (i 1) (i 2).isLt _ _ _ (index12 (pointOf (i 0) (i 1)))
    refine ⟨pointOf (i 0) (i 1), flush0_12 _, ?_⟩
    show i ∈ ((View.whole main_v46_0).slice (win0_12.rect (pointOf (i 0) (i 1)))).set
    rw [View.set_slice_whole, Rect.mem_set_unit]
    exact fun a => match a with | ⟨0, _⟩ => h.1 | ⟨1, _⟩ => h.2.1 | ⟨2, _⟩ => h.2.2

theorem final13 (c : Dev nD) : (dats m 0 c).arrAt 13 cfg0.N = secondResult (entry m c) := by
  refine (dats m 0 c).arrAt_eq_of_cover 13 (secondResult (entry m c)) (fun t _ => ?_) fun i => ?_
  · have hi := index13 t
    rw [Value.flushed13, second_eq (reads m c t)]
    refine funext fun (j : S1x1024x512.Idx) => ?_
    rw [View.read_apply]
    idx_vars j
    exact at_block t (fun b => (entry m c b).second) j1 j2 _ _ _
      (by show win0_13.index t 0 * 1 + 1 * j0.val = _; rw [hi.1]; omega)
      (by show win0_13.index t 1 * 1024 + 1 * j1.val = _; rw [hi.2.1]; omega)
      (by show win0_13.index t 2 * 512 + 1 * j2.val = _; rw [hi.2.2]; omega)
  · have h := in_block (i 0) (i 1) (i 2).isLt _ _ _ (index13 (pointOf (i 0) (i 1)))
    refine ⟨pointOf (i 0) (i 1), flush0_13 _, ?_⟩
    show i ∈ ((View.whole main_v46_1).slice (win0_13.rect (pointOf (i 0) (i 1)))).set
    rw [View.set_slice_whole, Rect.mem_set_unit]
    exact fun a => match a with | ⟨0, _⟩ => h.1 | ⟨1, _⟩ => h.2.1 | ⟨2, _⟩ => h.2.2

theorem final14 (c : Dev nD) : (dats m 0 c).arrAt 14 cfg0.N = queryResult (entry m c) := by
  refine (dats m 0 c).arrAt_eq_of_cover 14 (queryResult (entry m c)) (fun t _ => ?_) fun i => ?_
  · have hi := index14 t
    rw [Value.flushed14, query_eq (reads m c t)]
    refine funext fun (j : S1x1024x512.Idx) => ?_
    rw [View.read_apply]
    idx_vars j
    exact at_block t (fun b => (entry m c b).query) j1 j2 _ _ _
      (by show win0_14.index t 0 * 1 + 1 * j0.val = _; rw [hi.1]; omega)
      (by show win0_14.index t 1 * 1024 + 1 * j1.val = _; rw [hi.2.1]; omega)
      (by show win0_14.index t 2 * 512 + 1 * j2.val = _; rw [hi.2.2]; omega)
  · have h := in_block (i 0) (i 1) (i 2).isLt _ _ _ (index14 (pointOf (i 0) (i 1)))
    refine ⟨pointOf (i 0) (i 1), flush0_14 _, ?_⟩
    show i ∈ ((View.whole main_v46_2).slice (win0_14.rect (pointOf (i 0) (i 1)))).set
    rw [View.set_slice_whole, Rect.mem_set_unit]
    exact fun a => match a with | ⟨0, _⟩ => h.1 | ⟨1, _⟩ => h.2.1 | ⟨2, _⟩ => h.2.2

theorem final15 (c : Dev nD) : (dats m 0 c).arrAt 15 cfg0.N = keyResult (entry m c) := by
  refine (dats m 0 c).arrAt_eq_of_cover 15 (keyResult (entry m c)) (fun t _ => ?_) fun i => ?_
  · have hi := index15 t
    rw [Value.flushed15, key_eq (reads m c t)]
    refine funext fun (j : S1x1024x256.Idx) => ?_
    rw [View.read_apply]
    idx_vars j
    exact at_block t (fun b => (entry m c b).key) j1 j2 _ _ _
      (by show win0_15.index t 0 * 1 + 1 * j0.val = _; rw [hi.1]; omega)
      (by show win0_15.index t 1 * 1024 + 1 * j1.val = _; rw [hi.2.1]; omega)
      (by show win0_15.index t 2 * 256 + 1 * j2.val = _; rw [hi.2.2]; omega)
  · have h := in_block (i 0) (i 1) (i 2).isLt _ _ _ (index15 (pointOf (i 0) (i 1)))
    refine ⟨pointOf (i 0) (i 1), flush0_15 _, ?_⟩
    show i ∈ ((View.whole main_v46_3).slice (win0_15.rect (pointOf (i 0) (i 1)))).set
    rw [View.set_slice_whole, Rect.mem_set_unit]
    exact fun a => match a with | ⟨0, _⟩ => h.1 | ⟨1, _⟩ => h.2.1 | ⟨2, _⟩ => h.2.2

theorem final16 (c : Dev nD) : (dats m 0 c).arrAt 16 cfg0.N = valueResult (entry m c) := by
  refine (dats m 0 c).arrAt_eq_of_cover 16 (valueResult (entry m c)) (fun t _ => ?_) fun i => ?_
  · have hi := index16 t
    rw [Value.flushed16, value_eq (reads m c t)]
    refine funext fun (j : S1x1024x256.Idx) => ?_
    rw [View.read_apply]
    idx_vars j
    exact at_block t (fun b => (entry m c b).value) j1 j2 _ _ _
      (by show win0_16.index t 0 * 1 + 1 * j0.val = _; rw [hi.1]; omega)
      (by show win0_16.index t 1 * 1024 + 1 * j1.val = _; rw [hi.2.1]; omega)
      (by show win0_16.index t 2 * 256 + 1 * j2.val = _; rw [hi.2.2]; omega)
  · have h := in_block (i 0) (i 1) (i 2).isLt _ _ _ (index16 (pointOf (i 0) (i 1)))
    refine ⟨pointOf (i 0) (i 1), flush0_16 _, ?_⟩
    show i ∈ ((View.whole main_v46_4).slice (win0_16.rect (pointOf (i 0) (i 1)))).set
    rw [View.set_slice_whole, Rect.mem_set_unit]
    exact fun a => match a with | ⟨0, _⟩ => h.1 | ⟨1, _⟩ => h.2.1 | ⟨2, _⟩ => h.2.2

theorem final17 (c : Dev nD) : (dats m 0 c).arrAt 17 cfg0.N = gateHyenaResult (entry m c) := by
  refine (dats m 0 c).arrAt_eq_of_cover 17 (gateHyenaResult (entry m c)) (fun t _ => ?_) fun i => ?_
  · have hi := index17 t
    rw [Value.flushed17, gateHyena_eq (reads m c t)]
    refine funext fun (j : S1x1024x1024.Idx) => ?_
    rw [View.read_apply]
    idx_vars j
    exact at_block t (fun b => (entry m c b).gateHyena) j1 j2 _ _ _
      (by show win0_17.index t 0 * 1 + 1 * j0.val = _; rw [hi.1]; omega)
      (by show win0_17.index t 1 * 1024 + 1 * j1.val = _; rw [hi.2.1]; omega)
      (by show win0_17.index t 2 * 1024 + 1 * j2.val = _; rw [hi.2.2]; omega)
  · have h := in_block (i 0) (i 1) (i 2).isLt _ _ _ (index17 (pointOf (i 0) (i 1)))
    refine ⟨pointOf (i 0) (i 1), flush0_17 _, ?_⟩
    show i ∈ ((View.whole main_v46_5).slice (win0_17.rect (pointOf (i 0) (i 1)))).set
    rw [View.set_slice_whole, Rect.mem_set_unit]
    exact fun a => match a with | ⟨0, _⟩ => h.1 | ⟨1, _⟩ => h.2.1 | ⟨2, _⟩ => h.2.2

theorem final18 (c : Dev nD) : (dats m 0 c).arrAt 18 cfg0.N = gateAttentionResult (entry m c) := by
  refine (dats m 0 c).arrAt_eq_of_cover 18 (gateAttentionResult (entry m c)) (fun t _ => ?_) fun i => ?_
  · have hi := index18 t
    rw [Value.flushed18, gateAttention_eq (reads m c t)]
    refine funext fun (j : S1x1024x1024.Idx) => ?_
    rw [View.read_apply]
    idx_vars j
    exact at_block t (fun b => (entry m c b).gateAttention) j1 j2 _ _ _
      (by show win0_18.index t 0 * 1 + 1 * j0.val = _; rw [hi.1]; omega)
      (by show win0_18.index t 1 * 1024 + 1 * j1.val = _; rw [hi.2.1]; omega)
      (by show win0_18.index t 2 * 1024 + 1 * j2.val = _; rw [hi.2.2]; omega)
  · have h := in_block (i 0) (i 1) (i 2).isLt _ _ _ (index18 (pointOf (i 0) (i 1)))
    refine ⟨pointOf (i 0) (i 1), flush0_18 _, ?_⟩
    show i ∈ ((View.whole main_v46_6).slice (win0_18.rect (pointOf (i 0) (i 1)))).set
    rw [View.set_slice_whole, Rect.mem_set_unit]
    exact fun a => match a with | ⟨0, _⟩ => h.1 | ⟨1, _⟩ => h.2.1 | ⟨2, _⟩ => h.2.2

/-- The run: the seven results, and the arguments as they were. -/
theorem run : θ_run defs (onTc (τ := τ) (main (F := Ideal))) ⟨m, fun _ => 0, ρ⟩ fun r => ∀ c : Dev nD,
      r.2.mem ((c : Thread nD τ).loc main_v46_0) = firstResult (entry m c)
      ∧ r.2.mem ((c : Thread nD τ).loc main_v46_1) = secondResult (entry m c)
      ∧ r.2.mem ((c : Thread nD τ).loc main_v46_2) = queryResult (entry m c)
      ∧ r.2.mem ((c : Thread nD τ).loc main_v46_3) = keyResult (entry m c)
      ∧ r.2.mem ((c : Thread nD τ).loc main_v46_4) = valueResult (entry m c)
      ∧ r.2.mem ((c : Thread nD τ).loc main_v46_5) = gateHyenaResult (entry m c)
      ∧ r.2.mem ((c : Thread nD τ).loc main_v46_6) = gateAttentionResult (entry m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => by
    have h := h c
    rw [final12 m c, final13 m c, final14 m c, final15 m c, final16 m c, final17 m c, final18 m c] at h
    exact h) (Value.run_blocks m ρ)

end Cert.Kernel3Ideal.Arrays

end
-- ==== Proof.InputReference.lean ====
/-
  THE INPUT PROJECTION'S REFERENCE, over the extended reals: each of its results at an index is the entry's function of that row
  and column. Here the rows up to the convolution, and the values and gates.
-/
module

public import proofs.«01_k».proof.Proof.InputArray
public import proofs.«01_k».proof.Proof.Gen.Reference3Ideal.Read

@[expose] public section

set_option maxRecDepth 16384

noncomputable section

namespace Cert.Reference3Ideal.Plain

open Cert.Reference3Ideal Cert.Reference3Ideal.Gen Cert.Reference3Ideal.Read Cert.Input
open Cert.Kernel3Ideal.Arrays (entryOf)
open Idealize.ShloMosaic Idealize.ShloMosaic.TcCoe Idealize.SL.Sem

variable (X : FVec Ideal S8x8192x1024 .f32) (M : FVec Ideal S8x6x1024 .f32) (G : FVec Ideal S1x1024 .f32)
  (W : FVec Ideal S1x1024x4608 .f32) (T : FVec Ideal S1x3x1536 .f32) (B : FVec Ideal S1x1536 .f32) (Q K : FVec Ideal S1x128 .f32)
  (b : Fin 8) (s : Fin 8192)

/-- The normalised rows. -/
theorem normed_apply (k : Fin 1024) : val_main_v21 (F := Ideal) X M G (ix3 b s k) = (entryOf X M G W T B Q K b).normed s k := by
  pointwise [val_main_v0, val_main_v1, val_main_v2, val_main_v3, val_main_v4, val_main_v5, val_main_v6, val_main_v7, val_main_v8,
    val_main_v9, val_main_v10, val_main_v11, val_main_v12, val_main_v13, val_main_v14, val_main_v15, val_main_v16, val_main_v17,
    val_main_v18, val_main_v19, val_main_v20, val_main_v21, val_main_cst, val_main_cst_0, val_main_cst_1, val_main_cst_2]
  rfl

/-- The projected rows. -/
theorem projected_apply (c : Fin 4608) : val_main_v23 (F := Ideal) X M G W (ix3 b s c) = (entryOf X M G W T B Q K b).projected s c := by
  pointwise [val_main_v22, val_main_v23]
  exact Finset.sum_congr rfl fun k _ => congrArg (· * _) (normed_apply X M G W T B Q K b s k)

/-- The projected rows with a row of zeros before the first and after the last: row `t` of them is row `t - 1`. -/
theorem padded_apply (t : Fin 8194) (c : Fin 1536) : val_main_v32 (F := Ideal) X M G W (ix3 b t c)
    = if h : 1 ≤ t.val ∧ t.val - 1 < 8192
      then (entryOf X M G W T B Q K b).projected ⟨t.val - 1, h.2⟩ ⟨c.val, by omega⟩ else 0 := by
  pointwise [val_main_v24, val_main_v32, val_main_c, val_main_call0_v0]
  simp only [projected_apply X M G W T B Q K]
  have h0 : FloatOps.sitofp (F := Ideal) FTy.f32 (0#32 : BitVec 32) = (0 : EReal) := by
    show (((0#32 : BitVec 32).toInt : ℝ) : EReal) = 0
    simp
  rw [h0]

/-- The convolution. -/
theorem mixed_apply (c : Fin 1536) :
    val_main_v55 (F := Ideal) X M G W T B (ix3 b s c) = (entryOf X M G W T B Q K b).mixed s c := by
  have hs := s.isLt
  pointwise [val_main_v55, val_main_v54, val_main_v53, val_main_v52, val_main_v51, val_main_v50, val_main_v49, val_main_v48,
    val_main_v47, val_main_v46, val_main_v45, val_main_v44, val_main_v43, val_main_v42, val_main_v41, val_main_v40, val_main_v39,
    val_main_v38, val_main_v37, val_main_v36, val_main_v35, val_main_v34, val_main_v33, val_main_v31, val_main_v30]
  rw [padded_apply X M G W T B Q K, padded_apply X M G W T B Q K, padded_apply X M G W T B Q K]
  unfold Entry.mixed Entry.before Entry.after
  refine congrArg₂ (· + ·) (congrArg₂ (· + ·) (congrArg₂ (· + ·) (congrArg₂ (· * ·) ?_ rfl) (congrArg₂ (· * ·) ?_ rfl))
    (congrArg₂ (· * ·) ?_ rfl)) rfl
  · by_cases h : s.val = 0
    · rw [if_pos h, dif_neg (by show ¬ (1 ≤ s.val ∧ _); omega)]
    · rw [if_neg h, dif_pos (by show 1 ≤ s.val ∧ s.val - 1 < 8192; omega)]
  · rw [dif_pos (by show 1 ≤ 1 + s.val ∧ 1 + s.val - 1 < 8192; omega)]
    exact congrArg (fun r => (entryOf X M G W T B Q K b).projected r _) (Fin.ext (by show 1 + s.val - 1 = s.val; omega))
  · by_cases h : s.val + 1 < 8192
    · rw [dif_pos h, dif_pos (by show 1 ≤ 2 + s.val ∧ 2 + s.val - 1 < 8192; omega)]
      exact congrArg (fun r => (entryOf X M G W T B Q K b).projected r _) (Fin.ext (by show 2 + s.val - 1 = s.val + 1; omega))
    · rw [dif_neg h, dif_neg (by show ¬ (1 ≤ 2 + s.val ∧ 2 + s.val - 1 < 8192); omega)]

theorem first_apply (c : Fin 512) :
    val_main_v156 (F := Ideal) X M G W T B (ix3 b s c) = (entryOf X M G W T B Q K b).first s c := by
  pointwise [val_main_v156, val_main_v56]
  exact mixed_apply X M G W T B Q K b s _

theorem second_apply (c : Fin 512) :
    val_main_v158 (F := Ideal) X M G W T B (ix3 b s c) = (entryOf X M G W T B Q K b).second s c := by
  pointwise [val_main_v158, val_main_v157, val_main_v57, val_main_v58]
  exact congrArg₂ (· * ·) (mixed_apply X M G W T B Q K b s _) (mixed_apply X M G W T B Q K b s _)

theorem value_apply (c : Fin 256) :
    val_main_v162 (F := Ideal) X M G W (ix3 b s c) = (entryOf X M G W T B Q K b).value s c := by
  pointwise [val_main_v162, val_main_v27]
  exact projected_apply X M G W T B Q K b s _

theorem gateHyena_apply (c : Fin 1024) :
    val_main_v163 (F := Ideal) X M G W (ix3 b s c) = (entryOf X M G W T B Q K b).gateHyena s c := by
  pointwise [val_main_v163, val_main_v28]
  exact projected_apply X M G W T B Q K b s _

theorem gateAttention_apply (c : Fin 1024) :
    val_main_v164 (F := Ideal) X M G W (ix3 b s c) = (entryOf X M G W T B Q K b).gateAttention s c := by
  pointwise [val_main_v164, val_main_v29]
  exact projected_apply X M G W T B Q K b s _

end Cert.Reference3Ideal.Plain

end
-- ==== Proof.InputHeads.lean ====
/-
  THE INPUT PROJECTION'S REFERENCE, over the extended reals: each of its results at an index is the entry's function of that row
  and column. Here the queries and keys: heads normalised and turned.
-/
module

public import proofs.«01_k».proof.Proof.InputReference

@[expose] public section

set_option maxRecDepth 16384

noncomputable section

namespace Cert.Reference3Ideal.Plain

open Cert.Reference3Ideal Cert.Reference3Ideal.Gen Cert.Reference3Ideal.Read Cert.Input
open Cert.Kernel3Ideal.Arrays (entryOf)
open Idealize.ShloMosaic Idealize.ShloMosaic.TcCoe Idealize.SL.Sem

variable (X : FVec Ideal S8x8192x1024 .f32) (M : FVec Ideal S8x6x1024 .f32) (G : FVec Ideal S1x1024 .f32)
  (W : FVec Ideal S1x1024x4608 .f32) (T : FVec Ideal S1x3x1536 .f32) (B : FVec Ideal S1x1536 .f32) (Q K : FVec Ideal S1x128 .f32)
  (b : Fin 8) (s : Fin 8192)

/-- The cosines, -/
theorem cos_apply (d : Fin 128) : val_main_v86 (F := Ideal) (ix2 s d) = Ideal.cos (angle s d) := by
  have hd := d.isLt
  pointwise [val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_cst_3, val_main_cst_4]
  unfold angle
  split_ifs <;> first | omega | congr <;> omega

/-- and the sines. -/
theorem sin_apply (d : Fin 128) : val_main_v91 (F := Ideal) (ix2 s d) = Ideal.sin (angle s d) := by
  have hd := d.isLt
  pointwise [val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v87, val_main_v88, val_main_v89, val_main_v90, val_main_v91, val_main_cst_3, val_main_cst_4]
  unfold angle
  split_ifs <;> first | omega | congr <;> omega

theorem partner_of (d e : Fin 128) (h : d.val % 64 < 32 → e.val = d.val / 64 * 64 + 32 + d.val % 32)
    (h' : ¬ d.val % 64 < 32 → e.val = d.val / 64 * 64 + d.val % 32) : e = partner d := by
  have hd := d.isLt
  unfold partner
  split_ifs with hlt
  · exact Fin.ext (by have := h hlt; show e.val = (d.val + 128 - 96) % 128; omega)
  · exact Fin.ext (by have := h' hlt; show e.val = (d.val + 128 - 32) % 128; omega)

/-- A sign on the partner is a sign on the sine. -/
theorem sign_eq (z : EReal) (d : Fin 128) :
    (if d.val % 64 < 32 then -z else z) * Ideal.sin (angle s d) = z * signedSine s d := by
  unfold signedSine
  split_ifs
  · rw [neg_mul, mul_neg]
  · rfl

/-- A head of the queries, normalised. -/
theorem query_head_apply (h : Fin 4) (d : Fin 128) : val_main_v106 (F := Ideal) X M G W Q (ix4 b s h d)
    = unit (Ideal.ofBits .f32 0x43000000#32)
        (fun e : Fin 128 => (entryOf X M G W T B Q K b).projected s ⟨1536 + (128 * h.val + e.val), by omega⟩) d * Q (ix2 0 d) := by
  pointwise [val_main_v25, val_main_v92, val_main_v93, val_main_v94, val_main_v95, val_main_v96, val_main_v97, val_main_v98, val_main_v99, val_main_v100, val_main_v101, val_main_v102, val_main_v103, val_main_v104, val_main_v105, val_main_v106, val_main_cst_5, val_main_cst_6, val_main_cst_7]
  simp only [projected_apply X M G W T B Q K, Nat.mul_comm h.val 128]
  rfl

/-- Each lane's partner in it, with the rotation's sign. -/
theorem query_partner_apply (h : Fin 4) (d : Fin 128) : val_main_v116 (F := Ideal) X M G W Q (ix4 b s h d)
    = if d.val % 64 < 32 then -val_main_v106 (F := Ideal) X M G W Q (ix4 b s h (partner d))
      else val_main_v106 (F := Ideal) X M G W Q (ix4 b s h (partner d)) := by
  have hd := d.isLt
  pointwise [val_main_v107, val_main_v108, val_main_v109, val_main_v110, val_main_v111, val_main_v112, val_main_v113, val_main_v114, val_main_v115, val_main_v116]
  split_ifs
  case' pos => refine congrArg (-·) ?_
  all_goals first | omega | exact congrArg (fun e => val_main_v106 (F := Ideal) X M G W Q (ix4 b s h e)) (partner_of d _ (fun _ => by first | rfl | (exfalso; omega)) (fun _ => by first | rfl | (exfalso; omega)))

/-- A head of the queries, turned. -/
theorem query_turned_apply (h : Fin 4) (d : Fin 128) : val_main_v123 (F := Ideal) X M G W Q (ix4 b s h d)
    = turned (fun e => (entryOf X M G W T B Q K b).projected s ⟨1536 + (128 * h.val + e.val), by omega⟩)
        (entryOf X M G W T B Q K b).qgain ((entryOf X M G W T B Q K b).cos s) ((entryOf X M G W T B Q K b).sin s) d := by
  have hi : idx_main_v117 (idx_main_v118 (ix4 b s h d)) = ix2 s d :=
    funext fun a => match a with | ⟨0, _⟩ => rfl | ⟨1, _⟩ => rfl
  have hj : idx_main_v120 (idx_main_v121 (ix4 b s h d)) = ix2 s d :=
    funext fun a => match a with | ⟨0, _⟩ => rfl | ⟨1, _⟩ => rfl
  rw [val_main_v123_apply, val_main_v119_apply, val_main_v122_apply, val_main_v118_apply, val_main_v117_apply,
    val_main_v121_apply, val_main_v120_apply, query_partner_apply, hi, hj, cos_apply, sin_apply]
  refine Eq.trans (congrArg (_ + ·) (sign_eq s _ d)) ?_
  rw [query_head_apply X M G W T B Q K, query_head_apply X M G W T B Q K]
  rfl

/-- The queries. -/
theorem query_apply (c : Fin 512) :
    val_main_v159 (F := Ideal) X M G W Q (ix3 b s c) = (entryOf X M G W T B Q K b).query s c := by
  have hc := c.isLt
  have hi : idx_main_v159 (ix3 b s c) = ix4 b s (⟨c.val / 128, by omega⟩ : Fin 4) (⟨c.val % 128, by omega⟩ : Fin 128) := by
    have hb := b.isLt
    have hs := s.isLt
    refine funext fun a => Fin.ext ?_
    match a with
    | ⟨0, _⟩ => show ((b.val * 8192 + s.val) * 512 + c.val) / 4194304 = b.val
                omega
    | ⟨1, _⟩ => show ((b.val * 8192 + s.val) * 512 + c.val) / 512 % 8192 = s.val
                omega
    | ⟨2, _⟩ => show ((b.val * 8192 + s.val) * 512 + c.val) / 128 % 4 = c.val / 128
                omega
    | ⟨3, _⟩ => show ((b.val * 8192 + s.val) * 512 + c.val) % 128 = c.val % 128
                omega
  rw [val_main_v159_apply, hi]
  exact query_turned_apply X M G W T B Q K b s _ _

/-- A head of the keys, normalised. -/
theorem key_head_apply (h : Fin 2) (d : Fin 128) : val_main_v138 (F := Ideal) X M G W K (ix4 b s h d)
    = unit (Ideal.ofBits .f32 0x43000000#32)
        (fun e : Fin 128 => (entryOf X M G W T B Q K b).projected s ⟨2048 + (128 * h.val + e.val), by omega⟩) d * K (ix2 0 d) := by
  pointwise [val_main_v26, val_main_v124, val_main_v125, val_main_v126, val_main_v127, val_main_v128, val_main_v129, val_main_v130, val_main_v131, val_main_v132, val_main_v133, val_main_v134, val_main_v135, val_main_v136, val_main_v137, val_main_v138, val_main_cst_8, val_main_cst_9, val_main_cst_10]
  simp only [projected_apply X M G W T B Q K, Nat.mul_comm h.val 128]
  rfl

/-- Each lane's partner in it, with the rotation's sign. -/
theorem key_partner_apply (h : Fin 2) (d : Fin 128) : val_main_v148 (F := Ideal) X M G W K (ix4 b s h d)
    = if d.val % 64 < 32 then -val_main_v138 (F := Ideal) X M G W K (ix4 b s h (partner d))
      else val_main_v138 (F := Ideal) X M G W K (ix4 b s h (partner d)) := by
  have hd := d.isLt
  pointwise [val_main_v139, val_main_v140, val_main_v141, val_main_v142, val_main_v143, val_main_v144, val_main_v145, val_main_v146, val_main_v147, val_main_v148]
  split_ifs
  case' pos => refine congrArg (-·) ?_
  all_goals first | omega | exact congrArg (fun e => val_main_v138 (F := Ideal) X M G W K (ix4 b s h e)) (partner_of d _ (fun _ => by first | rfl | (exfalso; omega)) (fun _ => by first | rfl | (exfalso; omega)))

/-- A head of the keys, turned. -/
theorem key_turned_apply (h : Fin 2) (d : Fin 128) : val_main_v155 (F := Ideal) X M G W K (ix4 b s h d)
    = turned (fun e => (entryOf X M G W T B Q K b).projected s ⟨2048 + (128 * h.val + e.val), by omega⟩)
        (entryOf X M G W T B Q K b).kgain ((entryOf X M G W T B Q K b).cos s) ((entryOf X M G W T B Q K b).sin s) d := by
  have hi : idx_main_v149 (idx_main_v150 (ix4 b s h d)) = ix2 s d :=
    funext fun a => match a with | ⟨0, _⟩ => rfl | ⟨1, _⟩ => rfl
  have hj : idx_main_v152 (idx_main_v153 (ix4 b s h d)) = ix2 s d :=
    funext fun a => match a with | ⟨0, _⟩ => rfl | ⟨1, _⟩ => rfl
  rw [val_main_v155_apply, val_main_v151_apply, val_main_v154_apply, val_main_v150_apply, val_main_v149_apply,
    val_main_v153_apply, val_main_v152_apply, key_partner_apply, hi, hj, cos_apply, sin_apply]
  refine Eq.trans (congrArg (_ + ·) (sign_eq s _ d)) ?_
  rw [key_head_apply X M G W T B Q K, key_head_apply X M G W T B Q K]
  rfl

/-- The keys. -/
theorem key_apply (c : Fin 256) :
    val_main_v161 (F := Ideal) X M G W K (ix3 b s c) = (entryOf X M G W T B Q K b).key s c := by
  have hc := c.isLt
  have hi : idx_main_v160 (ix3 b s c) = ix4 b s (⟨c.val / 128, by omega⟩ : Fin 2) (⟨c.val % 128, by omega⟩ : Fin 128) := by
    have hb := b.isLt
    have hs := s.isLt
    refine funext fun a => Fin.ext ?_
    match a with
    | ⟨0, _⟩ => show ((b.val * 8192 + s.val) * 256 + c.val) / 2097152 = b.val
                omega
    | ⟨1, _⟩ => show ((b.val * 8192 + s.val) * 256 + c.val) / 256 % 8192 = s.val
                omega
    | ⟨2, _⟩ => show ((b.val * 8192 + s.val) * 256 + c.val) / 128 % 2 = c.val / 128
                omega
    | ⟨3, _⟩ => show ((b.val * 8192 + s.val) * 256 + c.val) % 128 = c.val % 128
                omega
  rw [val_main_v161_apply, val_main_v160_apply, hi]
  exact key_turned_apply X M G W T B Q K b s _ _

end Cert.Reference3Ideal.Plain

end
-- ==== Proof.InputEquation.lean ====
/-
  THE INPUT PROJECTION'S EQUATION: each array of the reference's is the kernel's. Both are the entry's function of the row and the
  column, so an array is equal to the other index by index.
-/
module

public import proofs.«01_k».proof.Proof.InputHeads

@[expose] public section

set_option maxRecDepth 16384

noncomputable section

namespace Cert.InputEquation

open Cert.Kernel3Ideal.Arrays Cert.Reference3Ideal Cert.Reference3Ideal.Read Cert.Reference3Ideal.Plain
open Idealize.ShloMosaic Idealize.ShloMosaic.TcCoe Idealize.SL.Sem

variable (X : FVec Ideal S8x8192x1024 .f32) (M : FVec Ideal S8x6x1024 .f32) (G : FVec Ideal S1x1024 .f32)
  (W : FVec Ideal S1x1024x4608 .f32) (T : FVec Ideal S1x3x1536 .f32) (B : FVec Ideal S1x1536 .f32) (Q K : FVec Ideal S1x128 .f32)

/-- An array read at its three indices. -/
theorem ext {n : ℕ} {f g : Shape.Idx ⟨3, ![8, 8192, n]⟩ → EReal}
    (h : ∀ (b : Fin 8) (s : Fin 8192) (c : Fin n), f (ix3 b s c) = g (ix3 b s c)) : f = g := by
  funext j
  have hj : j = ix3 (j 0) (j 1) (j 2) := funext fun z => match z with | ⟨0, _⟩ => rfl | ⟨1, _⟩ => rfl | ⟨2, _⟩ => rfl
  rw [hj]
  exact h _ _ _

theorem first_eq : val_main_v156 (F := Ideal) X M G W T B = firstResult (entryOf X M G W T B Q K) :=
  ext (first_apply X M G W T B Q K)

theorem second_eq : val_main_v158 (F := Ideal) X M G W T B = secondResult (entryOf X M G W T B Q K) :=
  ext (second_apply X M G W T B Q K)

theorem query_eq : val_main_v159 (F := Ideal) X M G W Q = queryResult (entryOf X M G W T B Q K) :=
  ext (query_apply X M G W T B Q K)

theorem key_eq : val_main_v161 (F := Ideal) X M G W K = keyResult (entryOf X M G W T B Q K) :=
  ext (key_apply X M G W T B Q K)

theorem value_eq : val_main_v162 (F := Ideal) X M G W = valueResult (entryOf X M G W T B Q K) :=
  ext (value_apply X M G W T B Q K)

theorem gateHyena_eq : val_main_v163 (F := Ideal) X M G W = gateHyenaResult (entryOf X M G W T B Q K) :=
  ext (gateHyena_apply X M G W T B Q K)

theorem gateAttention_eq : val_main_v164 (F := Ideal) X M G W = gateAttentionResult (entryOf X M G W T B Q K) :=
  ext (gateAttention_apply X M G W T B Q K)

end Cert.InputEquation

end
-- ==== Proof.InputClaims.lean ====
/-
  The input projection's claims: the frames, and the equality with the reference.
-/
module

public import proofs.«01_k».proof.Defs
public import proofs.«01_k».proof.Proof.InputEquation
public import proofs.«01_k».proof.Proof.Gen.Kernel3.Frame
public import Idealize.ShloMosaic.Lib.Quiescent

@[expose] public section

noncomputable section

namespace Cert.Proof.InputClaims

open Idealize.ShloMosaic Idealize.ShloMosaic.TcCoe Idealize.SL.Sem

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono
    (fun r h => ⟨fun c => (h c).2.2.2.2.2.2.2, sem_eq_zero_of_no_sems (by decide) r.2⟩)
    (Cert.Reference3Ideal.Value.run (F := Ideal) m ρ)

theorem preserves : Cert.preserves_Kernel3_Kernel3Ideal := trivial

open Cert.Reference3Ideal.Read Cert.InputEquation Cert.Kernel3Ideal.Arrays in
theorem algebraic : Cert.algebraic_Kernel3Ideal_Reference3Ideal := by
  intro m ρ m' ρ' _ hagree
  refine ⟨_, _, _, _, _, _, _, Cert.Kernel3Ideal.Arrays.run m ρ, ?_⟩
  refine (θ_run Cert.Reference3Ideal.defs _ _).mono (fun _ h c => ?_) (Cert.Reference3Ideal.Value.run (F := Ideal) m' ρ')
  obtain ⟨r0, r1, r2, r3, r4, r5, r6, kept⟩ := h c
  obtain ⟨h0, h1, h2, h3, h4, h5, h6, h7⟩ := hagree c
  have he : entryOf (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5))
      (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7))
      = entry m c := by
    rw [h0, h1, h2, h3, h4, h5, h6, h7]
  exact ⟨(r0.trans (val_main_v156_eq m' c)).trans ((first_eq _ _ _ _ _ _ _ _).trans (congrArg firstResult he)),
    (r1.trans (val_main_v158_eq m' c)).trans ((second_eq _ _ _ _ _ _ _ _).trans (congrArg secondResult he)),
    (r2.trans (val_main_v159_eq m' c)).trans ((query_eq _ _ _ _ _ _ _ _).trans (congrArg queryResult he)),
    (r3.trans (val_main_v161_eq m' c)).trans ((key_eq _ _ _ _ _ _ _ _).trans (congrArg keyResult he)),
    (r4.trans (val_main_v162_eq (F := Ideal) _ _ _ _)).trans ((value_eq _ _ _ _ _ _ _ _).trans (congrArg valueResult he)),
    (r5.trans (val_main_v163_eq (F := Ideal) _ _ _ _)).trans ((gateHyena_eq _ _ _ _ _ _ _ _).trans (congrArg gateHyenaResult he)),
    (r6.trans (val_main_v164_eq (F := Ideal) _ _ _ _)).trans ((gateAttention_eq _ _ _ _ _ _ _ _).trans (congrArg gateAttentionResult he)), kept⟩

end Cert.Proof.InputClaims

end
-- ==== Proof.ModulationArray.lean ====
/-
  THE MODULATION'S ARRAY, over the extended reals. A point of the grid computes 1536 columns of it for all the rows; the four
  points' blocks cover the array.
-/
module

public import proofs.«01_k».proof.Proof.Gen.Kernel4Ideal.Value
public import Idealize.ShloMosaic.Lib.StableHlo.Run
public import Idealize.ShloMosaic.Lib.Pointwise

@[expose] public section

set_option maxRecDepth 16384

noncomputable section

namespace Cert.Modulation

open Idealize.ShloMosaic Idealize.ShloMosaic.TcCoe Idealize.SL.Sem

/-- The conditions: the first batch's two rows, the second's eight, and six rows of zeros. -/
def condition (P : Shape.Idx ⟨2, ![2, 1024]⟩ → EReal) (S : Shape.Idx ⟨2, ![8, 1024]⟩ → EReal) (r : Fin 16) (k : Fin 1024) : EReal :=
  if h : r.val < 2 then P (ix2 ⟨r.val, h⟩ k) else if h' : r.val < 10 then S (ix2 ⟨r.val - 2, by omega⟩ k) else 0

/-- A row of the modulation: the unit of the row's condition, times the weights, plus the bias. -/
def modulation (P : Shape.Idx ⟨2, ![2, 1024]⟩ → EReal) (S : Shape.Idx ⟨2, ![8, 1024]⟩ → EReal)
    (W : Shape.Idx ⟨3, ![1, 1024, 6144]⟩ → EReal) (B : Shape.Idx ⟨2, ![1, 6144]⟩ → EReal) (r : Fin 16) (q : Fin 6144) : EReal :=
  ∑ k : Fin 1024, condition P S r k * Ideal.logistic (condition P S r k) * W (ix3 0 k q) + B (ix2 0 q)

end Cert.Modulation

namespace Cert.Kernel4Ideal.Arrays

open Cert.Kernel4Ideal Cert.Kernel4Ideal.Gen Cert.Modulation
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The arguments. -/
abbrev argP : FVec Ideal S2x1024 .f32 := m ((c : Thread nD τ).loc main_arg0)
abbrev argS : FVec Ideal S8x1024 .f32 := m ((c : Thread nD τ).loc main_arg1)
abbrev argW : FVec Ideal S1x1024x6144 .f32 := m ((c : Thread nD τ).loc main_arg2)
abbrev argB : FVec Ideal S1x6144 .f32 := m ((c : Thread nD τ).loc main_arg3)

/-! ## What the kernel is given -/

theorem condition_eq (r : Fin 16) (k : Fin 1024) :
    (V m c main_v1 : FVec Ideal S16x1024 .f32) (ix2 r k) = condition (argP m c) (argS m c) r k := by
  have h : (V m c main_v1 : FVec Ideal S16x1024 .f32)
      = pad S16x1024 ![0, 0] ![6, 0] ![0, 0]
        (concatenate S10x1024 0 [⟨S2x1024, argP m c⟩, ⟨S8x1024, argS m c⟩] concatenates_S2x1024_S8x1024_S10x1024_d0)
        (sitofp (F := Ideal) .f32 (constantI S_ 32 0#32)) pads_S10x1024_S16x1024_060_000 h_S_ := by
    unfold_abbrev_sides
    simp only [hostOps0, hostOps0_1, hostOps0_2, List.flatten_cons, List.flatten_nil, List.append_nil, List.cons_append, List.nil_append]
    after_results
    rfl
  rw [h]
  pointwise []
  unfold condition
  split_ifs <;> first | omega | rfl | (show (((0#32 : BitVec 32).toInt : ℝ) : EReal) = 0; simp)

theorem weights_apply (k : Fin 1024) (q : Fin 6144) :
    (V m c main_v2 : FVec Ideal S1024x6144 .f32) (ix2 k q) = argW m c (ix3 0 k q) := by
  have h : (V m c main_v2 : FVec Ideal S1024x6144 .f32) = shapeCast S1024x6144 (argW m c) shapeCasts_S1x1024x6144_S1024x6144 := by
    unfold_abbrev_sides
    simp only [hostOps0, hostOps0_1, hostOps0_2, List.flatten_cons, List.flatten_nil, List.append_nil, List.cons_append, List.nil_append]
    after_results
    rfl
  rw [h]
  refine (shapeCast_dropUnit_apply ![1024, 6144] (argW m c) _ _).trans ?_
  refine congrArg (argW m c) (funext fun x => ?_)
  match x with
  | ⟨0, _⟩ => rfl
  | ⟨1, _⟩ => rfl
  | ⟨2, _⟩ => rfl

theorem bias_eq : (V m c main_v4 : FVec Ideal S1x6144 .f32) = argB m c := by
  unfold_abbrev_sides
  simp only [hostOps0, hostOps0_1, hostOps0_2, List.flatten_cons, List.flatten_nil, List.append_nil, List.cons_append, List.nil_append]
  after_results
  exact shapeCast_shapeCast _ _ _

/-! ## What a point writes -/

theorem out_apply (x0 : Vec Ideal S16x1024 .f32) (x1 : Vec Ideal S1024x1536 .f32) (x2 : Vec Ideal S1x1536 .f32) (r : Fin 16)
    (q : Fin 1536) : out0_3 x0 x1 x2 (ix2 r q)
      = ∑ k : Fin 1024, x0 (ix2 r k) * Ideal.logistic (x0 (ix2 r k)) * x1 (ix2 k q) + x2 (ix2 0 q) := by
  unfold out0_3
  have hz : (![0, 0] : Fin 2 → ℕ) = fun _ => 0 := funext fun a => match a with | ⟨0, _⟩ => rfl | ⟨1, _⟩ => rfl
  refine (congrFun (View.canon_cons_unit_zero (S := S16x1536) hz _ _ _) _).trans ?_
  rw [View.ld_unit_zero (S := S16x1024) hz, View.ld_unit_zero (S := S1024x1536) hz, View.ld_unit_zero (S := S1x1536) hz]
  pointwise [k0_pay1]

theorem ext2 {a b : ℕ} {x y : Shape.Idx ⟨2, ![a, b]⟩} (h0 : (x 0).val = (y 0).val) (h1 : (x 1).val = (y 1).val) : x = y :=
  funext fun z => Fin.ext (match z with | ⟨0, _⟩ => h0 | ⟨1, _⟩ => h1)

theorem index0 : ∀ t : Fin grid0.N, win0_0.index t 0 = 0 ∧ win0_0.index t 1 = 0 := by decide +kernel
theorem index1 : ∀ t : Fin grid0.N, win0_1.index t 0 = 0 ∧ win0_1.index t 1 = t.val := by decide +kernel
theorem index2 : ∀ t : Fin grid0.N, win0_2.index t 0 = 0 ∧ win0_2.index t 1 = t.val := by decide +kernel
theorem index3 : ∀ t : Fin grid0.N, win0_3.index t 0 = 0 ∧ win0_3.index t 1 = t.val := by decide +kernel

theorem block0 (t : Fin cfg0.N) (r : Fin 16) (k : Fin 1024) :
    (iblk m c 0 t : FVec Ideal S16x1024 .f32) (ix2 r k) = condition (argP m c) (argS m c) r k := by
  have hi := index0 t
  rw [← condition_eq]
  unfold iblk
  rw [View.read_apply]
  exact congrArg (V m c main_v1 : FVec Ideal S16x1024 .f32) (ext2
    (by show win0_0.index t 0 * 16 + 1 * r.val = r.val; rw [hi.1]; omega)
    (by show win0_0.index t 1 * 1024 + 1 * k.val = k.val; rw [hi.2]; omega))

theorem block1 (t : Fin cfg0.N) (k : Fin 1024) (d : Fin 1536) (q : Fin 6144) (hq : q.val = 1536 * t.val + d.val) :
    (iblk m c 1 t : FVec Ideal S1024x1536 .f32) (ix2 k d) = argW m c (ix3 0 k q) := by
  have hi := index1 t
  rw [← weights_apply]
  unfold iblk
  rw [View.read_apply]
  exact congrArg (V m c main_v2 : FVec Ideal S1024x6144 .f32) (ext2
    (by show win0_1.index t 0 * 1024 + 1 * k.val = k.val; rw [hi.1]; omega)
    (by show win0_1.index t 1 * 1536 + 1 * d.val = q.val; rw [hi.2]; omega))

theorem block2 (t : Fin cfg0.N) (d : Fin 1536) (q : Fin 6144) (hq : q.val = 1536 * t.val + d.val) :
    (iblk m c 2 t : FVec Ideal S1x1536 .f32) (ix2 0 d) = argB m c (ix2 0 q) := by
  have hi := index2 t
  rw [← bias_eq]
  unfold iblk
  rw [View.read_apply]
  exact congrArg (V m c main_v4 : FVec Ideal S1x6144 .f32) (ext2
    (by show win0_2.index t 0 * 1 + 1 * 0 = 0; rw [hi.1])
    (by show win0_2.index t 1 * 1536 + 1 * d.val = q.val; rw [hi.2]; omega))

/-! ## The array -/

/-- The kernel's array. -/
def result : FVec Ideal S16x6144 .f32 := fun j => modulation (argP m c) (argS m c) (argW m c) (argB m c) (j 0) (j 1)

theorem final3 : (dats m 0 c).arrAt 3 cfg0.N = result m c := by
  refine (dats m 0 c).arrAt_eq_of_cover 3 (result m c) (fun t _ => ?_) fun i => ?_
  · have hi := index3 t
    rw [Value.flushed3]
    refine funext fun (j : S16x1536.Idx) => ?_
    rw [View.read_apply]
    idx_vars j
    have hN : t.val < 4 := t.isLt
    have hq : (⟨1536 * t.val + j1.val, by omega⟩ : Fin 6144).val = 1536 * t.val + j1.val := rfl
    have e : out0_3 (iblk m c 0 t) (iblk m c 1 t) (iblk m c 2 t) (ix2 j0 j1) = result m c (ix2 j0 ⟨1536 * t.val + j1.val, by omega⟩) := by
      refine (out_apply _ _ _ _ _).trans ?_
      exact congrArg₂ (· + ·) (Finset.sum_congr rfl fun k _ => by rw [block0 m c t j0 k, block1 m c t k j1 _ hq]; rfl)
        (block2 m c t j1 _ hq)
    refine Eq.trans e (congrArg (result m c) (ext2 ?_ ?_))
    · show j0.val = win0_3.index t 0 * 16 + 1 * j0.val
      rw [hi.1]; omega
    · show 1536 * t.val + j1.val = win0_3.index t 1 * 1536 + 1 * j1.val
      rw [hi.2]; omega
  · have h0 : (i 0).val < 16 := (i 0).isLt
    have h1 : (i 1).val < 6144 := (i 1).isLt
    have hp : (i 1).val / 1536 < cfg0.N := by have hN : cfg0.N = 4 := N_0; omega
    have hi := index3 ⟨(i 1).val / 1536, hp⟩
    refine ⟨⟨(i 1).val / 1536, hp⟩, flush0_3 _, ?_⟩
    show i ∈ ((View.whole main_v5).slice (win0_3.rect ⟨(i 1).val / 1536, hp⟩)).set
    rw [View.set_slice_whole, Rect.mem_set_unit]
    refine fun a => match a with | ⟨0, _⟩ => ?_ | ⟨1, _⟩ => ?_
    · show win0_3.index _ 0 * 16 ≤ (i 0).val ∧ (i 0).val < win0_3.index _ 0 * 16 + 16
      rw [hi.1]; omega
    · show win0_3.index _ 1 * 1536 ≤ (i 1).val ∧ (i 1).val < win0_3.index _ 1 * 1536 + 1536
      rw [hi.2]
      show (i 1).val / 1536 * 1536 ≤ (i 1).val ∧ (i 1).val < (i 1).val / 1536 * 1536 + 1536
      omega

/-- The run: the array, and the arguments as they were. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    have h := h c
    rw [final3 m c] at h
    exact h) (Value.run_blocks m ρ)

end Cert.Kernel4Ideal.Arrays

end
-- ==== Proof.ModulationClaims.lean ====
/-
  The modulation's claims: the frames, and the equality with the reference.
-/
module

public import proofs.«01_k».proof.Defs
public import proofs.«01_k».proof.Proof.ModulationArray
public import proofs.«01_k».proof.Proof.Gen.Kernel4.Frame
public import proofs.«01_k».proof.Proof.Gen.Reference4Ideal.Run
public import proofs.«01_k».proof.Proof.Gen.Reference4Ideal.Read
public import Idealize.ShloMosaic.Lib.IdealHost
public import Idealize.ShloMosaic.Lib.Quiescent

@[expose] public section

set_option maxRecDepth 16384

noncomputable section

namespace Cert.Reference4Ideal.Plain

open Cert.Reference4Ideal Cert.Reference4Ideal.Gen Cert.Reference4Ideal.Read Cert.Modulation
open Idealize.ShloMosaic Idealize.ShloMosaic.TcCoe Idealize.SL.Sem

variable (P : FVec Ideal S2x1024 .f32) (S : FVec Ideal S8x1024 .f32) (W : FVec Ideal S1x1024x6144 .f32)
  (B : FVec Ideal S1x6144 .f32)

/-- The reference's conditions, -/
theorem condition_apply (r : Fin 16) (k : Fin 1024) : val_main_v1 (F := Ideal) P S (ix2 r k) = condition P S r k := by
  pointwise [val_main_v1, val_main_v0, val_main_cst]
  unfold condition
  split_ifs <;> first | omega | rfl | (simp <;> omega)

/-- the unit on them, -/
theorem unit_apply (r : Fin 16) (k : Fin 1024) :
    val_main_v2 (F := Ideal) P S (ix2 r k) = condition P S r k * Ideal.logistic (condition P S r k) := by
  rw [← condition_apply]
  show _ * Ideal.div (Ideal.ofBits .f32 0x3F800000#32) (Ideal.ofBits .f32 0x3F800000#32 + _) = _
  rw [Ideal.ofBits_one_f32]
  rfl

/-- and its array. -/
theorem result_apply (r : Fin 16) (q : Fin 6144) : val_main_v8 (F := Ideal) P S W B (ix2 r q) = modulation P S W B r q := by
  have hW (k : Fin 1024) : val_main_v3 (F := Ideal) W (ix2 k q) = W (ix3 0 k q) := by
    rw [val_main_v3_apply]
    refine congrArg W (funext fun a => Fin.ext ?_)
    match a with
    | ⟨0, _⟩ => rfl
    | ⟨1, _⟩ => show (k.val * 6144 + q.val) / 6144 % 1024 = k.val; omega
    | ⟨2, _⟩ => show (k.val * 6144 + q.val) % 6144 = q.val; omega
  have hB : val_main_v7 (F := Ideal) B (ix2 r q) = B (ix2 0 q) := by
    rw [val_main_v7_apply, val_main_v6_apply, val_main_v5_apply]
    refine congrArg B (funext fun a => Fin.ext ?_)
    match a with
    | ⟨0, _⟩ => rfl
    | ⟨1, _⟩ => exact Nat.mod_eq_of_lt q.isLt
  rw [val_main_v8_apply, val_main_v4_apply, hB]
  refine congrArg (· + B (ix2 0 q)) (Finset.sum_congr rfl fun k _ => ?_)
  have hl : lidx_main_v4 (ix2 r q) k = ix2 r k := funext fun a => match a with | ⟨0, _⟩ => rfl | ⟨1, _⟩ => rfl
  have hr : ridx_main_v4 (ix2 r q) k = ix2 k q := funext fun a => match a with | ⟨0, _⟩ => rfl | ⟨1, _⟩ => rfl
  rw [hl, hr, unit_apply, hW]

end Cert.Reference4Ideal.Plain

namespace Cert.Proof.ModulationClaims

open Idealize.ShloMosaic Idealize.ShloMosaic.TcCoe Idealize.SL.Sem

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

theorem preserves : Cert.preserves_Kernel4_Kernel4Ideal := trivial

open Cert.Reference4Ideal.Read Cert.Modulation in
theorem algebraic : Cert.algebraic_Kernel4Ideal_Reference4Ideal := by
  intro m ρ m' ρ' _ hagree
  refine ⟨_, Cert.Kernel4Ideal.Arrays.run m ρ, ?_⟩
  refine (θ_run Cert.Reference4Ideal.defs _ _).mono (fun _ h c => ?_) (Cert.Reference4Ideal.Value.run (F := Ideal) m' ρ')
  obtain ⟨r0, kept⟩ := h c
  obtain ⟨h0, h1, h2, h3⟩ := hagree c
  refine ⟨(r0.trans (val_main_v8_eq (F := Ideal) _ _ _ _)).trans ?_, kept⟩
  rw [h0, h1, h2, h3]
  refine funext fun (j : Cert.Reference4Ideal.S16x6144.Idx) => ?_
  have hj : j = ix2 (j 0) (j 1) := funext fun z => match z with | ⟨0, _⟩ => rfl | ⟨1, _⟩ => rfl
  rw [hj]
  exact Cert.Reference4Ideal.Plain.result_apply _ _ _ _ _ _

end Cert.Proof.ModulationClaims

end
-- ==== Proof.RoutingChoice.lean ====
/- Choosing the experts of one token. The kernel takes the greatest of the 128 lanes four times, each time at the first lane
   that has it, and writes −∞ over the lane it took. The reference sorts the 32 experts' logits, stably and from the greatest
   down, and takes the first four. -/
module

public import Idealize.ShloMosaic.PureOps.Ideal
public import Idealize.ShloMosaic.Lib.SortPrefix
public import Idealize.ShloMosaic.Lib.SortNet.Extract

@[expose] public section

namespace Cert.Kernel5Ideal.RoutingProof

open Idealize.ShloMosaic

/-! ### The stable sort by a key alone -/

/-- Of positions in order, the stable sort by a comparison and the sort that decides its ties by position agree. -/
theorem stableSort_tie {n : ℕ} (B T : Fin n → Fin n → Bool) (hT : ∀ a b, a < b → T b a = B b a) (l : List (Fin n))
    (hl : l.Pairwise (· < ·)) : stableSort B l = stableSort T l := by
  have insert : ∀ (a : Fin n) (s : List (Fin n)), (∀ b ∈ s, a < b) → insertBefore B a s = insertBefore T a s := by
    intro a s
    induction s with
    | nil => intro _; rfl
    | cons b s ih =>
      intro h
      unfold insertBefore
      rw [ih fun c hc => h c (List.mem_cons_of_mem _ hc), hT a b (h b List.mem_cons_self)]
  induction l with
  | nil => rfl
  | cons a l ih =>
    obtain ⟨ha, hl⟩ := List.pairwise_cons.mp hl
    unfold stableSort
    rw [ih hl]
    exact insert a _ fun b hb => ha b ((perm_stableSort T l).mem_iff.mp hb)

/-- "Greater", as the reference's sort compares two logits. -/
noncomputable def above (x y : EReal) : Bool := Ideal.cmpTotal .gt x y == 1#1

theorem above_iff (x y : EReal) : above x y = true ↔ y < x := by
  show ((BitVec.ofBool (decide (y < x))) == 1#1) = true ↔ _
  by_cases h : y < x <;> simp [h]

/-- Greater, or equal and earlier. -/
noncomputable def ahead {n : ℕ} (L : Fin n → EReal) (a b : Fin n) : Bool :=
  above (L a) (L b) || (decide (L a = L b) && decide (a < b))

theorem ahead_total {n : ℕ} (L : Fin n → EReal) : StrictTotalBefore (ahead L) :=
  StrictTotalBefore.of_key_then_position above L
    (fun a => by rw [Bool.eq_false_iff, ne_eq, above_iff]; exact lt_irrefl a)
    (fun a b c hab hbc => (above_iff a c).mpr (((above_iff b c).mp hbc).trans ((above_iff a b).mp hab)))
    fun a b => by
      rw [above_iff, above_iff]
      rcases lt_trichotomy b a with h | h | h
      · exact .inl h
      · exact .inr (.inl h.symm)
      · exact .inr (.inr h)

theorem ahead_false {n : ℕ} (L : Fin n → EReal) (a b : Fin n) : ahead L a b = false ↔ L a ≤ L b ∧ (L a = L b → b ≤ a) := by
  rw [Bool.eq_false_iff, ne_eq, ahead, Bool.or_eq_true, above_iff, Bool.and_eq_true, decide_eq_true_eq, decide_eq_true_eq]
  rw [not_or, not_lt, not_and, not_lt]

theorem sorted_ahead {n : ℕ} (L : Fin n → EReal) :
    sortedFrom (fun a b => above (L a) (L b)) = sortedFrom (ahead L) := by
  funext k
  have h : sortPositions n (fun a b => above (L a) (L b)) = sortPositions n (ahead L) :=
    stableSort_tie _ _ (fun a b hab => by simp [ahead, not_lt.mpr hab.le]) _ (List.pairwise_lt_finRange n)
  unfold sortedFrom
  simp only [List.get_eq_getElem, h, Fin.val_cast]

/-! ### One round of the kernel's choice -/

/-- The greatest lane. -/
noncomputable def most (w : Fin 128 → EReal) : EReal := Finset.univ.sup w

/-- The number of the first lane that holds the greatest. -/
noncomputable def first (w : Fin 128 → EReal) : BitVec 32 :=
  (Finset.univ : Finset (Fin 128)).fold IntOp.minsi 2147483647#32 fun k => if w k = most w then BitVec.ofNat 32 k.val else 128#32

/-- The lanes with −∞ over the one taken. -/
noncomputable def rest (w : Fin 128 → EReal) : Fin 128 → EReal := fun l => if BitVec.ofNat 32 l.val = first w then ⊥ else w l

theorem fold_minsi {ι : Type} [DecidableEq ι] (g : ι → BitVec 32) (s : Finset ι) (init : BitVec 32) :
    (∀ i ∈ s, (s.fold IntOp.minsi init g).toInt ≤ (g i).toInt) ∧
      (s.fold IntOp.minsi init g = init ∨ ∃ i ∈ s, s.fold IntOp.minsi init g = g i) := by
  refine Finset.induction_on s ⟨fun i hi => absurd hi (Finset.notMem_empty i), .inl (by rw [Finset.fold_empty])⟩ ?_
  intro a s has ih
  obtain ⟨h2, h3⟩ := ih
  rw [Finset.fold_insert has]
  have hm := SortNet.toInt_minsi (g a) (s.fold IntOp.minsi init g)
  refine ⟨fun i hi => ?_, ?_⟩
  · rcases Finset.mem_insert.mp hi with rfl | hi
    · rw [hm]; exact min_le_left _ _
    · exact le_trans (by rw [hm]; exact min_le_right _ _) (h2 i hi)
  · rcases min_choice (g a).toInt (s.fold IntOp.minsi init g).toInt with h | h
    · exact .inr ⟨a, Finset.mem_insert_self a s, BitVec.eq_of_toInt_eq (hm.trans h)⟩
    · have e := BitVec.eq_of_toInt_eq (hm.trans h)
      rcases h3 with h3 | ⟨i, hi, h3⟩
      · exact .inl (e.trans h3)
      · exact .inr ⟨i, Finset.mem_insert_of_mem hi, e.trans h3⟩

theorem lane_toInt (l : Fin 128) : (BitVec.ofNat 32 l.val).toInt = l.val := by
  revert l; decide +kernel

theorem lane_inj (l k : Fin 128) : BitVec.ofNat 32 l.val = BitVec.ofNat 32 k.val ↔ l = k := by
  constructor
  · intro h
    have := congrArg BitVec.toInt h
    rw [lane_toInt, lane_toInt] at this
    exact Fin.ext (by exact_mod_cast this)
  · rintro rfl; rfl

/-- The lane taken: it holds the greatest, and no earlier one does. -/
theorem exists_first (w : Fin 128 → EReal) :
    ∃ p : Fin 128, first w = BitVec.ofNat 32 p.val ∧ w p = most w ∧ ∀ q, w q = most w → p ≤ q := by
  obtain ⟨p0, -, h0⟩ := Finset.exists_mem_eq_sup (Finset.univ : Finset (Fin 128)) ⟨0, Finset.mem_univ _⟩ w
  obtain ⟨hle, hor⟩ := fold_minsi (fun k : Fin 128 => if w k = most w then BitVec.ofNat 32 k.val else 128#32) Finset.univ
    2147483647#32
  have hp0 := hle p0 (Finset.mem_univ _)
  replace h0 : w p0 = most w := h0.symm
  rw [if_pos h0, lane_toInt] at hp0
  have hlt : (p0.val : ℤ) < 128 := by exact_mod_cast p0.isLt
  rcases hor with h | ⟨p, -, h⟩
  · rw [h, show (2147483647#32 : BitVec 32).toInt = 2147483647 from by decide] at hp0
    omega
  · by_cases hp : w p = most w
    · rw [if_pos hp] at h
      refine ⟨p, h, hp, fun q hq => ?_⟩
      have := hle q (Finset.mem_univ _)
      rw [h, if_pos hq, lane_toInt, lane_toInt] at this
      exact_mod_cast this
    · rw [h, if_neg hp, show (128#32 : BitVec 32).toInt = 128 from by decide] at hp0
      omega

noncomputable def taken (w : Fin 128 → EReal) : Fin 128 := (exists_first w).choose
theorem first_eq (w : Fin 128 → EReal) : first w = BitVec.ofNat 32 (taken w).val := (exists_first w).choose_spec.1
theorem taken_most (w : Fin 128 → EReal) : w (taken w) = most w := (exists_first w).choose_spec.2.1
theorem taken_le (w : Fin 128 → EReal) (q : Fin 128) (h : w q = most w) : taken w ≤ q := (exists_first w).choose_spec.2.2 q h
theorem le_taken (w : Fin 128 → EReal) (q : Fin 128) : w q ≤ w (taken w) := by
  rw [taken_most w]; exact Finset.le_sup (f := w) (Finset.mem_univ q)

theorem first_iff (w : Fin 128 → EReal) (l : Fin 128) : BitVec.ofNat 32 l.val = first w ↔ l = taken w := by
  rw [first_eq, lane_inj]

/-- The lanes before round `n`. -/
noncomputable def lanes (w : Fin 128 → EReal) : ℕ → Fin 128 → EReal
  | 0 => w
  | n + 1 => rest (lanes w n)

/-- A lane taken in an earlier round holds −∞, every other holds what it held. -/
theorem lanes_eq (w : Fin 128 → EReal) (n : ℕ) (l : Fin 128) :
    ((∃ i < n, taken (lanes w i) = l) ∧ lanes w n l = ⊥) ∨ ((∀ i < n, taken (lanes w i) ≠ l) ∧ lanes w n l = w l) := by
  induction n with
  | zero => exact .inr ⟨fun i hi => absurd hi (Nat.not_lt_zero i), rfl⟩
  | succ n ih =>
    change (_ ∧ rest (lanes w n) l = ⊥) ∨ (_ ∧ rest (lanes w n) l = w l)
    by_cases h : l = taken (lanes w n)
    · exact .inl ⟨⟨n, n.lt_succ_self, h.symm⟩, if_pos ((first_iff _ _).mpr h)⟩
    · have hr : rest (lanes w n) l = lanes w n l := if_neg fun e => h ((first_iff _ _).mp e)
      rcases ih with ⟨⟨i, hi, e⟩, hb⟩ | ⟨hn, hw⟩
      · exact .inl ⟨⟨i, hi.trans n.lt_succ_self, e⟩, hr.trans hb⟩
      · refine .inr ⟨fun i hi => ?_, hr.trans hw⟩
        rcases Nat.lt_succ_iff_lt_or_eq.mp hi with hi | rfl
        · exact hn i hi
        · exact fun e => h e.symm

/-! ### The four rounds -/

/-- The 32 experts' logits in the first lanes, −∞ in the others. -/
noncomputable def padded (L : Fin 32 → EReal) : Fin 128 → EReal := fun l => if h : l.val < 32 then L ⟨l.val, h⟩ else ⊥

/-- The position the reference's sort puts at place `i` of the first four. -/
noncomputable def chosen (L : Fin 32 → EReal) (i : Fin 4) : Fin 32 :=
  sortedFrom (fun a b => above (L a) (L b)) (i.castLE (by decide))

variable (L : Fin 32 → EReal) (hL : ∀ e, L e ≠ ⊥)
include hL

/-- In each of the four rounds some expert is left. -/
theorem round_ne_bot (i : ℕ) (hi : i < 4) : most (lanes (padded L) i) ≠ ⊥ := by
  obtain ⟨e, he, hn⟩ : ∃ e ∈ (Finset.univ : Finset (Fin 32)).map (Fin.castLEEmb (by decide : 32 ≤ 128)),
      e ∉ (Finset.range i).image fun j => taken (lanes (padded L) j) := by
    refine Finset.exists_mem_notMem_of_card_lt_card ((Finset.card_image_le).trans_lt ?_)
    rw [Finset.card_range, Finset.card_map, Finset.card_univ, Fintype.card_fin]
    omega
  obtain ⟨e, -, rfl⟩ := Finset.mem_map.mp he
  have hw : lanes (padded L) i (e.castLE (by decide)) = L e := by
    rcases lanes_eq (padded L) i (e.castLE (by decide)) with ⟨⟨j, hj, h⟩, -⟩ | ⟨-, h⟩
    · exact absurd (Finset.mem_image.mpr ⟨j, Finset.mem_range.mpr hj, h⟩) hn
    · exact h.trans (dif_pos e.isLt)
  intro h
  have := Finset.le_sup (f := lanes (padded L) i) (Finset.mem_univ (e.castLE (by decide)))
  rw [hw, show Finset.univ.sup (lanes (padded L) i) = ⊥ from h] at this
  exact hL e (le_bot_iff.mp this)

/-- The lane taken in round `i` is none of those before it, and is an expert's. -/
theorem taken_spec (i : ℕ) (hi : i < 4) :
    (∀ j < i, taken (lanes (padded L) j) ≠ taken (lanes (padded L) i)) ∧
      ∃ h : (taken (lanes (padded L) i)).val < 32, most (lanes (padded L) i) = L ⟨_, h⟩ := by
  have hm := taken_most (lanes (padded L) i)
  rcases lanes_eq (padded L) i (taken (lanes (padded L) i)) with ⟨-, h⟩ | ⟨hn, h⟩
  · exact absurd (hm.symm.trans h) (round_ne_bot L hL i hi)
  · refine ⟨hn, ?_⟩
    have hp := hm.symm.trans h
    by_cases hlt : (taken (lanes (padded L) i)).val < 32
    · exact ⟨hlt, hp.trans (dif_pos hlt)⟩
    · exact absurd (hp.trans (dif_neg hlt)) (round_ne_bot L hL i hi)

/-- The expert taken in round `i`. -/
noncomputable def expert (i : Fin 4) : Fin 32 := ⟨_, (taken_spec L hL i i.isLt).2.1⟩

theorem most_expert (i : Fin 4) : most (lanes (padded L) i) = L (expert L hL i) := (taken_spec L hL i i.isLt).2.2

theorem expert_injective : Function.Injective (expert L hL) := by
  have lt : ∀ i j : Fin 4, i < j → expert L hL i ≠ expert L hL j := fun i j hij h =>
    (taken_spec L hL j j.isLt).1 i hij (Fin.ext (show (expert L hL i).val = (expert L hL j).val from congrArg Fin.val h))
  intro i j h
  rcases lt_trichotomy i j with hij | hij | hij
  · exact absurd h (lt i j hij)
  · exact hij
  · exact absurd h.symm (lt j i hij)

/-- An expert not taken before round `i` is not ahead of the one taken in it. -/
theorem not_ahead (i : Fin 4) (e : Fin 32) (h : ∀ j < i, expert L hL j ≠ e) : ahead L e (expert L hL i) = false := by
  have hw : lanes (padded L) i (e.castLE (by decide)) = L e := by
    rcases lanes_eq (padded L) i (e.castLE (by decide)) with ⟨⟨j, hj, hje⟩, -⟩ | ⟨-, h⟩
    · exact absurd (Fin.ext (show (taken (lanes (padded L) j)).val = e.val from congrArg Fin.val hje)) (h ⟨j, hj.trans i.isLt⟩ hj)
    · exact h.trans (dif_pos e.isLt)
  rw [ahead_false]
  refine ⟨?_, fun he => ?_⟩
  · rw [← most_expert L hL i, ← hw]
    exact Finset.le_sup (f := lanes (padded L) i) (Finset.mem_univ _)
  · exact taken_le (lanes (padded L) i) (e.castLE (by decide)) (hw.trans (he.trans (most_expert L hL i).symm))

/-- The four rounds take the first four of the stable sort. -/
theorem chosen_eq (i : Fin 4) : chosen L i = expert L hL i := by
  unfold chosen
  rw [sorted_ahead]
  refine (ahead_total L).sortedFrom_eq_of_prefix (by decide) (expert L hL) (expert_injective L hL)
    (fun i j hij => not_ahead L hL i _ fun k hk h => ?_) (fun i p hp => not_ahead L hL i p fun j _ => hp j) i
  exact absurd (expert_injective L hL h) (hk.trans hij).ne

/-- A round's greatest lane is the chosen expert's logit. -/
theorem most_lanes (i : ℕ) (hi : i < 4) : most (lanes (padded L) i) = L (chosen L ⟨i, hi⟩) := by
  rw [chosen_eq L hL ⟨i, hi⟩]
  exact most_expert L hL ⟨i, hi⟩

/-- A round's lane is the chosen expert's. -/
theorem first_lanes (i : ℕ) (hi : i < 4) (l : Fin 128) :
    BitVec.ofNat 32 l.val = first (lanes (padded L) i) ↔ l.val = (chosen L ⟨i, hi⟩).val := by
  rw [first_iff, chosen_eq L hL ⟨i, hi⟩]
  exact ⟨fun h => by rw [h]; rfl, fun h => Fin.ext h⟩

theorem chosen_injective : Function.Injective (chosen L) := fun i j h => by
  rw [chosen_eq L hL i, chosen_eq L hL j] at h
  exact expert_injective L hL h

/-- The first of the chosen logits is the greatest of them. -/
theorem le_chosen (i : Fin 4) : L (chosen L i) ≤ L (chosen L 0) := by
  have h := not_ahead L hL 0 (chosen L i) fun j hj => absurd hj (Fin.not_lt_zero j)
  rw [← chosen_eq L hL 0] at h
  exact ((ahead_false L _ _).mp h).1

omit hL

/-- The exponential of a round's logit over the first one's. -/
noncomputable def weight (w : Fin 128 → EReal) (i : ℕ) : EReal := Ideal.exp (most (lanes w i) - most (lanes w 0))

noncomputable def total (w : Fin 128 → EReal) : EReal := weight w 0 + weight w 1 + weight w 2 + weight w 3

/-- What the kernel writes into a lane: its share where it was taken, zero where it was not. -/
noncomputable def share (w : Fin 128 → EReal) (l : Fin 128) : EReal :=
  if BitVec.ofNat 32 l.val = first (lanes w 3) then Ideal.div (weight w 3) (total w)
  else if BitVec.ofNat 32 l.val = first (lanes w 2) then Ideal.div (weight w 2) (total w)
  else if BitVec.ofNat 32 l.val = first (lanes w 1) then Ideal.div (weight w 1) (total w)
  else if BitVec.ofNat 32 l.val = first (lanes w 0) then Ideal.div (weight w 0) (total w)
  else 0

/-- The softmax of the four chosen logits. -/
noncomputable def chance (i : Fin 4) : EReal :=
  Ideal.div (Ideal.exp (L (chosen L i) - Finset.univ.sup fun k : Fin 4 => L (chosen L k)))
    (∑ j : Fin 4, Ideal.exp (L (chosen L j) - Finset.univ.sup fun k : Fin 4 => L (chosen L k)))

include hL

/-- The kernel's shares are the sum, over the four chosen, of each one's softmax at its own expert. -/
theorem share_eq (l : Fin 128) :
    share (padded L) l = ∑ i : Fin 4, if l.val = (chosen L i).val then chance L i else 0 := by
  have hsup : (Finset.univ.sup fun k : Fin 4 => L (chosen L k)) = L (chosen L 0) :=
    le_antisymm (Finset.sup_le fun i _ => le_chosen L hL i) (Finset.le_sup (f := fun k : Fin 4 => L (chosen L k)) (Finset.mem_univ 0))
  have hw : ∀ (i : ℕ) (hi : i < 4), weight (padded L) i = Ideal.exp (L (chosen L ⟨i, hi⟩) - L (chosen L 0)) := fun i hi => by
    rw [weight, most_lanes L hL i hi, most_lanes L hL 0 (by omega)]
    rfl
  have ht : total (padded L) = ∑ j : Fin 4, Ideal.exp (L (chosen L j) - L (chosen L 0)) := by
    rw [Fin.sum_univ_four, total, hw 0 (by omega), hw 1 (by omega), hw 2 (by omega), hw 3 (by omega)]
    rfl
  have hc : ∀ (i : ℕ) (hi : i < 4), Ideal.div (weight (padded L) i) (total (padded L)) = chance L ⟨i, hi⟩ := fun i hi => by
    rw [chance, hsup, hw i hi, ht]
  have ne : ∀ i j : Fin 4, i ≠ j → l.val = (chosen L i).val → l.val ≠ (chosen L j).val := fun i j hij hi hj =>
    hij (chosen_injective L hL (Fin.ext (hi.symm.trans hj)))
  have f := fun (i : ℕ) (hi : i < 4) => propext (first_lanes L hL i hi l)
  unfold share
  simp only [f 0 (by omega), f 1 (by omega), f 2 (by omega), f 3 (by omega), hc 0 (by omega), hc 1 (by omega), hc 2 (by omega),
    hc 3 (by omega)]
  rw [Fin.sum_univ_four]
  generalize chance L = c
  show (if l.val = (chosen L 3).val then c 3 else if l.val = (chosen L 2).val then c 2 else if l.val = (chosen L 1).val then c 1
    else if l.val = (chosen L 0).val then c 0 else 0) = _
  by_cases h3 : l.val = (chosen L 3).val
  · rw [if_pos h3, if_neg (ne 3 0 (by decide) h3), if_neg (ne 3 1 (by decide) h3), if_neg (ne 3 2 (by decide) h3), if_pos h3]
    simp
  rw [if_neg h3, if_neg h3]
  by_cases h2 : l.val = (chosen L 2).val
  · rw [if_pos h2, if_neg (ne 2 0 (by decide) h2), if_neg (ne 2 1 (by decide) h2), if_pos h2]
    simp
  rw [if_neg h2, if_neg h2]
  by_cases h1 : l.val = (chosen L 1).val
  · rw [if_pos h1, if_neg (ne 1 0 (by decide) h1), if_pos h1]
    simp
  rw [if_neg h1, if_neg h1]
  simp

end Cert.Kernel5Ideal.RoutingProof
-- ==== Proof.RoutingRows.lean ====
/-
  THE MIXING AND THE ROUTING, ROW BY ROW, over the extended reals: what both programs compute of one batch entry, from its rows.

  A token's two branches are multiplied by their weights, gated and multiplied by the output weights (`mixed`), and added,
  scaled, to the token (`after`). That row is normalised, scaled and shifted (`normed`); its product with the router's
  weights, plus the bias, is the experts' logits (`logit`), and the gates are the softmax of the first four (`gate`). With a
  finite gain, scale, shift, router weight and bias the normalised row and the logits are finite, whatever the tokens are.
-/
module

public import proofs.«01_k».proof.Proof.InputRows
public import proofs.«01_k».proof.Proof.RoutingChoice

@[expose] public section

noncomputable section

namespace Cert.Routing

open Idealize.ShloMosaic
open Cert.Kernel5Ideal.RoutingProof

/-- What a batch entry's rows are computed from. -/
structure Entry where
  /-- the tokens -/
  x : Fin 8192 → Fin 1024 → EReal
  /-- the first branch, a product of two, and the second -/
  x0 : Fin 8192 → Fin 512 → EReal
  yc : Fin 8192 → Fin 512 → EReal
  ya : Fin 8192 → Fin 512 → EReal
  /-- the branches' gates -/
  gh : Fin 8192 → Fin 1024 → EReal
  ga : Fin 8192 → Fin 1024 → EReal
  /-- the modulation's six rows -/
  m : Fin 6 → Fin 1024 → EReal
  /-- the branches' weights and the output's -/
  wh : Fin 512 → Fin 1024 → EReal
  wa : Fin 512 → Fin 1024 → EReal
  wo : Fin 1024 → Fin 1024 → EReal
  /-- the norm's gain -/
  gain : Fin 1024 → EReal
  /-- the router's weights and bias -/
  w : Fin 1024 → Fin 32 → EReal
  b : Fin 32 → EReal

namespace Entry

variable (E : Entry)

/-- The two branches, each gated. -/
def mixed (s : Fin 8192) (k : Fin 1024) : EReal :=
  Ideal.logistic (E.gh s k) * (∑ l, E.x0 s l * E.yc s l * E.wh l k) + Ideal.logistic (E.ga s k) * ∑ l, E.ya s l * E.wa l k

/-- The token with the branches' output. -/
def after (s : Fin 8192) (k : Fin 1024) : EReal := E.x s k + E.m 2 k * ∑ l, E.mixed s l * E.wo l k

/-- Its norm, scaled and shifted. -/
def normed (s : Fin 8192) : Fin 1024 → EReal := Input.norm (E.after s) E.gain (E.m 4) (E.m 3)

/-- The experts' logits. -/
def logit (s : Fin 8192) (e : Fin 32) : EReal := (∑ k, E.normed s k * E.w k e) + E.b e

/-- The gates: at an expert of the first four its softmax, elsewhere zero. -/
def gate (s : Fin 8192) (l : Fin 128) : EReal :=
  ∑ i : Fin 4, if l.val = (chosen (E.logit s) i).val then chance (E.logit s) i else 0

end Entry

/-! ### Finite rows -/

/-- A finite number. -/
def Real (x : EReal) : Prop := x ≠ ⊤ ∧ x ≠ ⊥

theorem Real.coe {x : EReal} (h : Real x) : ∃ r : ℝ, x = r := ⟨x.toReal, (EReal.coe_toReal h.1 h.2).symm⟩
theorem real_coe (r : ℝ) : Real r := ⟨EReal.coe_ne_top r, EReal.coe_ne_bot r⟩

theorem Real.add {x y : EReal} (hx : Real x) (hy : Real y) : Real (x + y) := by
  obtain ⟨a, rfl⟩ := hx.coe
  obtain ⟨b, rfl⟩ := hy.coe
  rw [← EReal.coe_add]
  exact real_coe _

theorem Real.mul {x y : EReal} (hx : Real x) (hy : Real y) : Real (x * y) := by
  obtain ⟨a, rfl⟩ := hx.coe
  obtain ⟨b, rfl⟩ := hy.coe
  rw [← EReal.coe_mul]
  exact real_coe _

theorem Real.sum {ι : Type} (s : Finset ι) (f : ι → EReal) (h : ∀ i, Real (f i)) : Real (∑ i ∈ s, f i) := by
  classical
  refine Finset.induction_on s ?_ fun a s ha ih => ?_
  · rw [Finset.sum_empty]; exact real_coe 0
  · rw [Finset.sum_insert ha]; exact (h a).add ih

theorem Real.sub_self {x : EReal} (h : Real x) : x - x = 0 := by
  obtain ⟨a, rfl⟩ := h.coe
  rw [← EReal.coe_sub, _root_.sub_self]
  rfl

/-- The norm's two literals are positive. -/
theorem length_word : ∃ r : ℝ, 0 < r ∧ Ideal.ofBits .f32 0x44800000#32 = r := by
  refine ⟨8388608 * (2 ^ 13)⁻¹, by positivity, ?_⟩
  rw [EReal.coe_mul]
  simp [Ideal.ofBits, Ideal.ieee]
theorem eps_word : ∃ r : ℝ, 0 < r ∧ Ideal.ofBits .f32 0x358637BD#32 = r := by
  refine ⟨8796093 * (2 ^ 43)⁻¹, by positivity, ?_⟩
  rw [EReal.coe_mul]
  simp [Ideal.ofBits, Ideal.ieee]

theorem square_nonneg (x : EReal) : 0 ≤ x * x := by
  induction x with
  | bot => simp
  | coe r => rw [← EReal.coe_mul]; exact_mod_cast mul_self_nonneg r
  | top => simp

/-- An element over the root of the mean square is finite: of a row with an infinity the mean square is infinite, and the
    reciprocal of its root zero. -/
theorem real_unit (x : Fin 1024 → EReal) (k : Fin 1024) : Real (Input.unit (Ideal.ofBits .f32 0x44800000#32) x k) := by
  obtain ⟨n, hn, en⟩ := length_word
  obtain ⟨e, he, ee⟩ := eps_word
  unfold Input.unit
  rw [en, ee]
  have hdiv : ∀ z : EReal, Ideal.div z n = z * ((n⁻¹ : ℝ) : EReal) := fun z => by
    rw [Ideal.div, if_neg (by exact_mod_cast hn.ne'), EReal.coe_inv]
  rw [hdiv]
  by_cases h : ∀ l, Real (x l)
  · obtain ⟨s, hs⟩ := (Real.sum Finset.univ (fun l => x l * x l) fun l => (h l).mul (h l)).coe
    have hs0 : 0 ≤ s := by
      have : (0 : EReal) ≤ ∑ l, x l * x l := Finset.sum_nonneg fun l _ => square_nonneg (x l)
      rw [hs] at this
      exact_mod_cast this
    rw [hs, ← EReal.coe_mul, ← EReal.coe_add, Ideal.rsqrt_coe]
    have hp : 0 < s * n⁻¹ + e := by positivity
    rw [if_neg (not_lt.mpr hp.le), if_neg hp.ne']
    exact (h k).mul (real_coe _)
  · push Not at h
    obtain ⟨l, hl⟩ := h
    have htop : x l * x l = ⊤ := by
      by_cases ht : x l = ⊤
      · rw [ht]; rfl
      · by_cases hb : x l = ⊥
        · rw [hb]; rfl
        · exact absurd ⟨ht, hb⟩ hl
    have hs : ∑ l, x l * x l = ⊤ :=
      top_le_iff.mp (htop.ge.trans (Finset.single_le_sum (fun l _ => square_nonneg (x l)) (Finset.mem_univ l)))
    rw [hs, EReal.top_mul_coe_of_pos (by positivity), EReal.top_add_coe, Ideal.rsqrt_top, mul_zero]
    exact real_coe 0

namespace Entry

/-- The gain, the norm's scale and shift, and the router's weights and bias are finite. -/
structure Finite (E : Entry) : Prop where
  gain : ∀ k, Real (E.gain k)
  scale : ∀ k, Real (E.m 4 k)
  shift : ∀ k, Real (E.m 3 k)
  w : ∀ k e, Real (E.w k e)
  b : ∀ e, Real (E.b e)

variable {E : Entry} (h : E.Finite)
include h

theorem Finite.normed (s : Fin 8192) (k : Fin 1024) : Real (E.normed s k) :=
  (((real_unit (E.after s) k).mul (h.gain k)).mul ((real_coe 1).add (h.scale k))).add (h.shift k)

theorem Finite.logit (s : Fin 8192) (e : Fin 32) : Real (E.logit s e) :=
  (Real.sum _ _ fun k => (h.normed s k).mul (h.w k e)).add (h.b e)

/-- The kernel's logit: it multiplies the rounded row with the rounded weights and with their rounding error, and the row's
    rounding error with the rounded weights; over the reals the errors are zero. -/
theorem Finite.split (s : Fin 8192) (e : Fin 32) :
    (∑ k, E.normed s k * E.w k e) + ((∑ k, E.normed s k * (E.w k e - E.w k e))
      + ∑ k, (E.normed s k - E.normed s k) * E.w k e) + E.b e = E.logit s e := by
  have h1 : (∑ k, E.normed s k * (E.w k e - E.w k e)) = 0 :=
    Finset.sum_eq_zero fun k _ => by rw [(h.w k e).sub_self, mul_zero]
  have h2 : (∑ k, (E.normed s k - E.normed s k) * E.w k e) = 0 :=
    Finset.sum_eq_zero fun k _ => by rw [(h.normed s k).sub_self, zero_mul]
  rw [h1, h2, add_zero, add_zero]
  rfl

/-- The four rounds on the logits, −∞ in the lanes past them, give the gates. -/
theorem Finite.share (s : Fin 8192) (l : Fin 128) : share (padded (E.logit s)) l = E.gate s l :=
  share_eq (E.logit s) (fun e => (h.logit s e).2) l

end Entry

end Cert.Routing

end
-- ==== Proof.RoutingPieces.lean ====
/-
  THE PIECES OF THE ROUTING'S KERNEL. A block holds 1024 tokens and is worked in two runs of 512, by the same operations: each
  run's values are `mixedRun`, `afterRun`, `normedRun`, `logitRun` and `shareRun` of what it reads (`first_…`, `second_…`). Over
  the extended reals each is read at an index.
-/
module

public import proofs.«01_k».proof.Proof.RoutingRows
public import proofs.«01_k».proof.Proof.Gen.Kernel5Ideal.Frame

@[expose] public section

set_option maxRecDepth 16384

noncomputable section

namespace Cert.Kernel5Ideal.Pieces

open Cert.Kernel5Ideal Cert.Kernel5Ideal.Gen Cert.Kernel5Ideal.RoutingProof
open Idealize.ShloMosaic Idealize.ShloMosaic.TcCoe Idealize.SL.Sem
open Cert.Routing (Entry)

section Any
variable {F : FTy → Type} [FloatOps F] [Named F]

/-- The lanes' numbers. -/
def laneRun : IVec S512x128 32 := iota .tc S512x128 32 [1] iota_S512x128_d1_w32

/-- The greatest of each row. -/
def mostRun (w : FVec F S512x128 .f32) : FVec F S512x1 .f32 :=
  shapeCast S512x1 (multiReduction .maximumf [1] S512 w 0xFF800000#32 reduces_S512x128_S512 (.inl rfl) rfl) shapeCasts_S512_S512x1

/-- The number of the first lane that holds it. -/
def firstRun (w : FVec F S512x128 .f32) : IVec S512x1 32 :=
  shapeCast S512x1 (multiReductionI .minsi [1] S512
    (select (cmpf .oeq w (broadcastTo S512x128 (mostRun w) broadcasts_S512x1_S512x128)) laneRun (broadcast S512x128 128#32))
    2147483647#32 reduces_S512x128_S512 rfl) shapeCasts_S512_S512x1

/-- Whether a lane is that one. -/
def hotRun (w : FVec F S512x128 .f32) : IVec S512x128 1 :=
  cmpi .eq laneRun (broadcastTo S512x128 (firstRun w) broadcasts_S512x1_S512x128)

/-- The lanes with −∞ over it. -/
def restRun (w : FVec F S512x128 .f32) : FVec F S512x128 .f32 :=
  select (hotRun w) (broadcast S512x128 (Scalar.ofBits .f32 0xFF800000#32)) w

/-- A round's weight, and its share at the lane it takes, over what the rounds before leave. -/
def weightRun (w v : FVec F S512x128 .f32) : FVec F S512x1 .f32 := exp (subf (mostRun v) (mostRun w))
def totalRun (w : FVec F S512x128 .f32) : FVec F S512x1 .f32 :=
  addf (addf (addf (weightRun w w) (weightRun w (restRun w))) (weightRun w (restRun (restRun w))))
    (weightRun w (restRun (restRun (restRun w))))
def putRun (w v u : FVec F S512x128 .f32) : FVec F S512x128 .f32 :=
  select (hotRun v) (broadcastTo S512x128 (shapeCast S512x1 (divf (weightRun w v) (totalRun w)) shapeCasts_S512x1_S512x1)
    broadcasts_S512x1_S512x128) u

/-- The shares. -/
def shareRun (w : FVec F S512x128 .f32) : FVec F S512x128 .f32 :=
  putRun w (restRun (restRun (restRun w))) (putRun w (restRun (restRun w)) (putRun w (restRun w)
    (putRun w w (broadcast S512x128 (Scalar.ofBits .f32 0x00000000#32)))))

section Runs
variable (x0 : Vec F S1x1024x1024 .f32) (x1 x2 x3 : Vec F S1x1024x512 .bf16) (x4 x5 : Vec F S1x1024x1024 .bf16)
  (x6 : Vec F S1x6x1024 .f32) (x7 x8 : Vec F S512x1024 .bf16) (x9 : Vec F S1024x1024 .bf16) (x10 : Vec F S1x1024 .f32)
  (x11 : Vec F S1024x128 .bf16) (x12 : Vec F S1x128 .f32)

/-- A run's output of the branches, from the pieces of the blocks it reads. -/
def mixedRun (a b y : Vec F S1x512x512 .bf16) (g h : Vec F S1x512x1024 .bf16) : FVec F S512x1024 .f32 :=
  k0_pay2 a b (View.ld x7 r0_1) y (View.ld x8 r0_1) g h (View.ld x9 r0_3)

def afterRun (v : FVec F S512x1024 .f32) (x : Vec F S1x512x1024 .f32) : FVec F S512x1024 .f32 :=
  k0_pay3 v x (View.ld x6 r0_4)

def normedRun (v : FVec F S512x1024 .f32) (x : Vec F S1x512x1024 .f32) : FVec F S512x1024 .f32 :=
  k0_pay5 v x (View.ld x6 r0_4) (View.ld x10 r0_5) (View.ld x6 r0_6) (View.ld x6 r0_7)

def logitRun (n : FVec F S512x1024 .f32) : FVec F S512x128 .f32 :=
  k0_pay8 n (truncf .bf16 n bitsLt_bf16_f32) (View.ld x11 r0_8) (View.ld x11 r0_8) (View.ld x12 r0_9)

/-- The first run's mixed branches and normed rows, and the second's. -/
def mixedFirst := mixedRun x7 x8 x9 (View.ld x1 r0_0) (View.ld x2 r0_0) (View.ld x3 r0_0) (View.ld x4 r0_2) (View.ld x5 r0_2)
def mixedSecond := mixedRun x7 x8 x9 (View.ld x1 r0_11) (View.ld x2 r0_11) (View.ld x3 r0_11) (View.ld x4 r0_12) (View.ld x5 r0_12)
def normedFirst := normedRun x6 x10 (mixedFirst x1 x2 x3 x4 x5 x7 x8 x9) (View.ld x0 r0_2)
def normedSecond := normedRun x6 x10 (mixedSecond x1 x2 x3 x4 x5 x7 x8 x9) (View.ld x0 r0_12)

/-- The three results' blocks, as the two runs' pieces. -/
theorem out_after : out0_13 x0 x1 x2 x3 x4 x5 x6 x7 x8 x9 x10 x11 x12
    = View.canon [⟨r0_12, shapeCast S1x512x1024 (afterRun x6 (mixedSecond x1 x2 x3 x4 x5 x7 x8 x9) (View.ld x0 r0_12)) shapeCasts_S512x1024_S1x512x1024⟩,
      ⟨r0_2, shapeCast S1x512x1024 (afterRun x6 (mixedFirst x1 x2 x3 x4 x5 x7 x8 x9) (View.ld x0 r0_2)) shapeCasts_S512x1024_S1x512x1024⟩] := rfl

theorem out_normed : out0_14 x0 x1 x2 x3 x4 x5 x6 x7 x8 x9 x10 x11 x12
    = View.canon [⟨r0_12, shapeCast S1x512x1024 (truncf .bf16 (normedSecond x0 x1 x2 x3 x4 x5 x6 x7 x8 x9 x10) bitsLt_bf16_f32) shapeCasts_S512x1024_S1x512x1024⟩,
      ⟨r0_2, shapeCast S1x512x1024 (truncf .bf16 (normedFirst x0 x1 x2 x3 x4 x5 x6 x7 x8 x9 x10) bitsLt_bf16_f32) shapeCasts_S512x1024_S1x512x1024⟩] := rfl

theorem out_share : out0_15 x0 x1 x2 x3 x4 x5 x6 x7 x8 x9 x10 x11 x12
    = View.canon [⟨r0_13, shapeCast S1x512x128 (shareRun (logitRun x11 x12 (normedSecond x0 x1 x2 x3 x4 x5 x6 x7 x8 x9 x10))) shapeCasts_S512x128_S1x512x128⟩,
      ⟨r0_10, shapeCast S1x512x128 (shareRun (logitRun x11 x12 (normedFirst x0 x1 x2 x3 x4 x5 x6 x7 x8 x9 x10))) shapeCasts_S512x128_S1x512x128⟩] := rfl

end Runs

end Any

/-! ### Over the extended reals, at an index -/

/-- The number the lanes past the experts hold is read as −∞. -/
theorem no_expert : (Named.named κ "no_expert" 0xF149F2CA#32 : Ideal .f32) = ⊥ := by
  rfl

/-- A row of a run. -/
def row (w : FVec Ideal S512x128 .f32) (r : Fin 512) : Fin 128 → EReal := fun l => w (ix2 r l)

theorem bot_word : Ideal.ofBits .f32 0xFF800000#32 = ⊥ := by simp [Ideal.ofBits, Ideal.ieee]

theorem mostRun_apply (w : FVec Ideal S512x128 .f32) (r : Fin 512) : mostRun w (ix2 r 0) = most (row w r) := by
  pointwise [mostRun]
  rw [bot_word]
  rfl

theorem firstRun_apply (w : FVec Ideal S512x128 .f32) (r : Fin 512) : firstRun w (ix2 r 0) = first (row w r) := by
  pointwise [firstRun, laneRun]
  rw [mostRun_apply]
  rfl

theorem hotRun_apply (w : FVec Ideal S512x128 .f32) (r : Fin 512) (l : Fin 128) :
    hotRun w (ix2 r l) = BitVec.ofBool (decide (BitVec.ofNat 32 l.val = first (row w r))) := by
  pointwise [hotRun, laneRun]
  rw [firstRun_apply]
  by_cases h : BitVec.ofNat 32 l.val = first (row w r)
  · rw [decide_eq_true h, h]
    show BitVec.ofBool (_ == _) = _
    rw [beq_self_eq_true]
  · rw [decide_eq_false h]
    show BitVec.ofBool (_ == _) = _
    rw [beq_eq_false_iff_ne.mpr h]

/-- A choice by a lane's being the one taken. -/
theorem select_hot (w : FVec Ideal S512x128 .f32) (r : Fin 512) (l : Fin 128) (a b : EReal) :
    Scalar.select (hotRun w (ix2 r l)) a b = if BitVec.ofNat 32 l.val = first (row w r) then a else b := by
  rw [hotRun_apply]
  by_cases h : BitVec.ofNat 32 l.val = first (row w r)
  · rw [decide_eq_true h, if_pos h]; rfl
  · rw [decide_eq_false h, if_neg h]; rfl

theorem restRun_row (w : FVec Ideal S512x128 .f32) (r : Fin 512) : row (restRun w) r = rest (row w r) := by
  funext l
  have h : row (restRun w) r l = Scalar.select (hotRun w (ix2 r l)) (Ideal.ofBits .f32 0xFF800000#32) (w (ix2 r l)) := rfl
  rw [h, select_hot, bot_word]
  rfl

theorem weightRun_apply (w v : FVec Ideal S512x128 .f32) (r : Fin 512) :
    weightRun w v (ix2 r 0) = Ideal.exp (most (row v r) - most (row w r)) := by
  pointwise [weightRun]
  rw [mostRun_apply, mostRun_apply]

theorem totalRun_apply (w : FVec Ideal S512x128 .f32) (r : Fin 512) : totalRun w (ix2 r 0) = total (row w r) := by
  pointwise [totalRun]
  rw [weightRun_apply, weightRun_apply, weightRun_apply, weightRun_apply]
  simp only [restRun_row]
  rfl

theorem putRun_apply (w v u : FVec Ideal S512x128 .f32) (r : Fin 512) (l : Fin 128) : putRun w v u (ix2 r l)
    = if BitVec.ofNat 32 l.val = first (row v r) then Ideal.div (Ideal.exp (most (row v r) - most (row w r))) (total (row w r))
      else u (ix2 r l) := by
  have h : putRun w v u (ix2 r l)
      = Scalar.select (hotRun v (ix2 r l)) (Ideal.div (weightRun w v (ix2 r 0)) (totalRun w (ix2 r 0))) (u (ix2 r l)) := by
    pointwise [putRun]
  rw [h, select_hot, weightRun_apply, totalRun_apply]

/-- The shares are what the four rounds on the row leave. -/
theorem shareRun_apply (w : FVec Ideal S512x128 .f32) (r : Fin 512) (l : Fin 128) : shareRun w (ix2 r l) = share (row w r) l := by
  have h0 : (broadcast S512x128 (Scalar.ofBits (F := Ideal) .f32 0x00000000#32) : FVec Ideal S512x128 .f32) (ix2 r l) = 0 := by
    pointwise []
  unfold shareRun
  rw [putRun_apply, putRun_apply, putRun_apply, putRun_apply, h0]
  simp only [restRun_row]
  rfl

theorem mixedRun_apply (x7 x8 : Vec Ideal S512x1024 .bf16) (x9 : Vec Ideal S1024x1024 .bf16) (a b y : Vec Ideal S1x512x512 .bf16)
    (g h : Vec Ideal S1x512x1024 .bf16) (r : Fin 512) (k : Fin 1024) :
    mixedRun x7 x8 x9 a b y g h (ix2 r k) = ∑ l, (Ideal.logistic (g (ix3 0 r l)) * (∑ j, a (ix3 0 r j) * b (ix3 0 r j) * x7 (ix2 j l))
      + Ideal.logistic (h (ix3 0 r l)) * ∑ j, y (ix3 0 r j) * x8 (ix2 j l)) * x9 (ix2 l k) := by
  pointwise [mixedRun, k0_pay2]

theorem afterRun_apply (x6 : Vec Ideal S1x6x1024 .f32) (v : FVec Ideal S512x1024 .f32) (x : Vec Ideal S1x512x1024 .f32) (r : Fin 512)
    (k : Fin 1024) : afterRun x6 v x (ix2 r k) = x (ix3 0 r k) + x6 (ix3 0 2 k) * v (ix2 r k) := by
  pointwise [afterRun, k0_pay3]

theorem normedRun_apply (x6 : Vec Ideal S1x6x1024 .f32) (x10 : Vec Ideal S1x1024 .f32) (v : FVec Ideal S512x1024 .f32)
    (x : Vec Ideal S1x512x1024 .f32) (r : Fin 512) (k : Fin 1024) :
    normedRun x6 x10 v x (ix2 r k) = Input.norm (fun l => afterRun x6 v x (ix2 r l)) (fun l => x10 (ix2 0 l)) (fun l => x6 (ix3 0 4 l))
      (fun l => x6 (ix3 0 3 l)) k := by
  pointwise [normedRun, afterRun, k0_pay5, k0_pay3]
  rfl

theorem logitRun_apply (x11 : Vec Ideal S1024x128 .bf16) (x12 : Vec Ideal S1x128 .f32) (n : FVec Ideal S512x1024 .f32) (r : Fin 512)
    (l : Fin 128) : logitRun x11 x12 n (ix2 r l)
      = if l.val < 32 then (∑ k, n (ix2 r k) * x11 (ix2 k l))
        + ((∑ k, n (ix2 r k) * x11 (ix2 k (⟨(l.val + 128 - 96) % 128, Nat.mod_lt _ (by norm_num)⟩ : Fin 128)))
          + ∑ k, (n (ix2 r k) - n (ix2 r k)) * x11 (ix2 k l)) + x12 (ix2 0 l) else ⊥ := by
  pointwise [logitRun, k0_pay8]
  have hw : IntOp.cmpi .slt (BitVec.ofNat 32 l.val) 32#32 = BitVec.ofBool (decide (l.val < 32)) := by
    revert l; decide +kernel
  have hn : (Named.named κ "no_expert" 0xF149F2CA#32 : Ideal .f32) = ⊥ := no_expert
  rw [hw, hn]
  by_cases h : l.val < 32
  · rw [decide_eq_true h, if_pos h]; rfl
  · rw [decide_eq_false h, if_neg h]; rfl

end Cert.Kernel5Ideal.Pieces

end
-- ==== Proof.RoutingBlock.lean ====
/-
  WHAT A POINT OF THE ROUTING'S GRID LEAVES IN ITS BUFFERS, over the extended reals. A point reads 1024 tokens of a batch entry
  (`Reads`), in two runs of 512 (`Slice`); what it leaves in each result's buffer is that result at those tokens.
-/
module

public import proofs.«01_k».proof.Proof.RoutingPieces
public import Idealize.ShloMosaic.Lib.Pipeline.Value
public import Idealize.ShloMosaic.Lib.Pipeline.ValueKit.Tiles

@[expose] public section

set_option maxRecDepth 16384

noncomputable section

namespace Cert.Kernel5Ideal.Block

open Cert.Kernel5Ideal Cert.Kernel5Ideal.Gen Cert.Kernel5Ideal.Pieces Cert.Kernel5Ideal.RoutingProof
open Idealize.ShloMosaic Idealize.ShloMosaic.TcCoe Idealize.SL.Sem
open Cert.Routing (Entry)

/-- The point's block of tokens is one of eight. -/
theorem block_lt (i : grid0.Coords) : (i 1).val < 8 := (i 1).isLt

/-- The token of the entry that a row of the block is. -/
def token (i : grid0.Coords) (r : Fin 1024) : Fin 8192 := ⟨1024 * (i 1).val + r.val, by have := block_lt i; omega⟩

theorem at_eq (i : grid0.Coords) {n : ℕ} (f : Fin 8192 → Fin n → EReal) {r r' : Fin 1024} {c c' : Fin n} (hr : r.val = r'.val)
    (hc : c.val = c'.val) : f (token i r) c = f (token i r') c' := by
  rw [Fin.ext hr, Fin.ext hc]

/-- The blocks of point `i`, as parts of the batch entry `E`. A weight's rounding error is its difference with itself. -/
structure Reads (E : Entry) (i : grid0.Coords) (x0 : Vec Ideal S1x1024x1024 .f32) (x1 x2 x3 : Vec Ideal S1x1024x512 .bf16)
    (x4 x5 : Vec Ideal S1x1024x1024 .bf16) (x6 : Vec Ideal S1x6x1024 .f32) (x7 x8 : Vec Ideal S512x1024 .bf16)
    (x9 : Vec Ideal S1024x1024 .bf16) (x10 : Vec Ideal S1x1024 .f32) (x11 : Vec Ideal S1024x128 .bf16)
    (x12 : Vec Ideal S1x128 .f32) : Prop where
  x : ∀ r k, x0 (ix3 0 r k) = E.x (token i r) k
  x0 : ∀ r k, x1 (ix3 0 r k) = E.x0 (token i r) k
  yc : ∀ r k, x2 (ix3 0 r k) = E.yc (token i r) k
  ya : ∀ r k, x3 (ix3 0 r k) = E.ya (token i r) k
  gh : ∀ r k, x4 (ix3 0 r k) = E.gh (token i r) k
  ga : ∀ r k, x5 (ix3 0 r k) = E.ga (token i r) k
  m : ∀ z k, x6 (ix3 0 z k) = E.m z k
  wh : ∀ l k, x7 (ix2 l k) = E.wh l k
  wa : ∀ l k, x8 (ix2 l k) = E.wa l k
  wo : ∀ l k, x9 (ix2 l k) = E.wo l k
  gain : ∀ k, x10 (ix2 0 k) = E.gain k
  w : ∀ k (l : Fin 128) (e : Fin 32), l.val = e.val → x11 (ix2 k l) = E.w k e
  wlow : ∀ k (l : Fin 128) (e : Fin 32), l.val = 32 + e.val → x11 (ix2 k l) = E.w k e - E.w k e
  b : ∀ (l : Fin 128) (e : Fin 32), l.val = e.val → x12 (ix2 0 l) = E.b e

/-- A run's pieces, at the tokens `s`. -/
structure Slice (E : Entry) (s : Fin 512 → Fin 8192) (a b y : Vec Ideal S1x512x512 .bf16) (g h : Vec Ideal S1x512x1024 .bf16)
    (x : Vec Ideal S1x512x1024 .f32) : Prop where
  x : ∀ r k, x (ix3 0 r k) = E.x (s r) k
  x0 : ∀ r k, a (ix3 0 r k) = E.x0 (s r) k
  yc : ∀ r k, b (ix3 0 r k) = E.yc (s r) k
  ya : ∀ r k, y (ix3 0 r k) = E.ya (s r) k
  gh : ∀ r k, g (ix3 0 r k) = E.gh (s r) k
  ga : ∀ r k, h (ix3 0 r k) = E.ga (s r) k

variable {E : Entry} {i : grid0.Coords} {x0 : Vec Ideal S1x1024x1024 .f32} {x1 x2 x3 : Vec Ideal S1x1024x512 .bf16}
  {x4 x5 : Vec Ideal S1x1024x1024 .bf16} {x6 : Vec Ideal S1x6x1024 .f32} {x7 x8 : Vec Ideal S512x1024 .bf16}
  {x9 : Vec Ideal S1024x1024 .bf16} {x10 : Vec Ideal S1x1024 .f32} {x11 : Vec Ideal S1024x128 .bf16} {x12 : Vec Ideal S1x128 .f32}
  (H : Reads E i x0 x1 x2 x3 x4 x5 x6 x7 x8 x9 x10 x11 x12)
include H

/-- The tokens of the two runs. -/
theorem slice_first : Slice E (fun r => token i ⟨0 + r.val, by omega⟩) (View.ld x1 r0_0) (View.ld x2 r0_0) (View.ld x3 r0_0)
    (View.ld x4 r0_2) (View.ld x5 r0_2) (View.ld x0 r0_2) := by
  constructor
  · intro r k; refine Eq.trans ?_ (H.x _ k); pointwise []
  · intro r k; refine Eq.trans ?_ (H.x0 _ k); pointwise []
  · intro r k; refine Eq.trans ?_ (H.yc _ k); pointwise []
  · intro r k; refine Eq.trans ?_ (H.ya _ k); pointwise []
  · intro r k; refine Eq.trans ?_ (H.gh _ k); pointwise []
  · intro r k; refine Eq.trans ?_ (H.ga _ k); pointwise []

theorem slice_second : Slice E (fun r => token i ⟨512 + r.val, by omega⟩) (View.ld x1 r0_11) (View.ld x2 r0_11) (View.ld x3 r0_11)
    (View.ld x4 r0_12) (View.ld x5 r0_12) (View.ld x0 r0_12) := by
  constructor
  · intro r k; refine Eq.trans ?_ (H.x _ k); pointwise []
  · intro r k; refine Eq.trans ?_ (H.x0 _ k); pointwise []
  · intro r k; refine Eq.trans ?_ (H.yc _ k); pointwise []
  · intro r k; refine Eq.trans ?_ (H.ya _ k); pointwise []
  · intro r k; refine Eq.trans ?_ (H.gh _ k); pointwise []
  · intro r k; refine Eq.trans ?_ (H.ga _ k); pointwise []

section Run
variable {s : Fin 512 → Fin 8192} {a b y : Vec Ideal S1x512x512 .bf16} {g h : Vec Ideal S1x512x1024 .bf16}
  {x : Vec Ideal S1x512x1024 .f32} (S : Slice E s a b y g h x)
include S

theorem run_after (r : Fin 512) (k : Fin 1024) : afterRun x6 (mixedRun x7 x8 x9 a b y g h) x (ix2 r k) = E.after (s r) k := by
  rw [afterRun_apply, mixedRun_apply]
  simp only [S.x, S.x0, S.yc, S.ya, S.gh, S.ga, H.m, H.wh, H.wa, H.wo]
  rfl

theorem run_normed (r : Fin 512) (k : Fin 1024) :
    normedRun x6 x10 (mixedRun x7 x8 x9 a b y g h) x (ix2 r k) = E.normed (s r) k := by
  rw [normedRun_apply]
  simp only [run_after H S, H.m, H.gain]
  rfl

/-- With finite router's weights, the logits in the first lanes and −∞ in the others, -/
theorem run_logit (hf : E.Finite) (r : Fin 512) :
    row (logitRun x11 x12 (normedRun x6 x10 (mixedRun x7 x8 x9 a b y g h) x)) r = padded (E.logit (s r)) := by
  funext l
  unfold row padded
  rw [logitRun_apply]
  by_cases hl : l.val < 32
  · rw [if_pos hl, dif_pos hl, ← hf.split]
    simp only [run_normed H S, H.w _ l ⟨l.val, hl⟩ rfl, H.b l ⟨l.val, hl⟩ rfl]
    simp only [H.wlow _ (⟨(l.val + 128 - 96) % 128, Nat.mod_lt _ (by norm_num)⟩ : Fin 128) ⟨l.val, hl⟩
      (by show (l.val + 128 - 96) % 128 = 32 + l.val; omega)]
  · rw [if_neg hl, dif_neg hl]

/-- and the gates. -/
theorem run_gate (hf : E.Finite) (r : Fin 512) (l : Fin 128) :
    shareRun (logitRun x11 x12 (normedRun x6 x10 (mixedRun x7 x8 x9 a b y g h) x)) (ix2 r l) = E.gate (s r) l := by
  rw [shareRun_apply, run_logit H S hf, hf.share]

end Run

/-- The token with the branches' output, -/
def afterAt (E : Entry) (i : grid0.Coords) : Vec Ideal S1x1024x1024 .f32 := fun y => E.after (token i (y 1)) (y 2)

theorem after_eq : out0_13 x0 x1 x2 x3 x4 x5 x6 x7 x8 x9 x10 x11 x12 = afterAt E i := by
  rw [out_after]
  funext y
  refine View.canon_apply_of_pieces (afterAt E i) _ ?_ y (cover0_13 _ _ y)
  simp only [List.forall_mem_cons, List.not_mem_nil, false_implies, implies_true, and_true]
  refine ⟨fun (j : S1x512x1024.Idx) => ?_, fun (j : S1x512x1024.Idx) => ?_⟩
  · idx_vars j
    obtain rfl : j0 = 0 := Subsingleton.elim _ _
    have e : shapeCast S1x512x1024 (afterRun x6 (mixedSecond x1 x2 x3 x4 x5 x7 x8 x9) (View.ld x0 r0_12))
        shapeCasts_S512x1024_S1x512x1024 (ix3 0 j1 j2)
        = afterRun x6 (mixedSecond x1 x2 x3 x4 x5 x7 x8 x9) (View.ld x0 r0_12) (ix2 j1 j2) := by pointwise []
    refine e.trans ((run_after H (slice_second H) j1 j2).trans ?_)
    exact at_eq i E.after (by show 512 + j1.val = 512 + 1 * j1.val; omega) (by show j2.val = 0 + 1 * j2.val; omega)
  · idx_vars j
    obtain rfl : j0 = 0 := Subsingleton.elim _ _
    have e : shapeCast S1x512x1024 (afterRun x6 (mixedFirst x1 x2 x3 x4 x5 x7 x8 x9) (View.ld x0 r0_2))
        shapeCasts_S512x1024_S1x512x1024 (ix3 0 j1 j2)
        = afterRun x6 (mixedFirst x1 x2 x3 x4 x5 x7 x8 x9) (View.ld x0 r0_2) (ix2 j1 j2) := by pointwise []
    refine e.trans ((run_after H (slice_first H) j1 j2).trans ?_)
    exact at_eq i E.after (by show 0 + j1.val = 0 + 1 * j1.val; omega) (by show j2.val = 0 + 1 * j2.val; omega)

/-- its norm, -/
def normedAt (E : Entry) (i : grid0.Coords) : Vec Ideal S1x1024x1024 .bf16 := fun y => E.normed (token i (y 1)) (y 2)

theorem normed_eq : out0_14 x0 x1 x2 x3 x4 x5 x6 x7 x8 x9 x10 x11 x12 = normedAt E i := by
  rw [out_normed]
  funext y
  refine View.canon_apply_of_pieces (normedAt E i) _ ?_ y (cover0_14 _ _ y)
  simp only [List.forall_mem_cons, List.not_mem_nil, false_implies, implies_true, and_true]
  refine ⟨fun (j : S1x512x1024.Idx) => ?_, fun (j : S1x512x1024.Idx) => ?_⟩
  · idx_vars j
    obtain rfl : j0 = 0 := Subsingleton.elim _ _
    have e : shapeCast S1x512x1024 (truncf .bf16 (normedSecond x0 x1 x2 x3 x4 x5 x6 x7 x8 x9 x10) bitsLt_bf16_f32)
        shapeCasts_S512x1024_S1x512x1024 (ix3 0 j1 j2) = normedSecond x0 x1 x2 x3 x4 x5 x6 x7 x8 x9 x10 (ix2 j1 j2) := by pointwise []
    refine e.trans ((run_normed H (slice_second H) j1 j2).trans ?_)
    exact at_eq i E.normed (by show 512 + j1.val = 512 + 1 * j1.val; omega) (by show j2.val = 0 + 1 * j2.val; omega)
  · idx_vars j
    obtain rfl : j0 = 0 := Subsingleton.elim _ _
    have e : shapeCast S1x512x1024 (truncf .bf16 (normedFirst x0 x1 x2 x3 x4 x5 x6 x7 x8 x9 x10) bitsLt_bf16_f32)
        shapeCasts_S512x1024_S1x512x1024 (ix3 0 j1 j2) = normedFirst x0 x1 x2 x3 x4 x5 x6 x7 x8 x9 x10 (ix2 j1 j2) := by pointwise []
    refine e.trans ((run_normed H (slice_first H) j1 j2).trans ?_)
    exact at_eq i E.normed (by show 0 + j1.val = 0 + 1 * j1.val; omega) (by show j2.val = 0 + 1 * j2.val; omega)

/-- and the gates. -/
def gateAt (E : Entry) (i : grid0.Coords) : Vec Ideal S1x1024x128 .f32 := fun y => E.gate (token i (y 1)) (y 2)

theorem gate_eq (hf : E.Finite) : out0_15 x0 x1 x2 x3 x4 x5 x6 x7 x8 x9 x10 x11 x12 = gateAt E i := by
  rw [out_share]
  funext y
  refine View.canon_apply_of_pieces (gateAt E i) _ ?_ y (cover0_15 _ _ y)
  simp only [List.forall_mem_cons, List.not_mem_nil, false_implies, implies_true, and_true]
  refine ⟨fun (j : S1x512x128.Idx) => ?_, fun (j : S1x512x128.Idx) => ?_⟩
  · idx_vars j
    obtain rfl : j0 = 0 := Subsingleton.elim _ _
    have e : shapeCast S1x512x128 (shareRun (logitRun x11 x12 (normedSecond x0 x1 x2 x3 x4 x5 x6 x7 x8 x9 x10)))
        shapeCasts_S512x128_S1x512x128 (ix3 0 j1 j2)
        = shareRun (logitRun x11 x12 (normedSecond x0 x1 x2 x3 x4 x5 x6 x7 x8 x9 x10)) (ix2 j1 j2) := by pointwise []
    refine e.trans ((run_gate H (slice_second H) hf j1 j2).trans ?_)
    exact at_eq i E.gate (by show 512 + j1.val = 512 + 1 * j1.val; omega) (by show j2.val = 0 + 1 * j2.val; omega)
  · idx_vars j
    obtain rfl : j0 = 0 := Subsingleton.elim _ _
    have e : shapeCast S1x512x128 (shareRun (logitRun x11 x12 (normedFirst x0 x1 x2 x3 x4 x5 x6 x7 x8 x9 x10)))
        shapeCasts_S512x128_S1x512x128 (ix3 0 j1 j2)
        = shareRun (logitRun x11 x12 (normedFirst x0 x1 x2 x3 x4 x5 x6 x7 x8 x9 x10)) (ix2 j1 j2) := by pointwise []
    refine e.trans ((run_gate H (slice_first H) hf j1 j2).trans ?_)
    exact at_eq i E.gate (by show 0 + j1.val = 0 + 1 * j1.val; omega) (by show j2.val = 0 + 1 * j2.val; omega)

end Cert.Kernel5Ideal.Block

end
-- ==== Proof.RoutingInputs.lean ====
/-
  WHAT THE ROUTING'S KERNEL IS GIVEN, over the extended reals: the host's code before the call packs the router's weights and
  their rounding error side by side and fills the bias up to 128 lanes; its other casts and reshapes change no extended real.
-/
module

public import proofs.«01_k».proof.Proof.RoutingBlock
public import proofs.«01_k».proof.Proof.Gen.Kernel5Ideal.Value
public import Idealize.ShloMosaic.Lib.StableHlo.Run

@[expose] public section

set_option maxRecDepth 16384
set_option maxHeartbeats 1000000

noncomputable section

namespace Cert.Kernel5Ideal.Arrays

open Cert.Kernel5Ideal Cert.Kernel5Ideal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev argX : FVec Ideal S8x8192x1024 .f32 := m ((c : Thread nD τ).loc main_arg0)
abbrev argX0 : FVec Ideal S8x8192x512 .f32 := m ((c : Thread nD τ).loc main_arg1)
abbrev argYc : FVec Ideal S8x8192x512 .f32 := m ((c : Thread nD τ).loc main_arg2)
abbrev argYa : FVec Ideal S8x8192x512 .f32 := m ((c : Thread nD τ).loc main_arg3)
abbrev argGh : FVec Ideal S8x8192x1024 .f32 := m ((c : Thread nD τ).loc main_arg4)
abbrev argGa : FVec Ideal S8x8192x1024 .f32 := m ((c : Thread nD τ).loc main_arg5)
abbrev argM : FVec Ideal S8x6x1024 .f32 := m ((c : Thread nD τ).loc main_arg6)
abbrev argWh : FVec Ideal S1x512x1024 .f32 := m ((c : Thread nD τ).loc main_arg7)
abbrev argWa : FVec Ideal S1x512x1024 .f32 := m ((c : Thread nD τ).loc main_arg8)
abbrev argWo : FVec Ideal S1x1024x1024 .f32 := m ((c : Thread nD τ).loc main_arg9)
abbrev argG : FVec Ideal S1x1024 .f32 := m ((c : Thread nD τ).loc main_arg10)
abbrev argW : FVec Ideal S1x1024x32 .f32 := m ((c : Thread nD τ).loc main_arg11)
abbrev argB : FVec Ideal S1x32 .f32 := m ((c : Thread nD τ).loc main_arg12)

theorem x0_eq : (V m c main_v0 : FVec Ideal S8x8192x512 .bf16) = argX0 m c := by
  unfold_abbrev_sides
  simp only [hostOps0, hostOps0_1, hostOps0_2, List.flatten_cons, List.flatten_nil, List.append_nil, List.cons_append, List.nil_append]
  after_results
  rfl

theorem yc_eq : (V m c main_v1 : FVec Ideal S8x8192x512 .bf16) = argYc m c := by
  unfold_abbrev_sides
  simp only [hostOps0, hostOps0_1, hostOps0_2, List.flatten_cons, List.flatten_nil, List.append_nil, List.cons_append, List.nil_append]
  after_results
  rfl

theorem ya_eq : (V m c main_v2 : FVec Ideal S8x8192x512 .bf16) = argYa m c := by
  unfold_abbrev_sides
  simp only [hostOps0, hostOps0_1, hostOps0_2, List.flatten_cons, List.flatten_nil, List.append_nil, List.cons_append, List.nil_append]
  after_results
  rfl

theorem gh_eq : (V m c main_v3 : FVec Ideal S8x8192x1024 .bf16) = argGh m c := by
  unfold_abbrev_sides
  simp only [hostOps0, hostOps0_1, hostOps0_2, List.flatten_cons, List.flatten_nil, List.append_nil, List.cons_append, List.nil_append]
  after_results
  rfl

theorem ga_eq : (V m c main_v4 : FVec Ideal S8x8192x1024 .bf16) = argGa m c := by
  unfold_abbrev_sides
  simp only [hostOps0, hostOps0_1, hostOps0_2, List.flatten_cons, List.flatten_nil, List.append_nil, List.cons_append, List.nil_append]
  after_results
  rfl

theorem gain_eq : (V m c main_v22 : FVec Ideal S1x1024 .f32) = argG m c := by
  unfold_abbrev_sides
  simp only [hostOps0, hostOps0_1, hostOps0_2, List.flatten_cons, List.flatten_nil, List.append_nil, List.cons_append, List.nil_append]
  after_results
  exact shapeCast_shapeCast _ _ _

/-- A matrix with its unit axis dropped. -/
theorem drop_apply {a b : ℕ} (v : FVec Ideal ⟨3, ![1, a, b]⟩ .f32) (h : Shape.ShapeCasts ⟨3, ![1, a, b]⟩ ⟨2, ![a, b]⟩) (l : Fin a) (k : Fin b) :
    shapeCast ⟨2, ![a, b]⟩ v h (ix2 l k) = v (ix3 0 l k) := by
  refine (shapeCast_dropUnit_apply ![a, b] v h _).trans (congrArg v (funext fun x => ?_))
  match x with
  | ⟨0, _⟩ => rfl
  | ⟨1, _⟩ => rfl
  | ⟨2, _⟩ => rfl

theorem wh_apply (l : Fin 512) (k : Fin 1024) : (V m c main_v6 : FVec Ideal S512x1024 .bf16) (ix2 l k) = argWh m c (ix3 0 l k) := by
  have h : (V m c main_v6 : FVec Ideal S512x1024 .bf16) = shapeCast S512x1024 (argWh m c) shapeCasts_S1x512x1024_S512x1024 := by
    unfold_abbrev_sides
    simp only [hostOps0, hostOps0_1, hostOps0_2, List.flatten_cons, List.flatten_nil, List.append_nil, List.cons_append, List.nil_append]
    after_results
    rfl
  rw [h]
  exact drop_apply (argWh m c) _ l k

theorem wa_apply (l : Fin 512) (k : Fin 1024) : (V m c main_v8 : FVec Ideal S512x1024 .bf16) (ix2 l k) = argWa m c (ix3 0 l k) := by
  have h : (V m c main_v8 : FVec Ideal S512x1024 .bf16) = shapeCast S512x1024 (argWa m c) shapeCasts_S1x512x1024_S512x1024 := by
    unfold_abbrev_sides
    simp only [hostOps0, hostOps0_1, hostOps0_2, List.flatten_cons, List.flatten_nil, List.append_nil, List.cons_append, List.nil_append]
    after_results
    rfl
  rw [h]
  exact drop_apply (argWa m c) _ l k

theorem wo_apply (l : Fin 1024) (k : Fin 1024) : (V m c main_v10 : FVec Ideal S1024x1024 .bf16) (ix2 l k) = argWo m c (ix3 0 l k) := by
  have h : (V m c main_v10 : FVec Ideal S1024x1024 .bf16) = shapeCast S1024x1024 (argWo m c) shapeCasts_S1x1024x1024_S1024x1024 := by
    unfold_abbrev_sides
    simp only [hostOps0, hostOps0_1, hostOps0_2, List.flatten_cons, List.flatten_nil, List.append_nil, List.cons_append, List.nil_append]
    after_results
    rfl
  rw [h]
  exact drop_apply (argWo m c) _ l k

/-- The packed router: the weights, their rounding error, zeros. -/
def packed (w : FVec Ideal S1024x32 .f32) : FVec Ideal S1024x128 .bf16 :=
  concatenate S1024x128 1 [⟨S1024x32, (truncf .bf16 w bitsLt_bf16_f32 : FVec Ideal S1024x32 .bf16)⟩,
    ⟨S1024x32, truncf .bf16 (subf w (extf .f32 (truncf .bf16 w bitsLt_bf16_f32 : FVec Ideal S1024x32 .bf16) bitsLt_bf16_f32)) bitsLt_bf16_f32⟩,
    ⟨S1024x64, broadcastInDim S1024x64 ![] bcast_S_S1024x64 (constant S_ .bf16 0x0000#16)⟩]
    concatenates_S1024x32_S1024x32_S1024x64_S1024x128_d1

theorem packed_eq : (V m c main_v19 : FVec Ideal S1024x128 .bf16)
    = packed (shapeCast S1024x32 (argW m c) shapeCasts_S1x1024x32_S1024x32) := by
  unfold_abbrev_sides
  simp only [hostOps0, hostOps0_1, hostOps0_2, List.flatten_cons, List.flatten_nil, List.append_nil, List.cons_append, List.nil_append]
  after_results
  rfl

theorem w_apply (k : Fin 1024) (l : Fin 128) (e : Fin 32) (h : l.val = e.val) :
    (V m c main_v19 : FVec Ideal S1024x128 .bf16) (ix2 k l) = argW m c (ix3 0 k e) := by
  have hp : ∀ w : FVec Ideal S1024x32 .f32, packed w (ix2 k l) = w (ix2 k e) := fun w => by
    have he := e.isLt
    pointwise [packed]
    rw [dif_pos (by omega)]
    exact congrArg (fun z => w (ix2 k z)) (Fin.ext h)
  rw [packed_eq, hp]
  exact drop_apply (argW m c) _ k e

theorem wlow_apply (k : Fin 1024) (l : Fin 128) (e : Fin 32) (h : l.val = 32 + e.val) :
    (V m c main_v19 : FVec Ideal S1024x128 .bf16) (ix2 k l) = argW m c (ix3 0 k e) - argW m c (ix3 0 k e) := by
  have hp : ∀ w : FVec Ideal S1024x32 .f32, packed w (ix2 k l) = w (ix2 k e) - w (ix2 k e) := fun w => by
    have he := e.isLt
    pointwise [packed]
    rw [dif_neg (by omega), dif_pos (by omega)]
    exact congrArg (fun z => w (ix2 k z) - w (ix2 k z)) (Fin.ext (by show l.val - 32 = e.val; omega))
  rw [packed_eq, hp]
  exact congrArg₂ _ (drop_apply (argW m c) _ k e) (drop_apply (argW m c) _ k e)

theorem b_apply (l : Fin 128) (e : Fin 32) (h : l.val = e.val) :
    (V m c main_v21 : FVec Ideal S1x128 .f32) (ix2 0 l) = argB m c (ix2 0 e) := by
  have hv : (V m c main_v21 : FVec Ideal S1x128 .f32)
      = shapeCast S1x128 (pad S128 ![0] ![96] ![0] (shapeCast S32 (argB m c) shapeCasts_S1x32_S32)
        (sitofp (F := Ideal) .f32 (constantI S_ 32 0#32)) pads_S32_S128_0960 h_S_) shapeCasts_S128_S1x128 := by
    unfold_abbrev_sides
    simp only [hostOps0, hostOps0_1, hostOps0_2, List.flatten_cons, List.flatten_nil, List.append_nil, List.cons_append, List.nil_append]
    after_results
    rfl
  have he := e.isLt
  rw [hv]
  pointwise []
  rw [dif_pos (by omega)]
  exact congrArg (fun z => argB m c (ix2 0 z)) (Fin.ext h)

end Cert.Kernel5Ideal.Arrays

end
-- ==== Proof.RoutingArray.lean ====
/-
  THE ROUTING'S RESULT ARRAYS, over the extended reals. A point of the grid is a batch entry and a run of 1024 of its tokens;
  what it writes back to each array is its block of one function of the arguments, and the blocks cover the array.
-/
module

public import proofs.«01_k».proof.Proof.RoutingInputs

@[expose] public section

set_option maxRecDepth 16384

noncomputable section

namespace Cert.Kernel5Ideal.Arrays

open Cert.Kernel5Ideal Cert.Kernel5Ideal.Gen Cert.Kernel5Ideal.Block Cert.Routing
open Idealize.ShloMosaic Idealize.ShloMosaic.TcCoe Idealize.SL.Sem
open Idealize.ShloMosaic.Pipeline (Dat)

/-- What the tokens of batch entry `b` are computed from. -/
def entryOf (X : FVec Ideal S8x8192x1024 .f32) (X0 Yc Ya : FVec Ideal S8x8192x512 .f32) (Gh Ga : FVec Ideal S8x8192x1024 .f32)
    (M : FVec Ideal S8x6x1024 .f32) (Wh Wa : FVec Ideal S1x512x1024 .f32) (Wo : FVec Ideal S1x1024x1024 .f32)
    (G : FVec Ideal S1x1024 .f32) (W : FVec Ideal S1x1024x32 .f32) (B : FVec Ideal S1x32 .f32) (b : Fin 8) : Entry where
  x s k := X (ix3 b s k)
  x0 s k := X0 (ix3 b s k)
  yc s k := Yc (ix3 b s k)
  ya s k := Ya (ix3 b s k)
  gh s k := Gh (ix3 b s k)
  ga s k := Ga (ix3 b s k)
  m z k := M (ix3 b z k)
  wh l k := Wh (ix3 0 l k)
  wa l k := Wa (ix3 0 l k)
  wo l k := Wo (ix3 0 l k)
  gain k := G (ix2 0 k)
  w k e := W (ix3 0 k e)
  b e := B (ix2 0 e)

/-- The three results, of each entry's tokens. -/
def afterResult (E : Fin 8 → Entry) : FVec Ideal S8x8192x1024 .f32 := fun j => (E (j 0)).after (j 1) (j 2)
def normedResult (E : Fin 8 → Entry) : FVec Ideal S8x8192x1024 .bf16 := fun j => (E (j 0)).normed (j 1) (j 2)
def gateResult (E : Fin 8 → Entry) : FVec Ideal S8x8192x128 .f32 := fun j => (E (j 0)).gate (j 1) (j 2)

theorem ext2 {a b : ℕ} {x y : Shape.Idx ⟨2, ![a, b]⟩} (h0 : (x 0).val = (y 0).val) (h1 : (x 1).val = (y 1).val) : x = y :=
  funext fun z => Fin.ext (match z with | ⟨0, _⟩ => h0 | ⟨1, _⟩ => h1)

theorem ext3 {a b c : ℕ} {x y : Shape.Idx ⟨3, ![a, b, c]⟩} (h0 : (x 0).val = (y 0).val) (h1 : (x 1).val = (y 1).val)
    (h2 : (x 2).val = (y 2).val) : x = y :=
  funext fun z => Fin.ext (match z with | ⟨0, _⟩ => h0 | ⟨1, _⟩ => h1 | ⟨2, _⟩ => h2)

/-! ## Where the windows' blocks lie -/

theorem coords_eq : ∀ t : Fin grid0.N, (grid0.coords t 0).val = t.val / 8 ∧ (grid0.coords t 1).val = t.val % 8 := by decide +kernel
theorem index0 : ∀ t : Fin grid0.N, win0_0.index t 0 = t.val / 8 ∧ win0_0.index t 1 = t.val % 8 ∧ win0_0.index t 2 = 0 := by decide +kernel
theorem index1 : ∀ t : Fin grid0.N, win0_1.index t 0 = t.val / 8 ∧ win0_1.index t 1 = t.val % 8 ∧ win0_1.index t 2 = 0 := by decide +kernel
theorem index2 : ∀ t : Fin grid0.N, win0_2.index t 0 = t.val / 8 ∧ win0_2.index t 1 = t.val % 8 ∧ win0_2.index t 2 = 0 := by decide +kernel
theorem index3 : ∀ t : Fin grid0.N, win0_3.index t 0 = t.val / 8 ∧ win0_3.index t 1 = t.val % 8 ∧ win0_3.index t 2 = 0 := by decide +kernel
theorem index4 : ∀ t : Fin grid0.N, win0_4.index t 0 = t.val / 8 ∧ win0_4.index t 1 = t.val % 8 ∧ win0_4.index t 2 = 0 := by decide +kernel
theorem index5 : ∀ t : Fin grid0.N, win0_5.index t 0 = t.val / 8 ∧ win0_5.index t 1 = t.val % 8 ∧ win0_5.index t 2 = 0 := by decide +kernel
theorem index6 : ∀ t : Fin grid0.N, win0_6.index t 0 = t.val / 8 ∧ win0_6.index t 1 = 0 ∧ win0_6.index t 2 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel
theorem index9 : ∀ t : Fin grid0.N, win0_9.index t 0 = 0 ∧ win0_9.index t 1 = 0 := by decide +kernel
theorem index10 : ∀ t : Fin grid0.N, win0_10.index t 0 = 0 ∧ win0_10.index t 1 = 0 := by decide +kernel
theorem index11 : ∀ t : Fin grid0.N, win0_11.index t 0 = 0 ∧ win0_11.index t 1 = 0 := by decide +kernel
theorem index12 : ∀ t : Fin grid0.N, win0_12.index t 0 = 0 ∧ win0_12.index t 1 = 0 := by decide +kernel
theorem index13 : ∀ t : Fin grid0.N, win0_13.index t 0 = t.val / 8 ∧ win0_13.index t 1 = t.val % 8 ∧ win0_13.index t 2 = 0 := by decide +kernel
theorem index14 : ∀ t : Fin grid0.N, win0_14.index t 0 = t.val / 8 ∧ win0_14.index t 1 = t.val % 8 ∧ win0_14.index t 2 = 0 := by decide +kernel
theorem index15 : ∀ t : Fin grid0.N, win0_15.index t 0 = t.val / 8 ∧ win0_15.index t 1 = t.val % 8 ∧ win0_15.index t 2 = 0 := by decide +kernel

variable (m : (ℓ : Loc nD τ sig) → Buf (Elt Ideal) ℓ) (ρ : Dev nD → PrngReg)

/-- The batch entries, from the arguments. -/
abbrev entry (c : Dev nD) : Fin 8 → Entry :=
  entryOf (argX m c) (argX0 m c) (argYc m c) (argYa m c) (argGh m c) (argGa m c) (argM m c) (argWh m c) (argWa m c) (argWo m c)
    (argG m c) (argW m c) (argB m c)

/-! ## What the blocks hold -/

theorem block0 (c : Dev nD) (t : Fin cfg0.N) (r : Fin 1024) (k : Fin 1024) (b : Fin 8) (s : Fin 8192) (hb : b.val = t.val / 8)
    (hs : s.val = 1024 * (t.val % 8) + r.val) :
    (iblk m c 0 t : FVec Ideal S1x1024x1024 .f32) (ix3 0 r k) = (V m c main_arg0 : FVec Ideal S8x8192x1024 .f32) (ix3 b s k) := by
  have hi := index0 t
  unfold iblk
  rw [View.read_apply]
  exact congrArg (V m c main_arg0 : FVec Ideal S8x8192x1024 .f32) (ext3
    (by show win0_0.index t 0 * 1 + 1 * 0 = b.val; rw [hi.1]; omega)
    (by show win0_0.index t 1 * 1024 + 1 * r.val = s.val; rw [hi.2.1]; omega)
    (by show win0_0.index t 2 * 1024 + 1 * k.val = k.val; rw [hi.2.2]; omega))

theorem block1 (c : Dev nD) (t : Fin cfg0.N) (r : Fin 1024) (k : Fin 512) (b : Fin 8) (s : Fin 8192) (hb : b.val = t.val / 8)
    (hs : s.val = 1024 * (t.val % 8) + r.val) :
    (iblk m c 1 t : FVec Ideal S1x1024x512 .bf16) (ix3 0 r k) = (V m c main_v0 : FVec Ideal S8x8192x512 .bf16) (ix3 b s k) := by
  have hi := index1 t
  unfold iblk
  rw [View.read_apply]
  exact congrArg (V m c main_v0 : FVec Ideal S8x8192x512 .bf16) (ext3
    (by show win0_1.index t 0 * 1 + 1 * 0 = b.val; rw [hi.1]; omega)
    (by show win0_1.index t 1 * 1024 + 1 * r.val = s.val; rw [hi.2.1]; omega)
    (by show win0_1.index t 2 * 512 + 1 * k.val = k.val; rw [hi.2.2]; omega))

theorem block2 (c : Dev nD) (t : Fin cfg0.N) (r : Fin 1024) (k : Fin 512) (b : Fin 8) (s : Fin 8192) (hb : b.val = t.val / 8)
    (hs : s.val = 1024 * (t.val % 8) + r.val) :
    (iblk m c 2 t : FVec Ideal S1x1024x512 .bf16) (ix3 0 r k) = (V m c main_v1 : FVec Ideal S8x8192x512 .bf16) (ix3 b s k) := by
  have hi := index2 t
  unfold iblk
  rw [View.read_apply]
  exact congrArg (V m c main_v1 : FVec Ideal S8x8192x512 .bf16) (ext3
    (by show win0_2.index t 0 * 1 + 1 * 0 = b.val; rw [hi.1]; omega)
    (by show win0_2.index t 1 * 1024 + 1 * r.val = s.val; rw [hi.2.1]; omega)
    (by show win0_2.index t 2 * 512 + 1 * k.val = k.val; rw [hi.2.2]; omega))

theorem block3 (c : Dev nD) (t : Fin cfg0.N) (r : Fin 1024) (k : Fin 512) (b : Fin 8) (s : Fin 8192) (hb : b.val = t.val / 8)
    (hs : s.val = 1024 * (t.val % 8) + r.val) :
    (iblk m c 3 t : FVec Ideal S1x1024x512 .bf16) (ix3 0 r k) = (V m c main_v2 : FVec Ideal S8x8192x512 .bf16) (ix3 b s k) := by
  have hi := index3 t
  unfold iblk
  rw [View.read_apply]
  exact congrArg (V m c main_v2 : FVec Ideal S8x8192x512 .bf16) (ext3
    (by show win0_3.index t 0 * 1 + 1 * 0 = b.val; rw [hi.1]; omega)
    (by show win0_3.index t 1 * 1024 + 1 * r.val = s.val; rw [hi.2.1]; omega)
    (by show win0_3.index t 2 * 512 + 1 * k.val = k.val; rw [hi.2.2]; omega))

theorem block4 (c : Dev nD) (t : Fin cfg0.N) (r : Fin 1024) (k : Fin 1024) (b : Fin 8) (s : Fin 8192) (hb : b.val = t.val / 8)
    (hs : s.val = 1024 * (t.val % 8) + r.val) :
    (iblk m c 4 t : FVec Ideal S1x1024x1024 .bf16) (ix3 0 r k) = (V m c main_v3 : FVec Ideal S8x8192x1024 .bf16) (ix3 b s k) := by
  have hi := index4 t
  unfold iblk
  rw [View.read_apply]
  exact congrArg (V m c main_v3 : FVec Ideal S8x8192x1024 .bf16) (ext3
    (by show win0_4.index t 0 * 1 + 1 * 0 = b.val; rw [hi.1]; omega)
    (by show win0_4.index t 1 * 1024 + 1 * r.val = s.val; rw [hi.2.1]; omega)
    (by show win0_4.index t 2 * 1024 + 1 * k.val = k.val; rw [hi.2.2]; omega))

theorem block5 (c : Dev nD) (t : Fin cfg0.N) (r : Fin 1024) (k : Fin 1024) (b : Fin 8) (s : Fin 8192) (hb : b.val = t.val / 8)
    (hs : s.val = 1024 * (t.val % 8) + r.val) :
    (iblk m c 5 t : FVec Ideal S1x1024x1024 .bf16) (ix3 0 r k) = (V m c main_v4 : FVec Ideal S8x8192x1024 .bf16) (ix3 b s k) := by
  have hi := index5 t
  unfold iblk
  rw [View.read_apply]
  exact congrArg (V m c main_v4 : FVec Ideal S8x8192x1024 .bf16) (ext3
    (by show win0_5.index t 0 * 1 + 1 * 0 = b.val; rw [hi.1]; omega)
    (by show win0_5.index t 1 * 1024 + 1 * r.val = s.val; rw [hi.2.1]; omega)
    (by show win0_5.index t 2 * 1024 + 1 * k.val = k.val; rw [hi.2.2]; omega))

theorem block6 (c : Dev nD) (t : Fin cfg0.N) (z : Fin 6) (k : Fin 1024) (b : Fin 8) (hb : b.val = t.val / 8) :
    (iblk m c 6 t : FVec Ideal S1x6x1024 .f32) (ix3 0 z k) = argM m c (ix3 b z k) := by
  have hi := index6 t
  unfold iblk
  rw [View.read_apply]
  show V m c main_arg6 _ = _
  rw [V_main_arg6]
  exact congrArg (argM m c) (ext3
    (by show win0_6.index t 0 * 1 + 1 * 0 = b.val; rw [hi.1]; omega)
    (by show win0_6.index t 1 * 6 + 1 * z.val = z.val; rw [hi.2.1]; omega)
    (by show win0_6.index t 2 * 1024 + 1 * k.val = k.val; rw [hi.2.2]; omega))

theorem block7 (c : Dev nD) (t : Fin cfg0.N) (z : Fin 512) (d : Fin 1024) :
    (iblk m c 7 t : FVec Ideal S512x1024 .bf16) (ix2 z d) = (V m c main_v6 : FVec Ideal S512x1024 .bf16) (ix2 z d) := by
  have hi := index7 t
  unfold iblk
  rw [View.read_apply]
  exact congrArg (V m c main_v6 : FVec Ideal S512x1024 .bf16) (ext2
    (by show win0_7.index t 0 * 512 + 1 * z.val = z.val; rw [hi.1]; omega)
    (by show win0_7.index t 1 * 1024 + 1 * d.val = d.val; rw [hi.2]; omega))

theorem block8 (c : Dev nD) (t : Fin cfg0.N) (z : Fin 512) (d : Fin 1024) :
    (iblk m c 8 t : FVec Ideal S512x1024 .bf16) (ix2 z d) = (V m c main_v8 : FVec Ideal S512x1024 .bf16) (ix2 z d) := by
  have hi := index8 t
  unfold iblk
  rw [View.read_apply]
  exact congrArg (V m c main_v8 : FVec Ideal S512x1024 .bf16) (ext2
    (by show win0_8.index t 0 * 512 + 1 * z.val = z.val; rw [hi.1]; omega)
    (by show win0_8.index t 1 * 1024 + 1 * d.val = d.val; rw [hi.2]; omega))

theorem block9 (c : Dev nD) (t : Fin cfg0.N) (z : Fin 1024) (d : Fin 1024) :
    (iblk m c 9 t : FVec Ideal S1024x1024 .bf16) (ix2 z d) = (V m c main_v10 : FVec Ideal S1024x1024 .bf16) (ix2 z d) := by
  have hi := index9 t
  unfold iblk
  rw [View.read_apply]
  exact congrArg (V m c main_v10 : FVec Ideal S1024x1024 .bf16) (ext2
    (by show win0_9.index t 0 * 1024 + 1 * z.val = z.val; rw [hi.1]; omega)
    (by show win0_9.index t 1 * 1024 + 1 * d.val = d.val; rw [hi.2]; omega))

theorem block10 (c : Dev nD) (t : Fin cfg0.N) (z : Fin 1) (d : Fin 1024) :
    (iblk m c 10 t : FVec Ideal S1x1024 .f32) (ix2 z d) = (V m c main_v22 : FVec Ideal S1x1024 .f32) (ix2 z d) := by
  have hi := index10 t
  unfold iblk
  rw [View.read_apply]
  exact congrArg (V m c main_v22 : FVec Ideal S1x1024 .f32) (ext2
    (by show win0_10.index t 0 * 1 + 1 * z.val = z.val; rw [hi.1]; omega)
    (by show win0_10.index t 1 * 1024 + 1 * d.val = d.val; rw [hi.2]; omega))

theorem block11 (c : Dev nD) (t : Fin cfg0.N) (z : Fin 1024) (d : Fin 128) :
    (iblk m c 11 t : FVec Ideal S1024x128 .bf16) (ix2 z d) = (V m c main_v19 : FVec Ideal S1024x128 .bf16) (ix2 z d) := by
  have hi := index11 t
  unfold iblk
  rw [View.read_apply]
  exact congrArg (V m c main_v19 : FVec Ideal S1024x128 .bf16) (ext2
    (by show win0_11.index t 0 * 1024 + 1 * z.val = z.val; rw [hi.1]; omega)
    (by show win0_11.index t 1 * 128 + 1 * d.val = d.val; rw [hi.2]; omega))

theorem block12 (c : Dev nD) (t : Fin cfg0.N) (z : Fin 1) (d : Fin 128) :
    (iblk m c 12 t : FVec Ideal S1x128 .f32) (ix2 z d) = (V m c main_v21 : FVec Ideal S1x128 .f32) (ix2 z d) := by
  have hi := index12 t
  unfold iblk
  rw [View.read_apply]
  exact congrArg (V m c main_v21 : FVec Ideal S1x128 .f32) (ext2
    (by show win0_12.index t 0 * 1 + 1 * z.val = z.val; rw [hi.1]; omega)
    (by show win0_12.index t 1 * 128 + 1 * d.val = d.val; rw [hi.2]; omega))

/-- The batch entry of a point. -/
def entryAt (t : Fin cfg0.N) : Fin 8 := ⟨t.val / 8, by have := t.isLt; have hN : cfg0.N = 64 := N_0; omega⟩

theorem token_val (t : Fin cfg0.N) (r : Fin 1024) : (token (grid0.coords t) r).val = 1024 * (t.val % 8) + r.val := by
  show 1024 * (grid0.coords t 1).val + r.val = _
  rw [(coords_eq t).2]

/-- A point's blocks hold its run of its entry's tokens. -/
theorem reads (c : Dev nD) (t : Fin cfg0.N) : Reads (entry m c (entryAt t)) (grid0.coords t) (iblk m c 0 t) (iblk m c 1 t) (iblk m c 2 t)
    (iblk m c 3 t) (iblk m c 4 t) (iblk m c 5 t) (iblk m c 6 t) (iblk m c 7 t) (iblk m c 8 t) (iblk m c 9 t) (iblk m c 10 t)
    (iblk m c 11 t) (iblk m c 12 t) where
  x r k := (block0 m c t r k (entryAt t) _ rfl (token_val t r)).trans (congrFun (V_main_arg0 m c) _)
  x0 r k := (block1 m c t r k (entryAt t) _ rfl (token_val t r)).trans (congrFun (x0_eq m c) _)
  yc r k := (block2 m c t r k (entryAt t) _ rfl (token_val t r)).trans (congrFun (yc_eq m c) _)
  ya r k := (block3 m c t r k (entryAt t) _ rfl (token_val t r)).trans (congrFun (ya_eq m c) _)
  gh r k := (block4 m c t r k (entryAt t) _ rfl (token_val t r)).trans (congrFun (gh_eq m c) _)
  ga r k := (block5 m c t r k (entryAt t) _ rfl (token_val t r)).trans (congrFun (ga_eq m c) _)
  m z k := block6 m c t z k (entryAt t) rfl
  wh l k := (block7 m c t l k).trans (wh_apply m c l k)
  wa l k := (block8 m c t l k).trans (wa_apply m c l k)
  wo l k := (block9 m c t l k).trans (wo_apply m c l k)
  gain k := (block10 m c t 0 k).trans (congrFun (gain_eq m c) _)
  w k l e h := (block11 m c t k l).trans (w_apply m c k l e h)
  wlow k l e h := (block11 m c t k l).trans (wlow_apply m c k l e h)
  b l e h := (block12 m c t 0 l).trans (b_apply m c l e h)

/-! ## The arrays -/

/-- A row and column of a point's block, found in the array `i0 i1 i2` at the block's place. -/
theorem at_block (t : Fin cfg0.N) {n : ℕ} (f : Fin 8 → Fin 8192 → Fin n → EReal) (r : Fin 1024) (k : Fin n) (i0 : Fin 8)
    (i1 : Fin 8192) (i2 : Fin n) (h0 : i0.val = t.val / 8) (h1 : i1.val = 1024 * (t.val % 8) + r.val) (h2 : i2.val = k.val) :
    f (entryAt t) (token (grid0.coords t) r) k = f i0 i1 i2 := by
  have e0 : entryAt t = i0 := Fin.ext h0.symm
  have e1 : token (grid0.coords t) r = i1 := Fin.ext ((token_val t r).trans h1.symm)
  rw [e0, e1, Fin.ext h2]

/-- The point whose blocks hold a row of an entry, -/
def pointOf (b : Fin 8) (s : Fin 8192) : Fin cfg0.N :=
  ⟨8 * b.val + s.val / 1024, by have hN : cfg0.N = 64 := N_0; rw [hN]; omega⟩

/-- and that they do. -/
theorem in_block (b : Fin 8) (s : Fin 8192) {n d : ℕ} (hd : d < n) (x0 x1 x2 : ℕ)
    (hx : x0 = (pointOf b s).val / 8 ∧ x1 = (pointOf b s).val % 8 ∧ x2 = 0) :
    (x0 * 1 ≤ b.val ∧ b.val < x0 * 1 + 1) ∧ (x1 * 1024 ≤ s.val ∧ s.val < x1 * 1024 + 1024) ∧ (x2 * n ≤ d ∧ d < x2 * n + n) := by
  obtain ⟨rfl, rfl, rfl⟩ := hx
  have hp : (pointOf b s).val = 8 * b.val + s.val / 1024 := rfl
  rw [hp, Nat.zero_mul]
  omega

theorem final13 (c : Dev nD) : (dats m 0 c).arrAt 13 cfg0.N = afterResult (entry m c) := by
  refine (dats m 0 c).arrAt_eq_of_cover 13 (afterResult (entry m c)) (fun t _ => ?_) fun i => ?_
  · have hi := index13 t
    rw [Value.flushed13, after_eq (reads m c t)]
    refine funext fun (j : S1x1024x1024.Idx) => ?_
    rw [View.read_apply]
    idx_vars j
    exact at_block t (fun b => (entry m c b).after) j1 j2 _ _ _
      (by show win0_13.index t 0 * 1 + 1 * j0.val = _; rw [hi.1]; omega)
      (by show win0_13.index t 1 * 1024 + 1 * j1.val = _; rw [hi.2.1]; omega)
      (by show win0_13.index t 2 * 1024 + 1 * j2.val = _; rw [hi.2.2]; omega)
  · have h := in_block (i 0) (i 1) (i 2).isLt _ _ _ (index13 (pointOf (i 0) (i 1)))
    refine ⟨pointOf (i 0) (i 1), flush0_13 _, ?_⟩
    show i ∈ ((View.whole main_v23_0).slice (win0_13.rect (pointOf (i 0) (i 1)))).set
    rw [View.set_slice_whole, Rect.mem_set_unit]
    exact fun a => match a with | ⟨0, _⟩ => h.1 | ⟨1, _⟩ => h.2.1 | ⟨2, _⟩ => h.2.2

theorem final14 (c : Dev nD) : (dats m 0 c).arrAt 14 cfg0.N = normedResult (entry m c) := by
  refine (dats m 0 c).arrAt_eq_of_cover 14 (normedResult (entry m c)) (fun t _ => ?_) fun i => ?_
  · have hi := index14 t
    rw [Value.flushed14, normed_eq (reads m c t)]
    refine funext fun (j : S1x1024x1024.Idx) => ?_
    rw [View.read_apply]
    idx_vars j
    exact at_block t (fun b => (entry m c b).normed) j1 j2 _ _ _
      (by show win0_14.index t 0 * 1 + 1 * j0.val = _; rw [hi.1]; omega)
      (by show win0_14.index t 1 * 1024 + 1 * j1.val = _; rw [hi.2.1]; omega)
      (by show win0_14.index t 2 * 1024 + 1 * j2.val = _; rw [hi.2.2]; omega)
  · have h := in_block (i 0) (i 1) (i 2).isLt _ _ _ (index14 (pointOf (i 0) (i 1)))
    refine ⟨pointOf (i 0) (i 1), flush0_14 _, ?_⟩
    show i ∈ ((View.whole main_v23_1).slice (win0_14.rect (pointOf (i 0) (i 1)))).set
    rw [View.set_slice_whole, Rect.mem_set_unit]
    exact fun a => match a with | ⟨0, _⟩ => h.1 | ⟨1, _⟩ => h.2.1 | ⟨2, _⟩ => h.2.2

theorem final15 (c : Dev nD) (hf : ∀ b, (entry m c b).Finite) : (dats m 0 c).arrAt 15 cfg0.N = gateResult (entry m c) := by
  refine (dats m 0 c).arrAt_eq_of_cover 15 (gateResult (entry m c)) (fun t _ => ?_) fun i => ?_
  · have hi := index15 t
    rw [Value.flushed15, gate_eq (reads m c t) (hf _)]
    refine funext fun (j : S1x1024x128.Idx) => ?_
    rw [View.read_apply]
    idx_vars j
    exact at_block t (fun b => (entry m c b).gate) j1 j2 _ _ _
      (by show win0_15.index t 0 * 1 + 1 * j0.val = _; rw [hi.1]; omega)
      (by show win0_15.index t 1 * 1024 + 1 * j1.val = _; rw [hi.2.1]; omega)
      (by show win0_15.index t 2 * 128 + 1 * j2.val = _; rw [hi.2.2]; omega)
  · have h := in_block (i 0) (i 1) (i 2).isLt _ _ _ (index15 (pointOf (i 0) (i 1)))
    refine ⟨pointOf (i 0) (i 1), flush0_15 _, ?_⟩
    show i ∈ ((View.whole main_v23_2).slice (win0_15.rect (pointOf (i 0) (i 1)))).set
    rw [View.set_slice_whole, Rect.mem_set_unit]
    exact fun a => match a with | ⟨0, _⟩ => h.1 | ⟨1, _⟩ => h.2.1 | ⟨2, _⟩ => h.2.2

/-- The run: the three results, and the arguments as they were. -/
theorem run (hf : ∀ c b, (entry m c b).Finite) : θ_run defs (onTc (τ := τ) (main (F := Ideal))) ⟨m, fun _ => 0, ρ⟩ fun r => ∀ c : Dev nD,
      r.2.mem ((c : Thread nD τ).loc main_v23_0) = afterResult (entry m c)
      ∧ r.2.mem ((c : Thread nD τ).loc main_v23_1) = normedResult (entry m c)
      ∧ r.2.mem ((c : Thread nD τ).loc main_v23_2) = gateResult (entry m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun _ h c => by
    have h := h c
    rw [final13 m c, final14 m c, final15 m c (hf c)] at h
    exact h) (Value.run_blocks m ρ)

end Cert.Kernel5Ideal.Arrays

end
-- ==== Proof.RoutingReference.lean ====
/-
  THE ROUTING'S REFERENCE, over the extended reals: each of its results at an index is the entry's function of that token and
  column. A sorted row's first four logits are those of the chosen experts, and the sum of their gates, each at its own expert,
  is `Entry.gate`.
-/
module

public import proofs.«01_k».proof.Proof.RoutingArray
public import proofs.«01_k».proof.Proof.Gen.Reference5Ideal.Read

@[expose] public section

set_option maxRecDepth 16384

noncomputable section

namespace Cert.Reference5Ideal.Plain

open Cert.Reference5Ideal Cert.Reference5Ideal.Gen Cert.Reference5Ideal.Read Cert.Routing Cert.Kernel5Ideal.RoutingProof
open Cert.Kernel5Ideal.Arrays (entryOf)
open Idealize.ShloMosaic Idealize.ShloMosaic.TcCoe Idealize.SL.Sem

variable (X : FVec Ideal S8x8192x1024 .f32) (X0 Yc Ya : FVec Ideal S8x8192x512 .f32) (Gh Ga : FVec Ideal S8x8192x1024 .f32)
  (M : FVec Ideal S8x6x1024 .f32) (Wh Wa : FVec Ideal S1x512x1024 .f32) (Wo : FVec Ideal S1x1024x1024 .f32)
  (G : FVec Ideal S1x1024 .f32) (W : FVec Ideal S1x1024x32 .f32) (B : FVec Ideal S1x32 .f32) (b : Fin 8) (s : Fin 8192)

theorem mixed_apply (k : Fin 1024) : val_main_v19 (F := Ideal) X0 Yc Ya Gh Ga Wh Wa (ix3 b s k)
    = (entryOf X X0 Yc Ya Gh Ga M Wh Wa Wo G W B b).mixed s k := by
  pointwise [val_main_v0, val_main_v1, val_main_v2, val_main_v3, val_main_v4, val_main_v5, val_main_v6, val_main_v7, val_main_v8,
    val_main_v9, val_main_v10, val_main_v11, val_main_v12, val_main_v13, val_main_v14, val_main_v15, val_main_v16, val_main_v17,
    val_main_v18, val_main_v19, val_main_cst, val_main_cst_0, val_main_cst_1, val_main_cst_2]
  rfl

theorem after_apply (k : Fin 1024) : val_main_v25 (F := Ideal) X X0 Yc Ya Gh Ga M Wh Wa Wo (ix3 b s k)
    = (entryOf X X0 Yc Ya Gh Ga M Wh Wa Wo G W B b).after s k := by
  pointwise [val_main_v20, val_main_v21, val_main_v22, val_main_v23, val_main_v24, val_main_v25]
  simp only [mixed_apply X X0 Yc Ya Gh Ga M Wh Wa Wo G W B]
  rfl

theorem normed_apply (k : Fin 1024) : val_main_v47 (F := Ideal) X X0 Yc Ya Gh Ga M Wh Wa Wo G (ix3 b s k)
    = (entryOf X X0 Yc Ya Gh Ga M Wh Wa Wo G W B b).normed s k := by
  pointwise [val_main_v26, val_main_v27, val_main_v28, val_main_v29, val_main_v30, val_main_v31, val_main_v32, val_main_v33,
    val_main_v34, val_main_v35, val_main_v36, val_main_v37, val_main_v38, val_main_v39, val_main_v40, val_main_v41, val_main_v42,
    val_main_v43, val_main_v44, val_main_v45, val_main_v46, val_main_v47, val_main_cst_3, val_main_cst_4, val_main_cst_5, val_main_cst_6]
  simp only [after_apply X X0 Yc Ya Gh Ga M Wh Wa Wo G W B]
  rfl

theorem logit_apply (e : Fin 32) : val_main_v53 (F := Ideal) X X0 Yc Ya Gh Ga M Wh Wa Wo G W B (ix3 b s e)
    = (entryOf X X0 Yc Ya Gh Ga M Wh Wa Wo G W B b).logit s e := by
  pointwise [val_main_v48, val_main_v49, val_main_v50, val_main_v51, val_main_v52, val_main_v53]
  simp only [normed_apply X X0 Yc Ya Gh Ga M Wh Wa Wo G W B]
  rfl

/-- A position of a row. -/
theorem along_eq (i : Fin 32) (k : Fin 32) : (ix3 b s i : S8x8192x32.Idx).along 2 k = ix3 b s k := by
  funext x
  match x with
  | ⟨0, _⟩ => rfl
  | ⟨1, _⟩ => rfl
  | ⟨2, _⟩ => rfl

/-- The first four of a row sorted by its values are the chosen ones, with their places. -/
theorem four_apply (L : FVec Ideal S8x8192x32 .f32) (h : Shape.Slices S8x8192x32 (fun _ => 0) S8x8192x4) (i : Fin 4) :
    (Host.topK S8x8192x4 2 (FloatOps.cmpfTotal .gt) L h).1 (ix3 b s i) = L (ix3 b s (chosen (fun e => L (ix3 b s e)) i))
    ∧ (Host.topK S8x8192x4 2 (FloatOps.cmpfTotal .gt) L h).2 (ix3 b s i)
      = BitVec.ofNat 32 (chosen (fun e => L (ix3 b s e)) i).val := by
  have hp : (fun k k' : Fin 32 => FloatOps.cmpfTotal (F := Ideal) (φ := .f32) .gt (L ((ix3 b s (i.castLE (by decide)) : S8x8192x32.Idx).along 2 k))
      (L ((ix3 b s (i.castLE (by decide)) : S8x8192x32.Idx).along 2 k')) == 1#1)
      = fun k k' => above (L (ix3 b s k)) (L (ix3 b s k')) := by
    funext k k'
    rw [along_eq, along_eq]
    rfl
  have hi : ∀ {α : Type} (v : S8x8192x32.Idx → α), extractStridedSlice S8x8192x4 (fun _ => 0) v h (ix3 b s i)
      = v (ix3 b s (i.castLE (by decide))) := fun v => by pointwise []; rfl
  have hs : ∀ {α : Type} (v : S8x8192x32.Idx → α),
      v ((ix3 b s (i.castLE (by decide)) : S8x8192x32.Idx).along 2 (sortedFrom (fun k k' : Fin 32 =>
        FloatOps.cmpfTotal (F := Ideal) (φ := .f32) .gt (L ((ix3 b s (i.castLE (by decide)) : S8x8192x32.Idx).along 2 k))
        (L ((ix3 b s (i.castLE (by decide)) : S8x8192x32.Idx).along 2 k')) == 1#1) (i.castLE (by decide))))
      = v (ix3 b s (chosen (fun e => L (ix3 b s e)) i)) := fun v => by
    rw [hp]
    exact congrArg v (along_eq b s _ _)
  have hw : ∀ c : Fin 32, BitVec.ofNat 32 ((ix3 b s c : S8x8192x32.Idx) 2).val = BitVec.ofNat 32 c.val := fun c => rfl
  refine ⟨Eq.trans (hi (Host.sort2 S8x8192x32 2 (fun l r => FloatOps.cmpfTotal (F := Ideal) (φ := .f32) .gt l.1 r.1) L
      (fun i => if hd : 2 < S8x8192x32.rank then iotaInDim S8x8192x32 32 ⟨2, hd⟩ i else 0#32)).1) ?_,
    Eq.trans (hi (Host.sort2 S8x8192x32 2 (fun l r => FloatOps.cmpfTotal (F := Ideal) (φ := .f32) .gt l.1 r.1) L
      (fun i => if hd : 2 < S8x8192x32.rank then iotaInDim S8x8192x32 32 ⟨2, hd⟩ i else 0#32)).2) ?_⟩
  · exact hs L
  · exact (hs fun z => BitVec.ofNat 32 (z 2).val).trans (hw _)

theorem row_eq : (fun e => val_main_v53 (F := Ideal) X X0 Yc Ya Gh Ga M Wh Wa Wo G W B (ix3 b s e))
    = (entryOf X X0 Yc Ya Gh Ga M Wh Wa Wo G W B b).logit s := funext fun e => logit_apply X X0 Yc Ya Gh Ga M Wh Wa Wo G W B b s e

theorem values_apply (i : Fin 4) : val_main_values (F := Ideal) X X0 Yc Ya Gh Ga M Wh Wa Wo G W B (ix3 b s i)
    = (entryOf X X0 Yc Ya Gh Ga M Wh Wa Wo G W B b).logit s (chosen ((entryOf X X0 Yc Ya Gh Ga M Wh Wa Wo G W B b).logit s) i) := by
  unfold val_main_values
  rw [(four_apply b s _ _ i).1, logit_apply, row_eq]

theorem indices_apply (i : Fin 4) : val_main_indices (F := Ideal) X X0 Yc Ya Gh Ga M Wh Wa Wo G W B (ix3 b s i)
    = BitVec.ofNat 32 (chosen ((entryOf X X0 Yc Ya Gh Ga M Wh Wa Wo G W B b).logit s) i).val := by
  unfold val_main_indices
  rw [(four_apply b s _ _ i).2, row_eq]

/-- The greatest of the four. -/
theorem most_apply : val_main_v56 (F := Ideal) X X0 Yc Ya Gh Ga M Wh Wa Wo G W B (ix2 b s)
    = Finset.univ.sup fun k : Fin 4 => (entryOf X X0 Yc Ya Gh Ga M Wh Wa Wo G W B b).logit s
        (chosen ((entryOf X X0 Yc Ya Gh Ga M Wh Wa Wo G W B b).logit s) k) := by
  have hb : FloatOps.ofBits (F := Ideal) .f32 0xFF800000#32 = ⊥ := by simp [FloatOps.ofBits, Ideal.ofBits, Ideal.ieee]
  have hr : val_main_v54 (F := Ideal) X X0 Yc Ya Gh Ga M Wh Wa Wo G W B (ix2 b s)
      = Finset.univ.sup fun k : Fin 4 => val_main_values (F := Ideal) X X0 Yc Ya Gh Ga M Wh Wa Wo G W B (ix3 b s k) := by
    unfold val_main_v54
    have h : S8x8192x4.Reduces [2] S8x8192 := by decide
    rw [Host.reduce_eq_fold_single _ _ _ _ h]
    refine (congrArg (Finset.fold max · _ _) hb).trans ?_
    refine (congrArg (Finset.fold max ⊥ · _) (funext fun k => ?_)).trans rfl
    exact congrArg (val_main_values (F := Ideal) X X0 Yc Ya Gh Ga M Wh Wa Wo G W B) (funext fun z => match z with
      | ⟨0, _⟩ => rfl
      | ⟨1, _⟩ => rfl
      | ⟨2, _⟩ => rfl)
  rw [val_main_v56_apply, hr]
  simp only [values_apply X X0 Yc Ya Gh Ga M Wh Wa Wo G W B]
  exact max_eq_right ((le_of_eq hb).trans bot_le)

theorem chance_apply (i : Fin 4) : val_main_v64 (F := Ideal) X X0 Yc Ya Gh Ga M Wh Wa Wo G W B (ix3 b s i)
    = chance ((entryOf X X0 Yc Ya Gh Ga M Wh Wa Wo G W B b).logit s) i := by
  pointwise [val_main_v57, val_main_v58, val_main_v59, val_main_v60, val_main_v61, val_main_v62, val_main_v63, val_main_v64, val_main_cst_9]
  simp only [values_apply X X0 Yc Ya Gh Ga M Wh Wa Wo G W B, most_apply X X0 Yc Ya Gh Ga M Wh Wa Wo G W B]
  rfl

/-- A comparison of two words, as a number. -/
theorem equal_apply (x y : BitVec 32) : FloatOps.uitofp (F := Ideal) .f32 (IntOp.cmpi .eq x y) = if x = y then (1 : EReal) else 0 := by
  by_cases h : x = y
  · rw [if_pos h]
    simp [IntOp.cmpi, FloatOps.uitofp, h]
  · rw [if_neg h]
    simp [IntOp.cmpi, FloatOps.uitofp, h]

/-- The gates of the 32 experts. -/
theorem gate_apply (e : Fin 32) : val_main_v69 (F := Ideal) X X0 Yc Ya Gh Ga M Wh Wa Wo G W B (ix3 b s e)
    = (entryOf X X0 Yc Ya Gh Ga M Wh Wa Wo G W B b).gate s (e.castLE (by decide)) := by
  pointwise [val_main_call0_v0, val_main_call0_v1, val_main_call0_v2, val_main_call0_v3, val_main_call0_v4, val_main_v65, val_main_v66,
    val_main_v67, val_main_v68, val_main_v69, val_main_cst_10]
  simp only [chance_apply X X0 Yc Ya Gh Ga M Wh Wa Wo G W B, indices_apply X X0 Yc Ya Gh Ga M Wh Wa Wo G W B]
  refine Finset.sum_congr rfl fun i _ => ?_
  have hc := (chosen ((entryOf X X0 Yc Ya Gh Ga M Wh Wa Wo G W B b).logit s) i).isLt
  by_cases h : e.val = (chosen ((entryOf X X0 Yc Ya Gh Ga M Wh Wa Wo G W B b).logit s) i).val
  · rw [if_pos (show (e.castLE (by decide : 32 ≤ 128)).val = _ from h), equal_apply, ← h, if_pos rfl]
    exact one_mul _
  · rw [if_neg (show ¬ (e.castLE (by decide : 32 ≤ 128)).val = _ from h), equal_apply, if_neg fun hb => ?_]
    · exact zero_mul _
    · have := congrArg BitVec.toNat hb
      rw [BitVec.toNat_ofNat, BitVec.toNat_ofNat] at this
      omega

/-- The gates, zero past the experts. -/
theorem gates_apply (l : Fin 128) : val_main_v71 (F := Ideal) X X0 Yc Ya Gh Ga M Wh Wa Wo G W B (ix3 b s l)
    = (entryOf X X0 Yc Ya Gh Ga M Wh Wa Wo G W B b).gate s l := by
  pointwise [val_main_v71, val_main_c, val_main_call1_v0]
  split_ifs with h
  · exact gate_apply X X0 Yc Ya Gh Ga M Wh Wa Wo G W B b s _
  · refine Eq.trans (b := (0 : EReal)) (by show (((0#32 : BitVec 32).toInt : ℝ) : EReal) = 0; simp) ?_
    refine (Finset.sum_eq_zero fun i _ => if_neg fun he => ?_).symm
    have hc := (chosen ((entryOf X X0 Yc Ya Gh Ga M Wh Wa Wo G W B b).logit s) i).isLt
    omega

/-- The three results. -/
theorem after_eq : val_main_v25 (F := Ideal) X X0 Yc Ya Gh Ga M Wh Wa Wo
    = Cert.Kernel5Ideal.Arrays.afterResult (entryOf X X0 Yc Ya Gh Ga M Wh Wa Wo G W B) := by
  refine funext fun (j : S8x8192x1024.Idx) => ?_
  idx_vars j
  exact after_apply X X0 Yc Ya Gh Ga M Wh Wa Wo G W B j0 j1 j2

theorem normed_eq : val_main_v70 (F := Ideal) X X0 Yc Ya Gh Ga M Wh Wa Wo G
    = Cert.Kernel5Ideal.Arrays.normedResult (entryOf X X0 Yc Ya Gh Ga M Wh Wa Wo G W B) := by
  refine funext fun (j : S8x8192x1024.Idx) => ?_
  idx_vars j
  exact normed_apply X X0 Yc Ya Gh Ga M Wh Wa Wo G W B j0 j1 j2

theorem gates_eq : val_main_v71 (F := Ideal) X X0 Yc Ya Gh Ga M Wh Wa Wo G W B
    = Cert.Kernel5Ideal.Arrays.gateResult (entryOf X X0 Yc Ya Gh Ga M Wh Wa Wo G W B) := by
  refine funext fun (j : S8x8192x128.Idx) => ?_
  idx_vars j
  exact gates_apply X X0 Yc Ya Gh Ga M Wh Wa Wo G W B j0 j1 j2

end Cert.Reference5Ideal.Plain

end
-- ==== Proof.RoutingClaims.lean ====
/-
  The routing's claims: the frames, the constant in the lanes past the experts, and, for a finite gain, shift, scale, router
  weight and router bias, the equality with the reference.
-/
module

public import proofs.«01_k».proof.Defs
public import proofs.«01_k».proof.Proof.RoutingReference
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Pre_routing_finite
public import Idealize.ShloMosaic.Lib.Quiescent
public import Idealize.ShloMosaic.Lib.Pointwise

@[expose] public section

noncomputable section

namespace Cert.Proof.RoutingClaims

open Idealize.ShloMosaic Idealize.ShloMosaic.TcCoe Idealize.SL.Sem

theorem frame_p : Cert.quiescent_Kernel5 := fun m ρ _ => Cert.Kernel5.Gen.frame m ρ

theorem frame_pi : Cert.quiescent_Kernel5Ideal := fun m ρ _ => Cert.Kernel5Ideal.Gen.frame m ρ

theorem frame_pi_finite : Cert.quiescent_Kernel5Ideal_pre_routing_finite := fun m ρ _ => Cert.Kernel5Ideal.Gen.frame m ρ

theorem frame_ri : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem frame_ri_finite : Cert.quiescent_Reference5Ideal_pre_routing_finite := fun m ρ _ => frame_ri m ρ trivial

theorem preserves : Cert.preserves_Kernel5_Kernel5Ideal :=
  IdealRules.named_const.statement Cert.Kernel5Ideal.κ "no_expert" .f32 0xF149F2CA#32 ⊥ rfl

/-- The word of the positive infinity. -/
theorem top_word : Ideal.ofBits .f32 0x7F800000#32 = ⊤ := by simp [Ideal.ofBits, Ideal.ieee]

/-- What the precondition says of one number. -/
theorem real_of_lt (x : EReal) (h : BitVec.ofBool (decide (max x (-x) < ⊤)) = 1#1) : Cert.Routing.Real x := by
  have h : max x (-x) < ⊤ := Decidable.byContradiction fun hn => by
    rw [decide_eq_false hn] at h
    exact absurd h (by decide)
  refine ⟨fun hx => ?_, fun hx => ?_⟩ <;> subst hx <;> simp at h

theorem both {x y : BitVec 1} (h : IntOp.andi x y = 1#1) : x = 1#1 ∧ y = 1#1 := by
  revert x y
  decide

/-- The precondition: gain, shift, scale, router's weights and bias are finite. -/
theorem finite (m : (ℓ : Loc Cert.Kernel5Ideal.nD Cert.Kernel5Ideal.τ Cert.Kernel5Ideal.sig) → Buf (Elt Ideal) ℓ)
    (h : Cert.Pre_Kernel5Ideal_routing_finite m) (c : Dev Cert.Kernel5Ideal.nD) (b : Fin 8) :
    (Cert.Kernel5Ideal.Arrays.entry m c b).Finite := by
  have hi : ∀ (k : Fin 1024) (e : Fin 32), _ := fun k e => congrFun (h c) (ix3 b k e)
  pointwise [Cert.Pre_routing_finite.fn, Cert.Pre_routing_finite.fn_part1] at hi
  simp only [top_word, Ideal.absf_def] at hi
  exact {
    gain := fun k => real_of_lt _ (both (both (both (hi k 0)).1).1).1
    shift := fun k => real_of_lt _ (both (both (both (hi k 0)).1).1).2
    scale := fun k => real_of_lt _ (both (both (hi k 0)).1).2
    w := fun k e => real_of_lt _ (both (both (hi k e)).2).1
    b := fun e => real_of_lt _ (both (both (hi 0 e)).2).2 }

open Cert.Reference5Ideal.Read Cert.Reference5Ideal.Plain Cert.Kernel5Ideal.Arrays in
theorem algebraic : Cert.algebraic_Kernel5Ideal_Reference5Ideal_pre_routing_finite := by
  intro m ρ m' ρ' hpre hagree
  refine ⟨_, _, _, Cert.Kernel5Ideal.Arrays.run m ρ (finite m hpre), ?_⟩
  refine (θ_run Cert.Reference5Ideal.defs _ _).mono (fun _ h c => ?_) (Cert.Reference5Ideal.Value.run (F := Ideal) m' ρ')
  obtain ⟨r0, r1, r2, kept⟩ := h c
  obtain ⟨h0, h1, h2, h3, h4, h5, h6, h7, h8, h9, h10, h11, h12⟩ := hagree c
  have he : entryOf (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2))
      (m' ((c.tc : Thread Cert.Reference5Ideal.nD Cert.Reference5Ideal.τ).loc Cert.Reference5Ideal.main_arg3))
      (m' ((c.tc : Thread Cert.Reference5Ideal.nD Cert.Reference5Ideal.τ).loc Cert.Reference5Ideal.main_arg4))
      (m' ((c.tc : Thread Cert.Reference5Ideal.nD Cert.Reference5Ideal.τ).loc Cert.Reference5Ideal.main_arg5))
      (m' ((c.tc : Thread Cert.Reference5Ideal.nD Cert.Reference5Ideal.τ).loc Cert.Reference5Ideal.main_arg6))
      (m' ((c.tc : Thread Cert.Reference5Ideal.nD Cert.Reference5Ideal.τ).loc Cert.Reference5Ideal.main_arg7))
      (m' ((c.tc : Thread Cert.Reference5Ideal.nD Cert.Reference5Ideal.τ).loc Cert.Reference5Ideal.main_arg8))
      (m' ((c.tc : Thread Cert.Reference5Ideal.nD Cert.Reference5Ideal.τ).loc Cert.Reference5Ideal.main_arg9))
      (m' ((c.tc : Thread Cert.Reference5Ideal.nD Cert.Reference5Ideal.τ).loc Cert.Reference5Ideal.main_arg10))
      (m' ((c.tc : Thread Cert.Reference5Ideal.nD Cert.Reference5Ideal.τ).loc Cert.Reference5Ideal.main_arg11))
      (m' ((c.tc : Thread Cert.Reference5Ideal.nD Cert.Reference5Ideal.τ).loc Cert.Reference5Ideal.main_arg12))
      = entry m c := by
    rw [h0, h1, h2, h3, h4, h5, h6, h7, h8, h9, h10, h11, h12]
  exact ⟨(r0.trans (val_main_v25_eq (F := Ideal) _ _ _ _ _ _ _ _ _ _)).trans
      ((after_eq _ _ _ _ _ _ _ _ _ _ _ _ _).trans (congrArg afterResult he)),
    (r1.trans (val_main_v70_eq m' c)).trans ((normed_eq _ _ _ _ _ _ _ _ _ _ _ _ _).trans (congrArg normedResult he)),
    (r2.trans (val_main_v71_eq m' c)).trans ((gates_eq _ _ _ _ _ _ _ _ _ _ _ _ _).trans (congrArg gateResult he)), kept⟩

end Cert.Proof.RoutingClaims

end
-- ==== Proof.lean ====
module

public import proofs.«01_k».proof.Defs
public import proofs.«01_k».proof.Proof.AttentionClaims
public import proofs.«01_k».proof.Proof.MoeClaims
public import proofs.«01_k».proof.Proof.InputClaims
public import proofs.«01_k».proof.Proof.ModulationClaims
public import proofs.«01_k».proof.Proof.RoutingClaims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_bias_finite.Gen.facts, Cert.Pre_routing_finite.Gen.facts,
    AttentionClaims.frame_p, AttentionClaims.frame_pi, AttentionClaims.frame_ri,
    MoeClaims.frame_p, MoeClaims.frame_pi, MoeClaims.frame_pi_finite, MoeClaims.frame_ri, MoeClaims.frame_ri_finite,
    InputClaims.frame_p, InputClaims.frame_pi, InputClaims.frame_ri,
    ModulationClaims.frame_p, ModulationClaims.frame_pi, ModulationClaims.frame_ri,
    RoutingClaims.frame_p, RoutingClaims.frame_pi, RoutingClaims.frame_pi_finite, RoutingClaims.frame_ri, RoutingClaims.frame_ri_finite,
    AttentionClaims.preserves, AttentionClaims.algebraic, MoeClaims.preserves, MoeClaims.algebraic,
    InputClaims.preserves, InputClaims.algebraic, ModulationClaims.preserves, ModulationClaims.algebraic,
    RoutingClaims.preserves, RoutingClaims.algebraic⟩

end Cert.Proof

end
